-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v430) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v23)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S4x4096x9064 : Shape := ⟨3, ![4, 4096, 9064]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S384x128 : Shape := ⟨2, ![384, 128]⟩
abbrev S4x4096x2048 : Shape := ⟨3, ![4, 4096, 2048]⟩
abbrev S4x4096x1024 : Shape := ⟨3, ![4, 4096, 1024]⟩
abbrev S4x4096x512 : Shape := ⟨3, ![4, 4096, 512]⟩
abbrev S4x4096x8704 : Shape := ⟨3, ![4, 4096, 8704]⟩
abbrev S4x4096x256 : Shape := ⟨3, ![4, 4096, 256]⟩
abbrev S4x4096x64 : Shape := ⟨3, ![4, 4096, 64]⟩
abbrev S4x4096x8 : Shape := ⟨3, ![4, 4096, 8]⟩
abbrev S_ : Shape := ⟨0, ![]⟩
abbrev S4x4096x56 : Shape := ⟨3, ![4, 4096, 56]⟩
abbrev S4x4096x32 : Shape := ⟨3, ![4, 4096, 32]⟩
abbrev S4x4096x96 : Shape := ⟨3, ![4, 4096, 96]⟩
abbrev S4x2048 : Shape := ⟨2, ![4, 2048]⟩
abbrev S4x512 : Shape := ⟨2, ![4, 512]⟩
abbrev S1x3072 : Shape := ⟨2, ![1, 3072]⟩
abbrev S1x2048 : Shape := ⟨2, ![1, 2048]⟩
abbrev S1x512 : Shape := ⟨2, ![1, 512]⟩
abbrev S128 : Shape := ⟨1, ![128]⟩
abbrev S1x128 : Shape := ⟨2, ![1, 128]⟩
abbrev S32x64 : Shape := ⟨2, ![32, 64]⟩
abbrev S1x128x2048 : Shape := ⟨3, ![1, 128, 2048]⟩
abbrev S1x128x512 : Shape := ⟨3, ![1, 128, 512]⟩
abbrev S1x128x128 : Shape := ⟨3, ![1, 128, 128]⟩
abbrev S8x2048 : Shape := ⟨2, ![8, 2048]⟩
abbrev S8x512 : Shape := ⟨2, ![8, 512]⟩
abbrev S128x2048 : Shape := ⟨2, ![128, 2048]⟩
abbrev S384x2048 : Shape := ⟨2, ![384, 2048]⟩
abbrev S120x2048 : Shape := ⟨2, ![120, 2048]⟩
abbrev S128x512 : Shape := ⟨2, ![128, 512]⟩
abbrev S384x512 : Shape := ⟨2, ![384, 512]⟩
abbrev S120x512 : Shape := ⟨2, ![120, 512]⟩
abbrev S128x128 : Shape := ⟨2, ![128, 128]⟩
abbrev S128x1 : Shape := ⟨2, ![128, 1]⟩
abbrev S128x256 : Shape := ⟨2, ![128, 256]⟩
abbrev S256x128 : Shape := ⟨2, ![256, 128]⟩
abbrev S256x256 : Shape := ⟨2, ![256, 256]⟩

abbrev nBuf : Space → Nat
  | .hbm => 47
  | .vmem => 28
  | .smem => 0
  | _ => 0

abbrev bufTy : (tb : Table) → Fin (tcTables nBuf tb) → BufTy
  | .hbm, ⟨0, _⟩ => ⟨S4x4096x9064, .f32⟩
  | .hbm, ⟨1, _⟩ => ⟨S4x3072, .f32⟩
  | .hbm, ⟨2, _⟩ => ⟨S3072, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S2048, .f32⟩
  | .hbm, ⟨7, _⟩ => ⟨S384x128, .bf16⟩
  | .hbm, ⟨8, _⟩ => ⟨S4x4096x2048, .f32⟩
  | .hbm, ⟨9, _⟩ => ⟨S4x4096x2048, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S4x4096x512, .f32⟩
  | .hbm, ⟨14, _⟩ => ⟨S4x4096x512, .f32⟩
  | .hbm, ⟨15, _⟩ => ⟨S4x4096x512, .f32⟩
  | .hbm, ⟨16, _⟩ => ⟨S4x4096x8704, .f32⟩
  | .hbm, ⟨17, _⟩ => ⟨S4x4096x8704, .bf16⟩
  | .hbm, ⟨18, _⟩ => ⟨S4x4096x256, .f32⟩
  | .hbm, ⟨19, _⟩ => ⟨S4x4096x64, .f32⟩
  | .hbm, ⟨20, _⟩ => ⟨S4x4096x8, .f32⟩
  | .hbm, ⟨21, _⟩ => ⟨S_, .f32⟩
  | .hbm, ⟨22, _⟩ => ⟨S4x4096x56, .f32⟩
  | .hbm, ⟨23, _⟩ => ⟨S4x4096x32, .f32⟩
  | .hbm, ⟨24, _⟩ => ⟨S_, .f32⟩
  | .hbm, ⟨25, _⟩ => ⟨S4x4096x96, .f32⟩
  | .hbm, ⟨26, _⟩ => ⟨S4x4096x512, .f32⟩
  | .hbm, ⟨27, _⟩ => ⟨S4x2048, .f32⟩
  | .hbm, ⟨28, _⟩ => ⟨S4x512, .f32⟩
  | .hbm, ⟨29, _⟩ => ⟨S4x512, .f32⟩
  | .hbm, ⟨30, _⟩ => ⟨S1x3072, .f32⟩
  | .hbm, ⟨31, _⟩ => ⟨S1x2048, .f32⟩
  | .hbm, ⟨32, _⟩ => ⟨S1x512, .f32⟩
  | .hbm, ⟨33, _⟩ => ⟨S1x512, .f32⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S1x128, .f32⟩
  | .hbm, ⟨38, _⟩ => ⟨S_, .i32⟩
  | .hbm, ⟨39, _⟩ => ⟨S_, .f32⟩
  | .hbm, ⟨40, _⟩ => ⟨S128, .f32⟩
  | .hbm, ⟨41, _⟩ => ⟨S1x128, .f32⟩
  | .hbm, ⟨42, _⟩ => ⟨S32x64, .f32⟩
  | .hbm, ⟨43, _⟩ => ⟨S2048, .f32⟩
  | .hbm, ⟨44, _⟩ => ⟨S1x2048, .f32⟩
  | .hbm, ⟨45, _⟩ => ⟨S1x2048, .f32⟩
  | .hbm, ⟨46, _⟩ => ⟨S4x4096x2048, .bf16⟩
  | .local _ .vmem, ⟨0, _⟩ => ⟨S1x128x2048, .bf16⟩
  | .local _ .vmem, ⟨1, _⟩ => ⟨S1x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x128, .f32⟩
  | .local _ .vmem, ⟨9, _⟩ => ⟨S1x128x128, .f32⟩
  | .local _ .vmem, ⟨10, _⟩ => ⟨S384x128, .bf16⟩
  | .local _ .vmem, ⟨11, _⟩ => ⟨S4x2048, .f32⟩
  | .local _ .vmem, ⟨12, _⟩ => ⟨S4x512, .f32⟩
  | .local _ .vmem, ⟨13, _⟩ => ⟨S4x512, .f32⟩
  | .local _ .vmem, ⟨14, _⟩ => ⟨S1x2048, .f32⟩
  | .local _ .vmem, ⟨15, _⟩ => ⟨S1x512, .f32⟩
  | .local _ .vmem, ⟨16, _⟩ => ⟨S1x512, .f32⟩
  | .local _ .vmem, ⟨17, _⟩ => ⟨S1x128, .f32⟩
  | .local _ .vmem, ⟨18, _⟩ => ⟨S1x128, .f32⟩
  | .local _ .vmem, ⟨19, _⟩ => ⟨S1x2048, .f32⟩
  | .local _ .vmem, ⟨20, _⟩ => ⟨S1x2048, .f32⟩
  | .local _ .vmem, ⟨21, _⟩ => ⟨S1x128x2048, .bf16⟩
  | .local _ .vmem, ⟨22, _⟩ => ⟨S1x128x2048, .bf16⟩
  | .local _ .vmem, ⟨23, _⟩ => ⟨S8x2048, .f32⟩
  | .local _ .vmem, ⟨24, _⟩ => ⟨S8x512, .f32⟩
  | .local _ .vmem, ⟨25, _⟩ => ⟨S8x512, .f32⟩
  | .local _ .vmem, ⟨26, _⟩ => ⟨S128x2048, .f32⟩
  | .local _ .vmem, ⟨27, _⟩ => ⟨S128x2048, .f32⟩
  | _, _ => ⟨S4x4096x9064, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_call1_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c14_i32 : BitVec 32 := 14#32
  let c0_i32 : BitVec 32 := 0#32
  ![arg0.toNat, arg1.toNat, c14_i32.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let c0_i32 : BitVec 32 := 0#32
  ![arg0.toNat, arg1.toNat, c15_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S384x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x128x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S4x4096x9064 : Shape := ⟨3, ![4, 4096, 9064]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S4x4096x1024 : Shape := ⟨3, ![4, 4096, 1024]⟩
abbrev S4x4096x256 : Shape := ⟨3, ![4, 4096, 256]⟩
abbrev S4x4096x512 : Shape := ⟨3, ![4, 4096, 512]⟩
abbrev S4x4096x64 : Shape := ⟨3, ![4, 4096, 64]⟩
abbrev S4x4096x8 : Shape := ⟨3, ![4, 4096, 8]⟩
abbrev S4x4096x2048 : Shape := ⟨3, ![4, 4096, 2048]⟩
abbrev S4x4096x3072 : Shape := ⟨3, ![4, 4096, 3072]⟩
abbrev S4x4096x32 : Shape := ⟨3, ![4, 4096, 32]⟩
abbrev S_ : Shape := ⟨0, ![]⟩
abbrev S4x4099x3072 : Shape := ⟨3, ![4, 4099, 3072]⟩
abbrev S1x3072 : Shape := ⟨2, ![1, 3072]⟩
abbrev S1x1x3072 : Shape := ⟨3, ![1, 1, 3072]⟩
abbrev S4x4096x4x8x64 : Shape := ⟨5, ![4, 4096, 4, 8, 64]⟩
abbrev S4x4096x4x128 : Shape := ⟨4, ![4, 4096, 4, 128]⟩
abbrev S1x1x32 : Shape := ⟨3, ![1, 1, 32]⟩
abbrev S4x4096x4x8 : Shape := ⟨4, ![4, 4096, 4, 8]⟩
abbrev S4x8 : Shape := ⟨2, ![4, 8]⟩
abbrev S4x32x128x4x8x64 : Shape := ⟨6, ![4, 32, 128, 4, 8, 64]⟩
abbrev S4x32x128x4x8 : Shape := ⟨5, ![4, 32, 128, 4, 8]⟩
abbrev S4x32x128x4x128 : Shape := ⟨5, ![4, 32, 128, 4, 128]⟩
abbrev S1x1x1x4x8 : Shape := ⟨5, ![1, 1, 1, 4, 8]⟩
abbrev S4x32x128x4x8x1 : Shape := ⟨6, ![4, 32, 128, 4, 8, 1]⟩
abbrev S4x32x4x8x128 : Shape := ⟨5, ![4, 32, 4, 8, 128]⟩
abbrev S4x32x4x8x128x1 : Shape := ⟨6, ![4, 32, 4, 8, 128, 1]⟩
abbrev S4x32x4x8x1x128 : Shape := ⟨6, ![4, 32, 4, 8, 1, 128]⟩
abbrev S4x32x4x8x128x128 : Shape := ⟨6, ![4, 32, 4, 8, 128, 128]⟩
abbrev S128x128 : Shape := ⟨2, ![128, 128]⟩
abbrev S4x32x4x128x128 : Shape := ⟨5, ![4, 32, 4, 128, 128]⟩
abbrev S4x32x4x1x128x128 : Shape := ⟨6, ![4, 32, 4, 1, 128, 128]⟩
abbrev S4x32x4x8x64x128 : Shape := ⟨6, ![4, 32, 4, 8, 64, 128]⟩
abbrev S4x32x1x4x8 : Shape := ⟨5, ![4, 32, 1, 4, 8]⟩
abbrev S4x32x128x4x1x128 : Shape := ⟨6, ![4, 32, 128, 4, 1, 128]⟩
abbrev S4x32x128x4x8x128 : Shape := ⟨6, ![4, 32, 128, 4, 8, 128]⟩
abbrev S4x32x4x8 : Shape := ⟨4, ![4, 32, 4, 8]⟩
abbrev S4x4x8x64x128 : Shape := ⟨5, ![4, 4, 8, 64, 128]⟩
abbrev S32x4x4x8x64x128 : Shape := ⟨6, ![32, 4, 4, 8, 64, 128]⟩
abbrev S32x4x4x8 : Shape := ⟨4, ![32, 4, 4, 8]⟩
abbrev S0x4x4x8x64x128 : Shape := ⟨6, ![0, 4, 4, 8, 64, 128]⟩
abbrev S0x4x4x8 : Shape := ⟨4, ![0, 4, 4, 8]⟩
abbrev S1x4x4x8x64x128 : Shape := ⟨6, ![1, 4, 4, 8, 64, 128]⟩
abbrev S1x4x4x8 : Shape := ⟨4, ![1, 4, 4, 8]⟩
abbrev S4x4x8 : Shape := ⟨3, ![4, 4, 8]⟩
abbrev S4x4x8x1x1 : Shape := ⟨5, ![4, 4, 8, 1, 1]⟩
abbrev S16x4x4x8x64x128 : Shape := ⟨6, ![16, 4, 4, 8, 64, 128]⟩
abbrev S4x8x1 : Shape := ⟨3, ![4, 8, 1]⟩
abbrev S1x1x4x8x1 : Shape := ⟨5, ![1, 1, 4, 8, 1]⟩
abbrev S4x4096x4x512 : Shape := ⟨4, ![4, 4096, 4, 512]⟩
abbrev S4x4096x4 : Shape := ⟨3, ![4, 4096, 4]⟩
abbrev S4x4096x4x1 : Shape := ⟨4, ![4, 4096, 4, 1]⟩
abbrev S1x1x2048 : Shape := ⟨3, ![1, 1, 2048]⟩

abbrev nBuf : Space → Nat
  | .hbm => 489
  | .vmem => 0
  | .smem => 0
  | _ => 0

abbrev hbmTy0_0 (i : Nat) : BufTy := match i % 128 with
  | 0 => ⟨S4x4096x9064, .f32⟩
  | 1 => ⟨S4x3072, .f32⟩
  | 2 => ⟨S3072, .f32⟩
  | 3 => ⟨S32, .f32⟩
  | 4 => ⟨S32, .f32⟩
  | 5 => ⟨S32, .f32⟩
  | 6 => ⟨S2048, .f32⟩
  | 7 => ⟨S4x4096x1024, .f32⟩
  | 8 => ⟨S4x4096x256, .f32⟩
  | 9 => ⟨S4x4096x512, .f32⟩
  | 10 => ⟨S4x4096x64, .f32⟩
  | 11 => ⟨S4x4096x8, .f32⟩
  | 12 => ⟨S4x4096x2048, .f32⟩
  | 13 => ⟨S4x4096x3072, .f32⟩
  | 14 => ⟨S4x4096x32, .f32⟩
  | 15 => ⟨S4x4096x1024, .f32⟩
  | 16 => ⟨S4x4096x1024, .f32⟩
  | 17 => ⟨S_, .i32⟩
  | 18 => ⟨S_, .f32⟩
  | 19 => ⟨S4x4099x3072, .f32⟩
  | 20 => ⟨S1x3072, .f32⟩
  | 21 => ⟨S3072, .f32⟩
  | 22 => ⟨S4x4096x3072, .f32⟩
  | 23 => ⟨S1x1x3072, .f32⟩
  | 24 => ⟨S4x4096x3072, .f32⟩
  | 25 => ⟨S4x4096x3072, .f32⟩
  | 26 => ⟨S1x3072, .f32⟩
  | 27 => ⟨S3072, .f32⟩
  | 28 => ⟨S4x4096x3072, .f32⟩
  | 29 => ⟨S1x1x3072, .f32⟩
  | 30 => ⟨S4x4096x3072, .f32⟩
  | 31 => ⟨S4x4096x3072, .f32⟩
  | 32 => ⟨S4x4096x3072, .f32⟩
  | 33 => ⟨S1x3072, .f32⟩
  | 34 => ⟨S3072, .f32⟩
  | 35 => ⟨S4x4096x3072, .f32⟩
  | 36 => ⟨S1x1x3072, .f32⟩
  | 37 => ⟨S4x4096x3072, .f32⟩
  | 38 => ⟨S4x4096x3072, .f32⟩
  | 39 => ⟨S4x4096x3072, .f32⟩
  | 40 => ⟨S1x3072, .f32⟩
  | 41 => ⟨S3072, .f32⟩
  | 42 => ⟨S4x4096x3072, .f32⟩
  | 43 => ⟨S1x1x3072, .f32⟩
  | 44 => ⟨S4x4096x3072, .f32⟩
  | 45 => ⟨S4x4096x3072, .f32⟩
  | 46 => ⟨S4x4096x3072, .f32⟩
  | 47 => ⟨S1x1x3072, .f32⟩
  | 48 => ⟨S4x4096x3072, .f32⟩
  | 49 => ⟨S4x4096x3072, .f32⟩
  | 50 => ⟨S4x4096x3072, .f32⟩
  | 51 => ⟨S4x4096x3072, .f32⟩
  | 52 => ⟨S_, .f32⟩
  | 53 => ⟨S4x4096x3072, .f32⟩
  | 54 => ⟨S4x4096x3072, .f32⟩
  | 55 => ⟨S_, .f32⟩
  | 56 => ⟨S4x4096x3072, .f32⟩
  | 57 => ⟨S4x4096x3072, .f32⟩
  | 58 => ⟨S4x4096x3072, .f32⟩
  | 59 => ⟨S4x4096x2048, .f32⟩
  | 60 => ⟨S4x4096x512, .f32⟩
  | 61 => ⟨S4x4096x512, .f32⟩
  | 62 => ⟨S4x4096x4x8x64, .f32⟩
  | 63 => ⟨S4x4096x4x128, .f32⟩
  | 64 => ⟨S4x4096x4x128, .f32⟩
  | 65 => ⟨S1x1x32, .f32⟩
  | 66 => ⟨S4x4096x32, .f32⟩
  | 67 => ⟨S4x4096x32, .f32⟩
  | 68 => ⟨S_, .f32⟩
  | 69 => ⟨S4x4096x32, .f32⟩
  | 70 => ⟨S4x4096x32, .f32⟩
  | 71 => ⟨S4x4096x32, .f32⟩
  | 72 => ⟨S4x4096x32, .f32⟩
  | 73 => ⟨S4x4096x32, .i1⟩
  | 74 => ⟨S4x4096x32, .f32⟩
  | 75 => ⟨S4x4096x32, .f32⟩
  | 76 => ⟨S4x4096x32, .f32⟩
  | 77 => ⟨S4x4096x32, .f32⟩
  | 78 => ⟨S4x4096x32, .f32⟩
  | 79 => ⟨S4x4096x32, .f32⟩
  | 80 => ⟨S4x4096x32, .f32⟩
  | 81 => ⟨S4x4096x32, .f32⟩
  | 82 => ⟨S4x4096x4x8, .f32⟩
  | 83 => ⟨S32, .f32⟩
  | 84 => ⟨S4x8, .f32⟩
  | 85 => ⟨S4x8, .f32⟩
  | 86 => ⟨S4x32x128x4x8x64, .f32⟩
  | 87 => ⟨S4x32x128x4x8, .f32⟩
  | 88 => ⟨S4x32x128x4x128, .f32⟩
  | 89 => ⟨S4x32x128x4x128, .f32⟩
  | 90 => ⟨S1x1x1x4x8, .f32⟩
  | 91 => ⟨S4x32x128x4x8, .f32⟩
  | 92 => ⟨S4x32x128x4x8, .f32⟩
  | 93 => ⟨S_, .f32⟩
  | 94 => ⟨S_, .f32⟩
  | 95 => ⟨S4x32x128x4x8, .f32⟩
  | 96 => ⟨S4x32x128x4x8x1, .f32⟩
  | 97 => ⟨S4x32x128x4x8x64, .f32⟩
  | 98 => ⟨S4x32x128x4x8x64, .f32⟩
  | 99 => ⟨S4x32x4x8x128, .f32⟩
  | 100 => ⟨S4x32x4x8x128x1, .f32⟩
  | 101 => ⟨S4x32x4x8x1x128, .f32⟩
  | 102 => ⟨S4x32x4x8x128x128, .f32⟩
  | 103 => ⟨S4x32x4x8x128x128, .f32⟩
  | 104 => ⟨S4x32x4x8x128x128, .f32⟩
  | 105 => ⟨S_, .i1⟩
  | 106 => ⟨S128x128, .i1⟩
  | 107 => ⟨S128x128, .i32⟩
  | 108 => ⟨S_, .i32⟩
  | 109 => ⟨S128x128, .i32⟩
  | 110 => ⟨S128x128, .i32⟩
  | 111 => ⟨S128x128, .i32⟩
  | 112 => ⟨S128x128, .i1⟩
  | 113 => ⟨S_, .i1⟩
  | 114 => ⟨S128x128, .i1⟩
  | 115 => ⟨S128x128, .i1⟩
  | 116 => ⟨S_, .f32⟩
  | 117 => ⟨S_, .f32⟩
  | 118 => ⟨S4x32x4x8x128x128, .i1⟩
  | 119 => ⟨S4x32x4x8x128x128, .f32⟩
  | 120 => ⟨S4x32x4x8x128x128, .f32⟩
  | 121 => ⟨S4x32x4x8x128x128, .f32⟩
  | 122 => ⟨S4x32x4x128x128, .f32⟩
  | 123 => ⟨S4x32x4x1x128x128, .f32⟩
  | 124 => ⟨S4x32x4x8x128x128, .f32⟩
  | 125 => ⟨S4x32x4x8x128x128, .f32⟩
  | 126 => ⟨S4x32x4x8x64x128, .f32⟩
  | 127 => ⟨S4x32x128x4x8x64, .f32⟩
  | _ => ⟨S4x4096x9064, .f32⟩

abbrev hbmTy0_1 (i : Nat) : BufTy := match i % 128 with
  | 0 => ⟨S4x32x1x4x8, .f32⟩
  | 1 => ⟨S4x32x128x4x8, .f32⟩
  | 2 => ⟨S4x32x128x4x8, .f32⟩
  | 3 => ⟨S4x32x128x4x8, .f32⟩
  | 4 => ⟨S4x32x128x4x1x128, .f32⟩
  | 5 => ⟨S4x32x128x4x8x1, .f32⟩
  | 6 => ⟨S4x32x128x4x8x128, .f32⟩
  | 7 => ⟨S4x32x128x4x8x128, .f32⟩
  | 8 => ⟨S4x32x128x4x8x128, .f32⟩
  | 9 => ⟨S4x32x4x8x64x128, .f32⟩
  | 10 => ⟨S4x32x1x4x8, .f32⟩
  | 11 => ⟨S4x32x4x8, .f32⟩
  | 12 => ⟨S4x32x4x8, .f32⟩
  | 13 => ⟨S_, .f32⟩
  | 14 => ⟨S4x4x8x64x128, .f32⟩
  | 15 => ⟨S32x4x4x8x64x128, .f32⟩
  | 16 => ⟨S32x4x4x8, .f32⟩
  | 17 => ⟨S0x4x4x8x64x128, .f32⟩
  | 18 => ⟨S32x4x4x8x64x128, .f32⟩
  | 19 => ⟨S0x4x4x8, .f32⟩
  | 20 => ⟨S32x4x4x8, .f32⟩
  | 21 => ⟨S_, .f32⟩
  | 22 => ⟨S0x4x4x8x64x128, .f32⟩
  | 23 => ⟨S1x4x4x8x64x128, .f32⟩
  | 24 => ⟨S4x4x8x64x128, .f32⟩
  | 25 => ⟨S1x4x4x8, .f32⟩
  | 26 => ⟨S4x4x8, .f32⟩
  | 27 => ⟨S4x4x8x1x1, .f32⟩
  | 28 => ⟨S4x4x8x64x128, .f32⟩
  | 29 => ⟨S4x4x8x64x128, .f32⟩
  | 30 => ⟨S4x4x8x64x128, .f32⟩
  | 31 => ⟨S1x4x4x8x64x128, .f32⟩
  | 32 => ⟨S4x4x8x64x128, .f32⟩
  | 33 => ⟨S1x4x4x8, .f32⟩
  | 34 => ⟨S4x4x8, .f32⟩
  | 35 => ⟨S4x4x8x1x1, .f32⟩
  | 36 => ⟨S4x4x8x64x128, .f32⟩
  | 37 => ⟨S4x4x8x64x128, .f32⟩
  | 38 => ⟨S4x4x8x64x128, .f32⟩
  | 39 => ⟨S1x4x4x8x64x128, .f32⟩
  | 40 => ⟨S4x4x8x64x128, .f32⟩
  | 41 => ⟨S1x4x4x8, .f32⟩
  | 42 => ⟨S4x4x8, .f32⟩
  | 43 => ⟨S4x4x8x1x1, .f32⟩
  | 44 => ⟨S4x4x8x64x128, .f32⟩
  | 45 => ⟨S4x4x8x64x128, .f32⟩
  | 46 => ⟨S4x4x8x64x128, .f32⟩
  | 47 => ⟨S1x4x4x8x64x128, .f32⟩
  | 48 => ⟨S4x4x8x64x128, .f32⟩
  | 49 => ⟨S1x4x4x8, .f32⟩
  | 50 => ⟨S4x4x8, .f32⟩
  | 51 => ⟨S4x4x8x1x1, .f32⟩
  | 52 => ⟨S4x4x8x64x128, .f32⟩
  | 53 => ⟨S4x4x8x64x128, .f32⟩
  | 54 => ⟨S4x4x8x64x128, .f32⟩
  | 55 => ⟨S1x4x4x8x64x128, .f32⟩
  | 56 => ⟨S4x4x8x64x128, .f32⟩
  | 57 => ⟨S1x4x4x8, .f32⟩
  | 58 => ⟨S4x4x8, .f32⟩
  | 59 => ⟨S4x4x8x1x1, .f32⟩
  | 60 => ⟨S4x4x8x64x128, .f32⟩
  | 61 => ⟨S4x4x8x64x128, .f32⟩
  | 62 => ⟨S4x4x8x64x128, .f32⟩
  | 63 => ⟨S1x4x4x8x64x128, .f32⟩
  | 64 => ⟨S4x4x8x64x128, .f32⟩
  | 65 => ⟨S1x4x4x8, .f32⟩
  | 66 => ⟨S4x4x8, .f32⟩
  | 67 => ⟨S4x4x8x1x1, .f32⟩
  | 68 => ⟨S4x4x8x64x128, .f32⟩
  | 69 => ⟨S4x4x8x64x128, .f32⟩
  | 70 => ⟨S4x4x8x64x128, .f32⟩
  | 71 => ⟨S1x4x4x8x64x128, .f32⟩
  | 72 => ⟨S4x4x8x64x128, .f32⟩
  | 73 => ⟨S1x4x4x8, .f32⟩
  | 74 => ⟨S4x4x8, .f32⟩
  | 75 => ⟨S4x4x8x1x1, .f32⟩
  | 76 => ⟨S4x4x8x64x128, .f32⟩
  | 77 => ⟨S4x4x8x64x128, .f32⟩
  | 78 => ⟨S4x4x8x64x128, .f32⟩
  | 79 => ⟨S1x4x4x8x64x128, .f32⟩
  | 80 => ⟨S4x4x8x64x128, .f32⟩
  | 81 => ⟨S1x4x4x8, .f32⟩
  | 82 => ⟨S4x4x8, .f32⟩
  | 83 => ⟨S4x4x8x1x1, .f32⟩
  | 84 => ⟨S4x4x8x64x128, .f32⟩
  | 85 => ⟨S4x4x8x64x128, .f32⟩
  | 86 => ⟨S4x4x8x64x128, .f32⟩
  | 87 => ⟨S1x4x4x8x64x128, .f32⟩
  | 88 => ⟨S4x4x8x64x128, .f32⟩
  | 89 => ⟨S1x4x4x8, .f32⟩
  | 90 => ⟨S4x4x8, .f32⟩
  | 91 => ⟨S4x4x8x1x1, .f32⟩
  | 92 => ⟨S4x4x8x64x128, .f32⟩
  | 93 => ⟨S4x4x8x64x128, .f32⟩
  | 94 => ⟨S4x4x8x64x128, .f32⟩
  | 95 => ⟨S1x4x4x8x64x128, .f32⟩
  | 96 => ⟨S4x4x8x64x128, .f32⟩
  | 97 => ⟨S1x4x4x8, .f32⟩
  | 98 => ⟨S4x4x8, .f32⟩
  | 99 => ⟨S4x4x8x1x1, .f32⟩
  | 100 => ⟨S4x4x8x64x128, .f32⟩
  | 101 => ⟨S4x4x8x64x128, .f32⟩
  | 102 => ⟨S4x4x8x64x128, .f32⟩
  | 103 => ⟨S1x4x4x8x64x128, .f32⟩
  | 104 => ⟨S4x4x8x64x128, .f32⟩
  | 105 => ⟨S1x4x4x8, .f32⟩
  | 106 => ⟨S4x4x8, .f32⟩
  | 107 => ⟨S4x4x8x1x1, .f32⟩
  | 108 => ⟨S4x4x8x64x128, .f32⟩
  | 109 => ⟨S4x4x8x64x128, .f32⟩
  | 110 => ⟨S4x4x8x64x128, .f32⟩
  | 111 => ⟨S1x4x4x8x64x128, .f32⟩
  | 112 => ⟨S4x4x8x64x128, .f32⟩
  | 113 => ⟨S1x4x4x8, .f32⟩
  | 114 => ⟨S4x4x8, .f32⟩
  | 115 => ⟨S4x4x8x1x1, .f32⟩
  | 116 => ⟨S4x4x8x64x128, .f32⟩
  | 117 => ⟨S4x4x8x64x128, .f32⟩
  | 118 => ⟨S4x4x8x64x128, .f32⟩
  | 119 => ⟨S1x4x4x8x64x128, .f32⟩
  | 120 => ⟨S4x4x8x64x128, .f32⟩
  | 121 => ⟨S1x4x4x8, .f32⟩
  | 122 => ⟨S4x4x8, .f32⟩
  | 123 => ⟨S4x4x8x1x1, .f32⟩
  | 124 => ⟨S4x4x8x64x128, .f32⟩
  | 125 => ⟨S4x4x8x64x128, .f32⟩
  | 126 => ⟨S4x4x8x64x128, .f32⟩
  | 127 => ⟨S1x4x4x8x64x128, .f32⟩
  | _ => ⟨S4x4096x9064, .f32⟩

abbrev hbmTy0_2 (i : Nat) : BufTy := match i % 128 with
  | 0 => ⟨S4x4x8x64x128, .f32⟩
  | 1 => ⟨S1x4x4x8, .f32⟩
  | 2 => ⟨S4x4x8, .f32⟩
  | 3 => ⟨S4x4x8x1x1, .f32⟩
  | 4 => ⟨S4x4x8x64x128, .f32⟩
  | 5 => ⟨S4x4x8x64x128, .f32⟩
  | 6 => ⟨S4x4x8x64x128, .f32⟩
  | 7 => ⟨S1x4x4x8x64x128, .f32⟩
  | 8 => ⟨S4x4x8x64x128, .f32⟩
  | 9 => ⟨S1x4x4x8, .f32⟩
  | 10 => ⟨S4x4x8, .f32⟩
  | 11 => ⟨S4x4x8x1x1, .f32⟩
  | 12 => ⟨S4x4x8x64x128, .f32⟩
  | 13 => ⟨S4x4x8x64x128, .f32⟩
  | 14 => ⟨S4x4x8x64x128, .f32⟩
  | 15 => ⟨S1x4x4x8x64x128, .f32⟩
  | 16 => ⟨S4x4x8x64x128, .f32⟩
  | 17 => ⟨S1x4x4x8, .f32⟩
  | 18 => ⟨S4x4x8, .f32⟩
  | 19 => ⟨S4x4x8x1x1, .f32⟩
  | 20 => ⟨S4x4x8x64x128, .f32⟩
  | 21 => ⟨S4x4x8x64x128, .f32⟩
  | 22 => ⟨S4x4x8x64x128, .f32⟩
  | 23 => ⟨S1x4x4x8x64x128, .f32⟩
  | 24 => ⟨S4x4x8x64x128, .f32⟩
  | 25 => ⟨S1x4x4x8, .f32⟩
  | 26 => ⟨S4x4x8, .f32⟩
  | 27 => ⟨S4x4x8x1x1, .f32⟩
  | 28 => ⟨S4x4x8x64x128, .f32⟩
  | 29 => ⟨S4x4x8x64x128, .f32⟩
  | 30 => ⟨S4x4x8x64x128, .f32⟩
  | 31 => ⟨S1x4x4x8x64x128, .f32⟩
  | 32 => ⟨S4x4x8x64x128, .f32⟩
  | 33 => ⟨S1x4x4x8, .f32⟩
  | 34 => ⟨S4x4x8, .f32⟩
  | 35 => ⟨S4x4x8x1x1, .f32⟩
  | 36 => ⟨S4x4x8x64x128, .f32⟩
  | 37 => ⟨S4x4x8x64x128, .f32⟩
  | 38 => ⟨S4x4x8x64x128, .f32⟩
  | 39 => ⟨S1x4x4x8x64x128, .f32⟩
  | 40 => ⟨S4x4x8x64x128, .f32⟩
  | 41 => ⟨S1x4x4x8, .f32⟩
  | 42 => ⟨S4x4x8, .f32⟩
  | 43 => ⟨S4x4x8x1x1, .f32⟩
  | 44 => ⟨S4x4x8x64x128, .f32⟩
  | 45 => ⟨S4x4x8x64x128, .f32⟩
  | 46 => ⟨S4x4x8x64x128, .f32⟩
  | 47 => ⟨S1x4x4x8x64x128, .f32⟩
  | 48 => ⟨S4x4x8x64x128, .f32⟩
  | 49 => ⟨S1x4x4x8, .f32⟩
  | 50 => ⟨S4x4x8, .f32⟩
  | 51 => ⟨S4x4x8x1x1, .f32⟩
  | 52 => ⟨S4x4x8x64x128, .f32⟩
  | 53 => ⟨S4x4x8x64x128, .f32⟩
  | 54 => ⟨S4x4x8x64x128, .f32⟩
  | 55 => ⟨S1x4x4x8x64x128, .f32⟩
  | 56 => ⟨S4x4x8x64x128, .f32⟩
  | 57 => ⟨S1x4x4x8, .f32⟩
  | 58 => ⟨S4x4x8, .f32⟩
  | 59 => ⟨S4x4x8x1x1, .f32⟩
  | 60 => ⟨S4x4x8x64x128, .f32⟩
  | 61 => ⟨S4x4x8x64x128, .f32⟩
  | 62 => ⟨S4x4x8x64x128, .f32⟩
  | 63 => ⟨S1x4x4x8x64x128, .f32⟩
  | 64 => ⟨S4x4x8x64x128, .f32⟩
  | 65 => ⟨S1x4x4x8, .f32⟩
  | 66 => ⟨S4x4x8, .f32⟩
  | 67 => ⟨S4x4x8x1x1, .f32⟩
  | 68 => ⟨S4x4x8x64x128, .f32⟩
  | 69 => ⟨S4x4x8x64x128, .f32⟩
  | 70 => ⟨S4x4x8x64x128, .f32⟩
  | 71 => ⟨S1x4x4x8x64x128, .f32⟩
  | 72 => ⟨S4x4x8x64x128, .f32⟩
  | 73 => ⟨S1x4x4x8, .f32⟩
  | 74 => ⟨S4x4x8, .f32⟩
  | 75 => ⟨S4x4x8x1x1, .f32⟩
  | 76 => ⟨S4x4x8x64x128, .f32⟩
  | 77 => ⟨S4x4x8x64x128, .f32⟩
  | 78 => ⟨S4x4x8x64x128, .f32⟩
  | 79 => ⟨S1x4x4x8x64x128, .f32⟩
  | 80 => ⟨S4x4x8x64x128, .f32⟩
  | 81 => ⟨S1x4x4x8, .f32⟩
  | 82 => ⟨S4x4x8, .f32⟩
  | 83 => ⟨S4x4x8x1x1, .f32⟩
  | 84 => ⟨S4x4x8x64x128, .f32⟩
  | 85 => ⟨S4x4x8x64x128, .f32⟩
  | 86 => ⟨S4x4x8x64x128, .f32⟩
  | 87 => ⟨S1x4x4x8x64x128, .f32⟩
  | 88 => ⟨S4x4x8x64x128, .f32⟩
  | 89 => ⟨S1x4x4x8, .f32⟩
  | 90 => ⟨S4x4x8, .f32⟩
  | 91 => ⟨S4x4x8x1x1, .f32⟩
  | 92 => ⟨S4x4x8x64x128, .f32⟩
  | 93 => ⟨S4x4x8x64x128, .f32⟩
  | 94 => ⟨S4x4x8x64x128, .f32⟩
  | 95 => ⟨S1x4x4x8x64x128, .f32⟩
  | 96 => ⟨S4x4x8x64x128, .f32⟩
  | 97 => ⟨S1x4x4x8, .f32⟩
  | 98 => ⟨S4x4x8, .f32⟩
  | 99 => ⟨S4x4x8x1x1, .f32⟩
  | 100 => ⟨S4x4x8x64x128, .f32⟩
  | 101 => ⟨S4x4x8x64x128, .f32⟩
  | 102 => ⟨S4x4x8x64x128, .f32⟩
  | 103 => ⟨S1x4x4x8x64x128, .f32⟩
  | 104 => ⟨S4x4x8x64x128, .f32⟩
  | 105 => ⟨S1x4x4x8, .f32⟩
  | 106 => ⟨S4x4x8, .f32⟩
  | 107 => ⟨S4x4x8x1x1, .f32⟩
  | 108 => ⟨S4x4x8x64x128, .f32⟩
  | 109 => ⟨S4x4x8x64x128, .f32⟩
  | 110 => ⟨S4x4x8x64x128, .f32⟩
  | 111 => ⟨S1x4x4x8x64x128, .f32⟩
  | 112 => ⟨S4x4x8x64x128, .f32⟩
  | 113 => ⟨S1x4x4x8, .f32⟩
  | 114 => ⟨S4x4x8, .f32⟩
  | 115 => ⟨S4x4x8x1x1, .f32⟩
  | 116 => ⟨S4x4x8x64x128, .f32⟩
  | 117 => ⟨S4x4x8x64x128, .f32⟩
  | 118 => ⟨S4x4x8x64x128, .f32⟩
  | 119 => ⟨S1x4x4x8x64x128, .f32⟩
  | 120 => ⟨S4x4x8x64x128, .f32⟩
  | 121 => ⟨S1x4x4x8, .f32⟩
  | 122 => ⟨S4x4x8, .f32⟩
  | 123 => ⟨S4x4x8x1x1, .f32⟩
  | 124 => ⟨S4x4x8x64x128, .f32⟩
  | 125 => ⟨S4x4x8x64x128, .f32⟩
  | 126 => ⟨S4x4x8x64x128, .f32⟩
  | 127 => ⟨S1x4x4x8x64x128, .f32⟩
  | _ => ⟨S4x4096x9064, .f32⟩

abbrev hbmTy0_3 (i : Nat) : BufTy := match i % 128 with
  | 0 => ⟨S4x4x8x64x128, .f32⟩
  | 1 => ⟨S1x4x4x8, .f32⟩
  | 2 => ⟨S4x4x8, .f32⟩
  | 3 => ⟨S4x4x8x1x1, .f32⟩
  | 4 => ⟨S4x4x8x64x128, .f32⟩
  | 5 => ⟨S4x4x8x64x128, .f32⟩
  | 6 => ⟨S4x4x8x64x128, .f32⟩
  | 7 => ⟨S1x4x4x8x64x128, .f32⟩
  | 8 => ⟨S4x4x8x64x128, .f32⟩
  | 9 => ⟨S1x4x4x8, .f32⟩
  | 10 => ⟨S4x4x8, .f32⟩
  | 11 => ⟨S4x4x8x1x1, .f32⟩
  | 12 => ⟨S4x4x8x64x128, .f32⟩
  | 13 => ⟨S4x4x8x64x128, .f32⟩
  | 14 => ⟨S4x4x8x64x128, .f32⟩
  | 15 => ⟨S1x4x4x8x64x128, .f32⟩
  | 16 => ⟨S4x4x8x64x128, .f32⟩
  | 17 => ⟨S1x4x4x8, .f32⟩
  | 18 => ⟨S4x4x8, .f32⟩
  | 19 => ⟨S4x4x8x1x1, .f32⟩
  | 20 => ⟨S4x4x8x64x128, .f32⟩
  | 21 => ⟨S4x4x8x64x128, .f32⟩
  | 22 => ⟨S4x4x8x64x128, .f32⟩
  | 23 => ⟨S1x4x4x8x64x128, .f32⟩
  | 24 => ⟨S1x4x4x8x64x128, .f32⟩
  | 25 => ⟨S1x4x4x8x64x128, .f32⟩
  | 26 => ⟨S1x4x4x8x64x128, .f32⟩
  | 27 => ⟨S1x4x4x8x64x128, .f32⟩
  | 28 => ⟨S1x4x4x8x64x128, .f32⟩
  | 29 => ⟨S1x4x4x8x64x128, .f32⟩
  | 30 => ⟨S1x4x4x8x64x128, .f32⟩
  | 31 => ⟨S1x4x4x8x64x128, .f32⟩
  | 32 => ⟨S1x4x4x8x64x128, .f32⟩
  | 33 => ⟨S1x4x4x8x64x128, .f32⟩
  | 34 => ⟨S1x4x4x8x64x128, .f32⟩
  | 35 => ⟨S1x4x4x8x64x128, .f32⟩
  | 36 => ⟨S1x4x4x8x64x128, .f32⟩
  | 37 => ⟨S1x4x4x8x64x128, .f32⟩
  | 38 => ⟨S1x4x4x8x64x128, .f32⟩
  | 39 => ⟨S1x4x4x8x64x128, .f32⟩
  | 40 => ⟨S1x4x4x8x64x128, .f32⟩
  | 41 => ⟨S1x4x4x8x64x128, .f32⟩
  | 42 => ⟨S1x4x4x8x64x128, .f32⟩
  | 43 => ⟨S1x4x4x8x64x128, .f32⟩
  | 44 => ⟨S1x4x4x8x64x128, .f32⟩
  | 45 => ⟨S1x4x4x8x64x128, .f32⟩
  | 46 => ⟨S1x4x4x8x64x128, .f32⟩
  | 47 => ⟨S1x4x4x8x64x128, .f32⟩
  | 48 => ⟨S1x4x4x8x64x128, .f32⟩
  | 49 => ⟨S1x4x4x8x64x128, .f32⟩
  | 50 => ⟨S1x4x4x8x64x128, .f32⟩
  | 51 => ⟨S1x4x4x8x64x128, .f32⟩
  | 52 => ⟨S1x4x4x8x64x128, .f32⟩
  | 53 => ⟨S1x4x4x8x64x128, .f32⟩
  | 54 => ⟨S1x4x4x8x64x128, .f32⟩
  | 55 => ⟨S16x4x4x8x64x128, .f32⟩
  | 56 => ⟨S16x4x4x8x64x128, .f32⟩
  | 57 => ⟨S32x4x4x8x64x128, .f32⟩
  | 58 => ⟨S32x4x4x8x64x128, .f32⟩
  | 59 => ⟨S4x32x4x8x64x128, .f32⟩
  | 60 => ⟨S4x32x128x4x1x128, .f32⟩
  | 61 => ⟨S4x32x128x4x8, .f32⟩
  | 62 => ⟨S4x32x128x4x8x1, .f32⟩
  | 63 => ⟨S4x32x128x4x8x128, .f32⟩
  | 64 => ⟨S4x32x128x4x8x128, .f32⟩
  | 65 => ⟨S4x32x128x4x8x128, .f32⟩
  | 66 => ⟨S4x32x4x8x64x128, .f32⟩
  | 67 => ⟨S4x32x128x4x8x64, .f32⟩
  | 68 => ⟨S4x32x128x4x8x64, .f32⟩
  | 69 => ⟨S4x4096x4x8x64, .f32⟩
  | 70 => ⟨S4x8x1, .f32⟩
  | 71 => ⟨S1x1x4x8x1, .f32⟩
  | 72 => ⟨S4x4096x4x8x64, .f32⟩
  | 73 => ⟨S4x4096x4x8x64, .f32⟩
  | 74 => ⟨S4x4096x4x8x64, .f32⟩
  | 75 => ⟨S4x4096x2048, .f32⟩
  | 76 => ⟨S4x4096x2048, .f32⟩
  | 77 => ⟨S4x4096x2048, .f32⟩
  | 78 => ⟨S_, .f32⟩
  | 79 => ⟨S4x4096x2048, .f32⟩
  | 80 => ⟨S4x4096x2048, .f32⟩
  | 81 => ⟨S_, .f32⟩
  | 82 => ⟨S4x4096x2048, .f32⟩
  | 83 => ⟨S4x4096x2048, .f32⟩
  | 84 => ⟨S4x4096x2048, .f32⟩
  | 85 => ⟨S4x4096x2048, .f32⟩
  | 86 => ⟨S4x4096x4x512, .f32⟩
  | 87 => ⟨S4x4096x4x512, .f32⟩
  | 88 => ⟨S_, .f32⟩
  | 89 => ⟨S4x4096x4, .f32⟩
  | 90 => ⟨S4x4096x4x1, .f32⟩
  | 91 => ⟨S_, .f32⟩
  | 92 => ⟨S4x4096x4x1, .f32⟩
  | 93 => ⟨S4x4096x4x1, .f32⟩
  | 94 => ⟨S_, .f32⟩
  | 95 => ⟨S4x4096x4x1, .f32⟩
  | 96 => ⟨S4x4096x4x1, .f32⟩
  | 97 => ⟨S4x4096x4x1, .f32⟩
  | 98 => ⟨S4x4096x4x512, .f32⟩
  | 99 => ⟨S4x4096x4x512, .f32⟩
  | 100 => ⟨S4x4096x2048, .f32⟩
  | 101 => ⟨S1x1x2048, .f32⟩
  | 102 => ⟨S4x4096x2048, .f32⟩
  | 103 => ⟨S4x4096x2048, .f32⟩
  | 104 => ⟨S4x4096x2048, .bf16⟩
  | _ => ⟨S4x4096x9064, .f32⟩

abbrev hbmTy (i : Nat) : BufTy := match i / 128 with
  | 0 => hbmTy0_0 i
  | 1 => hbmTy0_1 i
  | 2 => hbmTy0_2 i
  | 3 => hbmTy0_3 i
  | _ => ⟨S4x4096x9064, .f32⟩

abbrev bufTy : (tb : Table) → Fin (tcTables nBuf tb) → BufTy
  | .hbm, ⟨i, _⟩ => hbmTy i
  | _, _ => ⟨S4x4096x9064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call2_cst : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_call3_call0_cst : Ref sig .tc := ⟨.hbm, 93, rfl⟩
abbrev main_call3_call0_v0 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_0 : Ref sig .tc := ⟨.hbm, 105, rfl⟩
abbrev main_v73 : Ref sig .tc := ⟨.hbm, 106, rfl⟩
abbrev main_call4_v0 : Ref sig .tc := ⟨.hbm, 107, rfl⟩
abbrev main_call4_c : Ref sig .tc := ⟨.hbm, 108, rfl⟩
abbrev main_call4_v1 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_call4_c_0 : Ref sig .tc := ⟨.hbm, 113, rfl⟩
abbrev main_call4_v5 : Ref sig .tc := ⟨.hbm, 114, rfl⟩
abbrev main_v74 : Ref sig .tc := ⟨.hbm, 115, rfl⟩
abbrev main_cst : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_1 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_2 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_v247 : Ref sig .tc := ⟨.hbm, 294, rfl⟩
abbrev main_v248 : Ref sig .tc := ⟨.hbm, 295, rfl⟩
abbrev main_v249 : Ref sig .tc := ⟨.hbm, 296, rfl⟩
abbrev main_v250 : Ref sig .tc := ⟨.hbm, 297, rfl⟩
abbrev main_v251 : Ref sig .tc := ⟨.hbm, 298, rfl⟩
abbrev main_v252 : Ref sig .tc := ⟨.hbm, 299, rfl⟩
abbrev main_v253 : Ref sig .tc := ⟨.hbm, 300, rfl⟩
abbrev main_v254 : Ref sig .tc := ⟨.hbm, 301, rfl⟩
abbrev main_v255 : Ref sig .tc := ⟨.hbm, 302, rfl⟩
abbrev main_v256 : Ref sig .tc := ⟨.hbm, 303, rfl⟩
abbrev main_v257 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_v262 : Ref sig .tc := ⟨.hbm, 309, rfl⟩
abbrev main_v263 : Ref sig .tc := ⟨.hbm, 310, rfl⟩
abbrev main_v264 : Ref sig .tc := ⟨.hbm, 311, rfl⟩
abbrev main_v265 : Ref sig .tc := ⟨.hbm, 312, rfl⟩
abbrev main_v266 : Ref sig .tc := ⟨.hbm, 313, rfl⟩
abbrev main_v267 : Ref sig .tc := ⟨.hbm, 314, rfl⟩
abbrev main_v268 : Ref sig .tc := ⟨.hbm, 315, rfl⟩
abbrev main_v269 : Ref sig .tc := ⟨.hbm, 316, rfl⟩
abbrev main_v270 : Ref sig .tc := ⟨.hbm, 317, rfl⟩
abbrev main_v271 : Ref sig .tc := ⟨.hbm, 318, rfl⟩
abbrev main_v272 : Ref sig .tc := ⟨.hbm, 319, rfl⟩
abbrev main_v273 : Ref sig .tc := ⟨.hbm, 320, rfl⟩
abbrev main_v274 : Ref sig .tc := ⟨.hbm, 321, rfl⟩
abbrev main_v275 : Ref sig .tc := ⟨.hbm, 322, rfl⟩
abbrev main_v276 : Ref sig .tc := ⟨.hbm, 323, rfl⟩
abbrev main_v277 : Ref sig .tc := ⟨.hbm, 324, rfl⟩
abbrev main_v278 : Ref sig .tc := ⟨.hbm, 325, rfl⟩
abbrev main_v279 : Ref sig .tc := ⟨.hbm, 326, rfl⟩
abbrev main_v280 : Ref sig .tc := ⟨.hbm, 327, rfl⟩
abbrev main_v281 : Ref sig .tc := ⟨.hbm, 328, rfl⟩
abbrev main_v282 : Ref sig .tc := ⟨.hbm, 329, rfl⟩
abbrev main_v283 : Ref sig .tc := ⟨.hbm, 330, rfl⟩
abbrev main_v284 : Ref sig .tc := ⟨.hbm, 331, rfl⟩
abbrev main_v285 : Ref sig .tc := ⟨.hbm, 332, rfl⟩
abbrev main_v286 : Ref sig .tc := ⟨.hbm, 333, rfl⟩
abbrev main_v287 : Ref sig .tc := ⟨.hbm, 334, rfl⟩
abbrev main_v288 : Ref sig .tc := ⟨.hbm, 335, rfl⟩
abbrev main_v289 : Ref sig .tc := ⟨.hbm, 336, rfl⟩
abbrev main_v290 : Ref sig .tc := ⟨.hbm, 337, rfl⟩
abbrev main_v291 : Ref sig .tc := ⟨.hbm, 338, rfl⟩
abbrev main_v292 : Ref sig .tc := ⟨.hbm, 339, rfl⟩
abbrev main_v293 : Ref sig .tc := ⟨.hbm, 340, rfl⟩
abbrev main_v294 : Ref sig .tc := ⟨.hbm, 341, rfl⟩
abbrev main_v295 : Ref sig .tc := ⟨.hbm, 342, rfl⟩
abbrev main_v296 : Ref sig .tc := ⟨.hbm, 343, rfl⟩
abbrev main_v297 : Ref sig .tc := ⟨.hbm, 344, rfl⟩
abbrev main_v298 : Ref sig .tc := ⟨.hbm, 345, rfl⟩
abbrev main_v299 : Ref sig .tc := ⟨.hbm, 346, rfl⟩
abbrev main_v300 : Ref sig .tc := ⟨.hbm, 347, rfl⟩
abbrev main_v301 : Ref sig .tc := ⟨.hbm, 348, rfl⟩
abbrev main_v302 : Ref sig .tc := ⟨.hbm, 349, rfl⟩
abbrev main_v303 : Ref sig .tc := ⟨.hbm, 350, rfl⟩
abbrev main_v304 : Ref sig .tc := ⟨.hbm, 351, rfl⟩
abbrev main_v305 : Ref sig .tc := ⟨.hbm, 352, rfl⟩
abbrev main_v306 : Ref sig .tc := ⟨.hbm, 353, rfl⟩
abbrev main_v307 : Ref sig .tc := ⟨.hbm, 354, rfl⟩
abbrev main_v308 : Ref sig .tc := ⟨.hbm, 355, rfl⟩
abbrev main_v309 : Ref sig .tc := ⟨.hbm, 356, rfl⟩
abbrev main_v310 : Ref sig .tc := ⟨.hbm, 357, rfl⟩
abbrev main_v311 : Ref sig .tc := ⟨.hbm, 358, rfl⟩
abbrev main_v312 : Ref sig .tc := ⟨.hbm, 359, rfl⟩
abbrev main_v313 : Ref sig .tc := ⟨.hbm, 360, rfl⟩
abbrev main_v314 : Ref sig .tc := ⟨.hbm, 361, rfl⟩
abbrev main_v315 : Ref sig .tc := ⟨.hbm, 362, rfl⟩
abbrev main_v316 : Ref sig .tc := ⟨.hbm, 363, rfl⟩
abbrev main_v317 : Ref sig .tc := ⟨.hbm, 364, rfl⟩
abbrev main_v318 : Ref sig .tc := ⟨.hbm, 365, rfl⟩
abbrev main_v319 : Ref sig .tc := ⟨.hbm, 366, rfl⟩
abbrev main_v320 : Ref sig .tc := ⟨.hbm, 367, rfl⟩
abbrev main_v321 : Ref sig .tc := ⟨.hbm, 368, rfl⟩
abbrev main_v322 : Ref sig .tc := ⟨.hbm, 369, rfl⟩
abbrev main_v323 : Ref sig .tc := ⟨.hbm, 370, rfl⟩
abbrev main_v324 : Ref sig .tc := ⟨.hbm, 371, rfl⟩
abbrev main_v325 : Ref sig .tc := ⟨.hbm, 372, rfl⟩
abbrev main_v326 : Ref sig .tc := ⟨.hbm, 373, rfl⟩
abbrev main_v327 : Ref sig .tc := ⟨.hbm, 374, rfl⟩
abbrev main_v328 : Ref sig .tc := ⟨.hbm, 375, rfl⟩
abbrev main_v329 : Ref sig .tc := ⟨.hbm, 376, rfl⟩
abbrev main_v330 : Ref sig .tc := ⟨.hbm, 377, rfl⟩
abbrev main_v331 : Ref sig .tc := ⟨.hbm, 378, rfl⟩
abbrev main_v332 : Ref sig .tc := ⟨.hbm, 379, rfl⟩
abbrev main_v333 : Ref sig .tc := ⟨.hbm, 380, rfl⟩
abbrev main_v334 : Ref sig .tc := ⟨.hbm, 381, rfl⟩
abbrev main_v335 : Ref sig .tc := ⟨.hbm, 382, rfl⟩
abbrev main_v336 : Ref sig .tc := ⟨.hbm, 383, rfl⟩
abbrev main_v337 : Ref sig .tc := ⟨.hbm, 384, rfl⟩
abbrev main_v338 : Ref sig .tc := ⟨.hbm, 385, rfl⟩
abbrev main_v339 : Ref sig .tc := ⟨.hbm, 386, rfl⟩
abbrev main_v340 : Ref sig .tc := ⟨.hbm, 387, rfl⟩
abbrev main_v341 : Ref sig .tc := ⟨.hbm, 388, rfl⟩
abbrev main_v342 : Ref sig .tc := ⟨.hbm, 389, rfl⟩
abbrev main_v343 : Ref sig .tc := ⟨.hbm, 390, rfl⟩
abbrev main_v344 : Ref sig .tc := ⟨.hbm, 391, rfl⟩
abbrev main_v345 : Ref sig .tc := ⟨.hbm, 392, rfl⟩
abbrev main_v346 : Ref sig .tc := ⟨.hbm, 393, rfl⟩
abbrev main_v347 : Ref sig .tc := ⟨.hbm, 394, rfl⟩
abbrev main_v348 : Ref sig .tc := ⟨.hbm, 395, rfl⟩
abbrev main_v349 : Ref sig .tc := ⟨.hbm, 396, rfl⟩
abbrev main_v350 : Ref sig .tc := ⟨.hbm, 397, rfl⟩
abbrev main_v351 : Ref sig .tc := ⟨.hbm, 398, rfl⟩
abbrev main_v352 : Ref sig .tc := ⟨.hbm, 399, rfl⟩
abbrev main_v353 : Ref sig .tc := ⟨.hbm, 400, rfl⟩
abbrev main_v354 : Ref sig .tc := ⟨.hbm, 401, rfl⟩
abbrev main_v355 : Ref sig .tc := ⟨.hbm, 402, rfl⟩
abbrev main_v356 : Ref sig .tc := ⟨.hbm, 403, rfl⟩
abbrev main_v357 : Ref sig .tc := ⟨.hbm, 404, rfl⟩
abbrev main_v358 : Ref sig .tc := ⟨.hbm, 405, rfl⟩
abbrev main_v359 : Ref sig .tc := ⟨.hbm, 406, rfl⟩
abbrev main_v360 : Ref sig .tc := ⟨.hbm, 407, rfl⟩
abbrev main_v361 : Ref sig .tc := ⟨.hbm, 408, rfl⟩
abbrev main_v362 : Ref sig .tc := ⟨.hbm, 409, rfl⟩
abbrev main_v363 : Ref sig .tc := ⟨.hbm, 410, rfl⟩
abbrev main_v364 : Ref sig .tc := ⟨.hbm, 411, rfl⟩
abbrev main_v365 : Ref sig .tc := ⟨.hbm, 412, rfl⟩
abbrev main_v366 : Ref sig .tc := ⟨.hbm, 413, rfl⟩
abbrev main_v367 : Ref sig .tc := ⟨.hbm, 414, rfl⟩
abbrev main_v368 : Ref sig .tc := ⟨.hbm, 415, rfl⟩
abbrev main_v369 : Ref sig .tc := ⟨.hbm, 416, rfl⟩
abbrev main_v370 : Ref sig .tc := ⟨.hbm, 417, rfl⟩
abbrev main_v371 : Ref sig .tc := ⟨.hbm, 418, rfl⟩
abbrev main_v372 : Ref sig .tc := ⟨.hbm, 419, rfl⟩
abbrev main_v373 : Ref sig .tc := ⟨.hbm, 420, rfl⟩
abbrev main_v374 : Ref sig .tc := ⟨.hbm, 421, rfl⟩
abbrev main_v375 : Ref sig .tc := ⟨.hbm, 422, rfl⟩
abbrev main_v376 : Ref sig .tc := ⟨.hbm, 423, rfl⟩
abbrev main_v377 : Ref sig .tc := ⟨.hbm, 424, rfl⟩
abbrev main_v378 : Ref sig .tc := ⟨.hbm, 425, rfl⟩
abbrev main_v379 : Ref sig .tc := ⟨.hbm, 426, rfl⟩
abbrev main_v380 : Ref sig .tc := ⟨.hbm, 427, rfl⟩
abbrev main_v381 : Ref sig .tc := ⟨.hbm, 428, rfl⟩
abbrev main_v382 : Ref sig .tc := ⟨.hbm, 429, rfl⟩
abbrev main_v383 : Ref sig .tc := ⟨.hbm, 430, rfl⟩
abbrev main_v384 : Ref sig .tc := ⟨.hbm, 431, rfl⟩
abbrev main_v385 : Ref sig .tc := ⟨.hbm, 432, rfl⟩
abbrev main_v386 : Ref sig .tc := ⟨.hbm, 433, rfl⟩
abbrev main_v387 : Ref sig .tc := ⟨.hbm, 434, rfl⟩
abbrev main_v388 : Ref sig .tc := ⟨.hbm, 435, rfl⟩
abbrev main_v389 : Ref sig .tc := ⟨.hbm, 436, rfl⟩
abbrev main_v390 : Ref sig .tc := ⟨.hbm, 437, rfl⟩
abbrev main_v391 : Ref sig .tc := ⟨.hbm, 438, rfl⟩
abbrev main_v392 : Ref sig .tc := ⟨.hbm, 439, rfl⟩
abbrev main_v393 : Ref sig .tc := ⟨.hbm, 440, rfl⟩
abbrev main_v394 : Ref sig .tc := ⟨.hbm, 441, rfl⟩
abbrev main_v395 : Ref sig .tc := ⟨.hbm, 442, rfl⟩
abbrev main_v396 : Ref sig .tc := ⟨.hbm, 443, rfl⟩
abbrev main_v397 : Ref sig .tc := ⟨.hbm, 444, rfl⟩
abbrev main_v398 : Ref sig .tc := ⟨.hbm, 445, rfl⟩
abbrev main_v399 : Ref sig .tc := ⟨.hbm, 446, rfl⟩
abbrev main_v400 : Ref sig .tc := ⟨.hbm, 447, rfl⟩
abbrev main_v401 : Ref sig .tc := ⟨.hbm, 448, rfl⟩
abbrev main_v402 : Ref sig .tc := ⟨.hbm, 449, rfl⟩
abbrev main_v403 : Ref sig .tc := ⟨.hbm, 450, rfl⟩
abbrev main_v404 : Ref sig .tc := ⟨.hbm, 451, rfl⟩
abbrev main_v405 : Ref sig .tc := ⟨.hbm, 452, rfl⟩
abbrev main_v406 : Ref sig .tc := ⟨.hbm, 453, rfl⟩
abbrev main_v407 : Ref sig .tc := ⟨.hbm, 454, rfl⟩
abbrev main_v408 : Ref sig .tc := ⟨.hbm, 455, rfl⟩
abbrev main_v409 : Ref sig .tc := ⟨.hbm, 456, rfl⟩
abbrev main_v410 : Ref sig .tc := ⟨.hbm, 457, rfl⟩
abbrev main_v411 : Ref sig .tc := ⟨.hbm, 458, rfl⟩
abbrev main_v412 : Ref sig .tc := ⟨.hbm, 459, rfl⟩
abbrev main_call6_v0 : Ref sig .tc := ⟨.hbm, 460, rfl⟩
abbrev main_call6_v1 : Ref sig .tc := ⟨.hbm, 461, rfl⟩
abbrev main_call6_cst : Ref sig .tc := ⟨.hbm, 462, rfl⟩
abbrev main_call6_v2 : Ref sig .tc := ⟨.hbm, 463, rfl⟩
abbrev main_call6_v3 : Ref sig .tc := ⟨.hbm, 464, rfl⟩
abbrev main_call6_cst_0 : Ref sig .tc := ⟨.hbm, 465, rfl⟩
abbrev main_call6_v4 : Ref sig .tc := ⟨.hbm, 466, rfl⟩
abbrev main_call6_v5 : Ref sig .tc := ⟨.hbm, 467, rfl⟩
abbrev main_v413 : Ref sig .tc := ⟨.hbm, 468, rfl⟩
abbrev main_v414 : Ref sig .tc := ⟨.hbm, 469, rfl⟩
abbrev main_v415 : Ref sig .tc := ⟨.hbm, 470, rfl⟩
abbrev main_v416 : Ref sig .tc := ⟨.hbm, 471, rfl⟩
abbrev main_cst_3 : Ref sig .tc := ⟨.hbm, 472, rfl⟩
abbrev main_v417 : Ref sig .tc := ⟨.hbm, 473, rfl⟩
abbrev main_v418 : Ref sig .tc := ⟨.hbm, 474, rfl⟩
abbrev main_cst_4 : Ref sig .tc := ⟨.hbm, 475, rfl⟩
abbrev main_v419 : Ref sig .tc := ⟨.hbm, 476, rfl⟩
abbrev main_v420 : Ref sig .tc := ⟨.hbm, 477, rfl⟩
abbrev main_cst_5 : Ref sig .tc := ⟨.hbm, 478, rfl⟩
abbrev main_v421 : Ref sig .tc := ⟨.hbm, 479, rfl⟩
abbrev main_v422 : Ref sig .tc := ⟨.hbm, 480, rfl⟩
abbrev main_v423 : Ref sig .tc := ⟨.hbm, 481, rfl⟩
abbrev main_v424 : Ref sig .tc := ⟨.hbm, 482, rfl⟩
abbrev main_v425 : Ref sig .tc := ⟨.hbm, 483, rfl⟩
abbrev main_v426 : Ref sig .tc := ⟨.hbm, 484, rfl⟩
abbrev main_v427 : Ref sig .tc := ⟨.hbm, 485, rfl⟩
abbrev main_v428 : Ref sig .tc := ⟨.hbm, 486, rfl⟩
abbrev main_v429 : Ref sig .tc := ⟨.hbm, 487, rfl⟩
abbrev main_v430 : Ref sig .tc := ⟨.hbm, 488, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024 : Shape := ⟨1, ![1024]⟩
abbrev S4x1x1024 : Shape := ⟨3, ![4, 1, 1024]⟩
abbrev S1024x4096 : Shape := ⟨2, ![1024, 4096]⟩
abbrev S4096x1024 : Shape := ⟨2, ![4096, 1024]⟩
abbrev S1x1024 : Shape := ⟨2, ![1, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x1 : Shape := ⟨2, ![1024, 1]⟩

abbrev nBuf : Space → Nat
  | .hbm => 13
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024, .f32⟩
  | .hbm, ⟨3, _⟩ => ⟨S4x1x1024, .f32⟩
  | .hbm, ⟨4, _⟩ => ⟨S4x1x1024, .f32⟩
  | .hbm, ⟨5, _⟩ => ⟨S4x1x1024, .f32⟩
  | .hbm, ⟨6, _⟩ => ⟨S1024x4096, .f32⟩
  | .hbm, ⟨7, _⟩ => ⟨S4096x1024, .f32⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1x1024x1024, .f32⟩
  | .local _ .vmem, ⟨15, _⟩ => ⟨S1x1024x1024, .f32⟩
  | .local _ .vmem, ⟨16, _⟩ => ⟨S1024x1024, .bf16⟩
  | .local _ .vmem, ⟨17, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_12 : BitVec 32 := 0#32
  let v21 : BitVec 1 := Scalar.cmpi .ne v20 c0_i32_12
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference2Ideal.lean ====
abbrev S4x4096x1024 : Shape := ⟨3, ![4, 4096, 1024]⟩
abbrev S1024 : Shape := ⟨1, ![1024]⟩
abbrev S4x1x1024 : Shape := ⟨3, ![4, 1, 1024]⟩
abbrev S1024x4096 : Shape := ⟨2, ![1024, 4096]⟩
abbrev S4096x1024 : Shape := ⟨2, ![4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024, .f32⟩
  | .hbm, ⟨3, _⟩ => ⟨S4x1x1024, .f32⟩
  | .hbm, ⟨4, _⟩ => ⟨S4x1x1024, .f32⟩
  | .hbm, ⟨5, _⟩ => ⟨S4x1x1024, .f32⟩
  | .hbm, ⟨6, _⟩ => ⟨S1024x4096, .f32⟩
  | .hbm, ⟨7, _⟩ => ⟨S4096x1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x4096, .f32⟩
  | .hbm, ⟨32, _⟩ => ⟨S_, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S4x4096x1024, .f32⟩
  | .hbm, ⟨37, _⟩ => ⟨S4x4096x1024, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S4x4096x1, .f32⟩
  | .hbm, ⟨48, _⟩ => ⟨S4x4096x1024, .f32⟩
  | .hbm, ⟨49, _⟩ => ⟨S4x4096x1024, .f32⟩
  | .hbm, ⟨50, _⟩ => ⟨S1x1x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x2048 : Shape := ⟨3, ![4, 4096, 2048]⟩
abbrev S4x4096x9064 : Shape := ⟨3, ![4, 4096, 9064]⟩
abbrev S4x1x1024 : Shape := ⟨3, ![4, 1, 1024]⟩
abbrev S1024 : Shape := ⟨1, ![1024]⟩
abbrev S1024x1024 : Shape := ⟨2, ![1024, 1024]⟩
abbrev S2048x1024 : Shape := ⟨2, ![2048, 1024]⟩
abbrev S4x4096x512 : Shape := ⟨3, ![4, 4096, 512]⟩
abbrev S4x4096x8704 : Shape := ⟨3, ![4, 4096, 8704]⟩
abbrev S4x4096x256 : Shape := ⟨3, ![4, 4096, 256]⟩
abbrev S4x4096x64 : Shape := ⟨3, ![4, 4096, 64]⟩
abbrev S4x4096x8 : Shape := ⟨3, ![4, 4096, 8]⟩
abbrev S_ : Shape := ⟨0, ![]⟩
abbrev S4x4096x56 : Shape := ⟨3, ![4, 4096, 56]⟩
abbrev S4x4096x32 : Shape := ⟨3, ![4, 4096, 32]⟩
abbrev S4x4096x96 : Shape := ⟨3, ![4, 4096, 96]⟩
abbrev S1x1024 : Shape := ⟨2, ![1, 1024]⟩
abbrev S1x512x1024 : Shape := ⟨3, ![1, 512, 1024]⟩
abbrev S1x512x2048 : Shape := ⟨3, ![1, 512, 2048]⟩
abbrev S1x1x1024 : Shape := ⟨3, ![1, 1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 35
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x4096x2048, .f32⟩
  | .hbm, ⟨2, _⟩ => ⟨S4x4096x9064, .f32⟩
  | .hbm, ⟨3, _⟩ => ⟨S4x4096x1024, .f32⟩
  | .hbm, ⟨4, _⟩ => ⟨S4x1x1024, .f32⟩
  | .hbm, ⟨5, _⟩ => ⟨S1024, .f32⟩
  | .hbm, ⟨6, _⟩ => ⟨S1024x1024, .f32⟩
  | .hbm, ⟨7, _⟩ => ⟨S2048x1024, .f32⟩
  | .hbm, ⟨8, _⟩ => ⟨S1024x1024, .f32⟩
  | .hbm, ⟨9, _⟩ => ⟨S4x4096x2048, .f32⟩
  | .hbm, ⟨10, _⟩ => ⟨S4x4096x2048, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S4x4096x512, .f32⟩
  | .hbm, ⟨15, _⟩ => ⟨S4x4096x512, .f32⟩
  | .hbm, ⟨16, _⟩ => ⟨S4x4096x512, .f32⟩
  | .hbm, ⟨17, _⟩ => ⟨S4x4096x8704, .f32⟩
  | .hbm, ⟨18, _⟩ => ⟨S4x4096x8704, .bf16⟩
  | .hbm, ⟨19, _⟩ => ⟨S4x4096x256, .f32⟩
  | .hbm, ⟨20, _⟩ => ⟨S4x4096x64, .f32⟩
  | .hbm, ⟨21, _⟩ => ⟨S4x4096x8, .f32⟩
  | .hbm, ⟨22, _⟩ => ⟨S_, .f32⟩
  | .hbm, ⟨23, _⟩ => ⟨S4x4096x56, .f32⟩
  | .hbm, ⟨24, _⟩ => ⟨S4x4096x32, .f32⟩
  | .hbm, ⟨25, _⟩ => ⟨S_, .f32⟩
  | .hbm, ⟨26, _⟩ => ⟨S4x4096x96, .f32⟩
  | .hbm, ⟨27, _⟩ => ⟨S4x4096x512, .f32⟩
  | .hbm, ⟨28, _⟩ => ⟨S4x4096x1024, .bf16⟩
  | .hbm, ⟨29, _⟩ => ⟨S4x4096x2048, .bf16⟩
  | .hbm, ⟨30, _⟩ => ⟨S1x1024, .f32⟩
  | .hbm, ⟨31, _⟩ => ⟨S1024x1024, .bf16⟩
  | .hbm, ⟨32, _⟩ => ⟨S2048x1024, .bf16⟩
  | .hbm, ⟨33, _⟩ => ⟨S1024x1024, .bf16⟩
  | .hbm, ⟨34, _⟩ => ⟨S4x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1024x1024, .bf16⟩
  | .local _ .vmem, ⟨14, _⟩ => ⟨S2048x1024, .bf16⟩
  | .local _ .vmem, ⟨15, _⟩ => ⟨S1024x1024, .bf16⟩
  | .local _ .vmem, ⟨16, _⟩ => ⟨S1x512x1024, .f32⟩
  | .local _ .vmem, ⟨17, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S4x4096x1024 : Shape := ⟨3, ![4, 4096, 1024]⟩
abbrev S4x4096x2048 : Shape := ⟨3, ![4, 4096, 2048]⟩
abbrev S4x4096x9064 : Shape := ⟨3, ![4, 4096, 9064]⟩
abbrev S4x1x1024 : Shape := ⟨3, ![4, 1, 1024]⟩
abbrev S1024 : Shape := ⟨1, ![1024]⟩
abbrev S1024x1024 : Shape := ⟨2, ![1024, 1024]⟩
abbrev S2048x1024 : Shape := ⟨2, ![2048, 1024]⟩
abbrev S4x4096x256 : Shape := ⟨3, ![4, 4096, 256]⟩
abbrev S4x4096x512 : Shape := ⟨3, ![4, 4096, 512]⟩
abbrev S4x4096x64 : Shape := ⟨3, ![4, 4096, 64]⟩
abbrev S4x4096x8 : Shape := ⟨3, ![4, 4096, 8]⟩
abbrev S4x4096x3072 : Shape := ⟨3, ![4, 4096, 3072]⟩
abbrev S4x4096x32 : Shape := ⟨3, ![4, 4096, 32]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x2048, .f32⟩
  | .hbm, ⟨2, _⟩ => ⟨S4x4096x9064, .f32⟩
  | .hbm, ⟨3, _⟩ => ⟨S4x4096x1024, .f32⟩
  | .hbm, ⟨4, _⟩ => ⟨S4x1x1024, .f32⟩
  | .hbm, ⟨5, _⟩ => ⟨S1024, .f32⟩
  | .hbm, ⟨6, _⟩ => ⟨S1024x1024, .f32⟩
  | .hbm, ⟨7, _⟩ => ⟨S2048x1024, .f32⟩
  | .hbm, ⟨8, _⟩ => ⟨S1024x1024, .f32⟩
  | .hbm, ⟨9, _⟩ => ⟨S4x4096x1024, .f32⟩
  | .hbm, ⟨10, _⟩ => ⟨S4x4096x256, .f32⟩
  | .hbm, ⟨11, _⟩ => ⟨S4x4096x512, .f32⟩
  | .hbm, ⟨12, _⟩ => ⟨S4x4096x64, .f32⟩
  | .hbm, ⟨13, _⟩ => ⟨S4x4096x8, .f32⟩
  | .hbm, ⟨14, _⟩ => ⟨S4x4096x2048, .f32⟩
  | .hbm, ⟨15, _⟩ => ⟨S4x4096x3072, .f32⟩
  | .hbm, ⟨16, _⟩ => ⟨S4x4096x32, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S_, .f32⟩
  | .hbm, ⟨24, _⟩ => ⟨S4x4096x1024, .f32⟩
  | .hbm, ⟨25, _⟩ => ⟨S4x4096x1024, .f32⟩
  | .hbm, ⟨26, _⟩ => ⟨S_, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S_, .f32⟩
  | .hbm, ⟨33, _⟩ => ⟨S4x4096x1024, .f32⟩
  | .hbm, ⟨34, _⟩ => ⟨S4x4096x1024, .f32⟩
  | .hbm, ⟨35, _⟩ => ⟨S_, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x1, .f32⟩
  | .hbm, ⟨52, _⟩ => ⟨S4x4096x1024, .f32⟩
  | .hbm, ⟨53, _⟩ => ⟨S4x4096x1024, .f32⟩
  | .hbm, ⟨54, _⟩ => ⟨S1x1x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Proof.Chunk.lean ====
module

public import proofs.«01_k».proof.Proof.Gen.KernelIdeal.Skeleton
public import Idealize.ShloMosaic.Lib.Pointwise

@[expose] public section

set_option maxRecDepth 16384

noncomputable section

namespace Cert.KernelIdeal.Chunk

open Cert.KernelIdeal Cert.KernelIdeal.Gen Idealize.ShloMosaic Idealize.ShloMosaic.TcCoe Idealize.ShloMosaic.Tactic
open scoped BigOperators

/-- The two heads of a pair share 128 lanes: the first 64 are the first head's. -/
def firstHalf : IVec S1x128 1 :=
  cmpi .slt (iota .tc S1x128 32 [1] iota_S1x128_d1_w32) (broadcast S1x128 64#32)

/-- The causal mask of a chunk. -/
def causal : IVec S128x128 1 :=
  cmpi .sge (iota .tc S128x128 32 [0] iota_S128x128_d0_w32) (iota .tc S128x128 32 [1] iota_S128x128_d1_w32)

/-- A head's column of the cumulated log decay, over 128 lanes. -/
def colB (c : FVec Ideal S128x1 .f32) : FVec Ideal S128x128 .f32 :=
  broadcastTo S128x128 (shapeCast S128x1 c shapeCasts_S128x1_S128x1) broadcasts_S128x1_S128x128

/-- One head's left factor: the masked, decayed scores beside the decayed read-out rows. -/
def lhsOf (c : FVec Ideal S128x1 .f32) (s : FVec Ideal S1x128 .f32) (cg cb : FVec Ideal S128x128 .f32) :
    FVec Ideal S128x256 .bf16 :=
  concatenate S128x256 1
    [⟨S128x128, truncf .bf16 (mulf cb (exp2 (select causal (subf (colB c) (broadcastTo S128x128 s broadcasts_S1x128_S128x128))
        (broadcast S128x128 (Scalar.ofBits .f32 0xFF800000#32 : Ideal .f32))))) bitsLt_bf16_f32⟩,
     ⟨S128x128, truncf .bf16 (mulf cg (exp2 (colB c))) bitsLt_bf16_f32⟩]
    concatenates_S128x128_S128x128_S128x256_d1

/-- The chunk's output of a pair of heads. -/
def pairY (c0 c1 : FVec Ideal S128x1 .f32) (s0 s1 : FVec Ideal S1x128 .f32) (cg cb prev : FVec Ideal S128x128 .f32)
    (xsp : FVec Ideal S128x128 .bf16) : FVec Ideal S128x128 .f32 :=
  have r : FVec Ideal S256x128 .f32 := matmul dot_S256x256_S256x128_S256x128_1_0_0_1_n_n none
    (concatenate S256x256 0 [⟨S128x256, lhsOf c0 s0 cg cb⟩, ⟨S128x256, lhsOf c1 s1 cg cb⟩] concatenates_S128x256_S128x256_S256x256_d0)
    (concatenate S256x128 0 [⟨S128x128, xsp⟩, ⟨S128x128, truncf .bf16 prev bitsLt_bf16_f32⟩] concatenates_S128x128_S128x128_S256x128_d0)
    (constant S256x128 .f32 0x00000000#32)
  shapeCast S128x128 (select (broadcastTo S128x128 (shapeCast S1x128 firstHalf shapeCasts_S1x128_S1x128) broadcasts_S1x128_S128x128)
    (extractStridedSlice S128x128 ![0, 0] r slices_S256x128_o0_0_S128x128)
    (extractStridedSlice S128x128 ![128, 0] r slices_S256x128_o128_0_S128x128)) shapeCasts_S128x128_S128x128

/-- The state a pair of heads leaves. -/
def pairS (c0 c1 : FVec Ideal S128x1 .f32) (d0 d1 : FVec Ideal S1x128 .f32) (bt prev : FVec Ideal S128x128 .f32)
    (xsp : FVec Ideal S128x128 .bf16) : FVec Ideal S128x128 .f32 :=
  have nw : FVec Ideal S256x128 .f32 := matmul dot_S256x128_S128x128_S256x128_1_0_0_1_n_n none
    (concatenate S256x128 0
      [⟨S128x128, truncf .bf16 (mulf bt (broadcastTo S128x128 d0 broadcasts_S1x128_S128x128)) bitsLt_bf16_f32⟩,
       ⟨S128x128, truncf .bf16 (mulf bt (broadcastTo S128x128 d1 broadcasts_S1x128_S128x128)) bitsLt_bf16_f32⟩]
      concatenates_S128x128_S128x128_S256x128_d0)
    xsp (constant S256x128 .f32 0x00000000#32)
  shapeCast S128x128 (addf
    (mulf prev (broadcastTo S128x128 (select firstHalf
      (extractStridedSlice S1x128 ![127, 0] (exp2 (colB c0)) slices_S128x128_o127_0_S1x128)
      (extractStridedSlice S1x128 ![127, 0] (exp2 (colB c1)) slices_S128x128_o127_0_S1x128)) broadcasts_S1x128_S128x128))
    (select (broadcastTo S128x128 (shapeCast S1x128 firstHalf shapeCasts_S1x128_S1x128) broadcasts_S1x128_S128x128)
      (extractStridedSlice S128x128 ![0, 0] nw slices_S256x128_o0_0_S128x128)
      (extractStridedSlice S128x128 ![128, 0] nw slices_S256x128_o128_0_S128x128))) shapeCasts_S128x128_S128x128

theorem ofBits_negInf : Ideal.ofBits .f32 0xFF800000#32 = ⊥ := by simp [Ideal.ofBits, Ideal.ieee]

theorem select_ite {α : Type} (p : Prop) [Decidable p] (a b : α) :
    Scalar.select (if p then 1#1 else 0#1) a b = if p then a else b := by
  by_cases h : p <;> simp [h, Scalar.select]

theorem firstHalf_apply (j : Fin 128) : firstHalf (ix2 0 j) = if j.val < 64 then 1#1 else 0#1 := by
  pointwise [firstHalf]
  revert j; decide

theorem cmpi_sge_fin (l s : Fin 128) :
    IntOp.cmpi CmpIPredicate.sge (BitVec.ofNat 32 l.val) (BitVec.ofNat 32 s.val) = if s.val ≤ l.val then 1#1 else 0#1 := by
  revert l s; decide +kernel

theorem causal_apply (l s : Fin 128) : causal (ix2 l s) = if s.val ≤ l.val then 1#1 else 0#1 := by
  pointwise [causal]
  exact cmpi_sge_fin l s

theorem lhsOf_lo (c : FVec Ideal S128x1 .f32) (s : FVec Ideal S1x128 .f32) (cg cb : FVec Ideal S128x128 .f32) (l k : Fin 128)
    (h : k.val < 256) :
    lhsOf c s cg cb (ix2 l ⟨k.val, h⟩) =
      cb (ix2 l k) * Ideal.exp2 (if k.val ≤ l.val then c (ix2 l 0) - s (ix2 0 k) else ⊥) := by
  pointwise [lhsOf, colB]
  rw [causal_apply, select_ite, ofBits_negInf]; rfl

theorem lhsOf_hi (c : FVec Ideal S128x1 .f32) (s : FVec Ideal S1x128 .f32) (cg cb : FVec Ideal S128x128 .f32) (l k : Fin 128)
    (h : 128 + k.val < 256) :
    lhsOf c s cg cb (ix2 l ⟨128 + k.val, h⟩) = cg (ix2 l k) * Ideal.exp2 (c (ix2 l 0)) := by
  pointwise [lhsOf, colB]
  rfl

/-- One head's output row from its columns: within the chunk, then from the state before it. -/
def headY (c : FVec Ideal S128x1 .f32) (s : FVec Ideal S1x128 .f32) (cg cb prev : FVec Ideal S128x128 .f32)
    (xsp : FVec Ideal S128x128 .bf16) (l j : Fin 128) : EReal :=
  (∑ k : Fin 128, cb (ix2 l k) * Ideal.exp2 (if k.val ≤ l.val then c (ix2 l 0) - s (ix2 0 k) else ⊥) * xsp (ix2 k j))
    + ∑ n : Fin 128, cg (ix2 l n) * Ideal.exp2 (c (ix2 l 0)) * prev (ix2 n j)

theorem pairY_apply (c0 c1 : FVec Ideal S128x1 .f32) (s0 s1 : FVec Ideal S1x128 .f32) (cg cb prev : FVec Ideal S128x128 .f32)
    (xsp : FVec Ideal S128x128 .bf16) (l j : Fin 128) :
    pairY c0 c1 s0 s1 cg cb prev xsp (ix2 l j) =
      if j.val < 64 then headY c0 s0 cg cb prev xsp l j else headY c1 s1 cg cb prev xsp l j := by
  pointwise [pairY]
  rw [firstHalf_apply, select_ite]
  simp only [lhsOf_lo, lhsOf_hi, headY]

/-- One head's next state. -/
def headS (c : FVec Ideal S128x1 .f32) (d : FVec Ideal S1x128 .f32) (bt prev : FVec Ideal S128x128 .f32)
    (xsp : FVec Ideal S128x128 .bf16) (n j : Fin 128) : EReal :=
  prev (ix2 n j) * Ideal.exp2 (c (ix2 127 0)) + ∑ x : Fin 128, bt (ix2 n x) * d (ix2 0 x) * xsp (ix2 x j)

theorem pairS_apply (c0 c1 : FVec Ideal S128x1 .f32) (d0 d1 : FVec Ideal S1x128 .f32) (bt prev : FVec Ideal S128x128 .f32)
    (xsp : FVec Ideal S128x128 .bf16) (n j : Fin 128) :
    pairS c0 c1 d0 d1 bt prev xsp (ix2 n j) =
      if j.val < 64 then headS c0 d0 bt prev xsp n j else headS c1 d1 bt prev xsp n j := by
  pointwise [pairS, colB]
  rw [firstHalf_apply, select_ite, select_ite]
  unfold headS
  split <;> rfl

end Cert.KernelIdeal.Chunk
-- ==== Proof.Conv.lean ====
module

public import proofs.«01_k».proof.Proof.Gen.KernelIdeal.Skeleton
public import proofs.«01_k».proof.Proof.Chunk

@[expose] public section

set_option maxRecDepth 16384

noncomputable section

namespace Cert.KernelIdeal.Chunk

open Cert.KernelIdeal Cert.KernelIdeal.Gen Idealize.ShloMosaic Idealize.ShloMosaic.TcCoe Idealize.ShloMosaic.Tactic
open scoped BigOperators

/-- The activation `v · σ(v)`. -/
def silu (v : EReal) : EReal := v * Ideal.logistic v

/-- Four taps over a sequence padded by three in front, and the bias. -/
def convAt (u : ℕ → EReal) (b w0 w1 w2 w3 : EReal) (n : ℕ) : EReal :=
  w0 * u n + w1 * u (n + 1) + w2 * u (n + 2) + w3 * u (n + 3) + b

/-- A matrix that shifts rows: block `k` moves them down by `3 - k`. -/
def IsShift (sh : FVec Ideal S384x128 .bf16) : Prop :=
  ∀ (k : Fin 3) (t s : Fin 128) (h : 128 * k.val + t.val < 384),
    sh (ix2 ⟨128 * k.val + t.val, h⟩ s) = if t.val + k.val = s.val + 3 then (1 : EReal) else 0

theorem shift_sum (sh : FVec Ideal S384x128 .bf16) (hsh : IsShift sh) (k : Fin 3) (l : Fin 128) (T : ℕ) (u : ℕ → EReal)
    (f : Fin 128 → EReal) (hf : ∀ s : Fin 128, f s = u (T + s.val + 3)) (h : 128 * k.val + l.val < 384) :
    ∑ s : Fin 128, sh (ix2 ⟨128 * k.val + l.val, h⟩ s) * f s = if 3 ≤ l.val + k.val then u (T + l.val + k.val) else 0 := by
  simp only [hsh k l _ h, ite_mul, one_mul, zero_mul]
  split
  · rename_i h3
    rw [Finset.sum_eq_single (⟨l.val + k.val - 3, by omega⟩ : Fin 128)]
    · rw [if_pos (by show _ = l.val + k.val - 3 + 3; omega), hf]
      congr 1
      show T + (l.val + k.val - 3) + 3 = _
      omega
    · intro s _ hs
      rw [if_neg]
      intro e
      exact hs (Fin.ext (by show s.val = l.val + k.val - 3; omega))
    · intro hn; exact absurd (Finset.mem_univ _) hn
  · exact Finset.sum_eq_zero fun s _ => if_neg (by omega)

theorem cmpi_slt_fin (l k : Fin 8) :
    IntOp.cmpi CmpIPredicate.slt (BitVec.ofNat 32 l.val) (BitVec.ofNat 32 k.val) = if l.val < k.val then 1#1 else 0#1 := by
  revert l k; decide +kernel

theorem conv_first (l : ℕ) (b w0 w1 w2 w3 u0 u1 u2 u3 : EReal) :
    b + w3 * u3 + w0 * (if 3 ≤ l then u0 else 0) + w1 * (if 2 ≤ l then u1 else 0) + w2 * (if 1 ≤ l then u2 else 0)
      + ((if l < 3 then w0 * u0 else 0) + (if l < 2 then w1 * u1 else 0) + (if l < 1 then w2 * u2 else 0))
      = w0 * u0 + w1 * u1 + w2 * u2 + w3 * u3 + b := by
  rcases Nat.lt_or_ge l 3 with h | h
  · interval_cases l <;> simp <;> ac_rfl
  · rw [if_pos h, if_pos (by omega), if_pos (by omega), if_neg (by omega), if_neg (by omega), if_neg (by omega)]
    simp only [add_zero]
    ac_rfl

theorem conv_rest (l : ℕ) (h : 3 ≤ l) (b w0 w1 w2 w3 u0 u1 u2 u3 : EReal) :
    b + w3 * u3 + w0 * (if 3 ≤ l then u0 else 0) + w1 * (if 2 ≤ l then u1 else 0) + w2 * (if 1 ≤ l then u2 else 0)
      = w0 * u0 + w1 * u1 + w2 * u2 + w3 * u3 + b := by
  rw [if_pos h, if_pos (by omega), if_pos (by omega)]
  ac_rfl

/-- The convolution of a chunk's 2048 channels before the rows of the previous chunk are added. -/
def preX (x : FVec Ideal S1x128x2048 .bf16) (sh : FVec Ideal S384x128 .bf16) (b w3 w0 w1 w2 : FVec Ideal S1x2048 .f32) :
    FVec Ideal S128x2048 .f32 :=
  have cur : FVec Ideal S128x2048 .bf16 := shapeCast S128x2048 x shapeCasts_S1x128x2048_S128x2048
  have shifted : FVec Ideal S384x2048 .f32 :=
    matmul dot_S384x128_S128x2048_S384x2048_1_0_0_1_n_n none sh cur (constant S384x2048 .f32 0x00000000#32)
  addf (addf (addf
    (addf (broadcastTo S128x2048 (shapeCast S1x2048 b shapeCasts_S1x2048_S1x2048) broadcasts_S1x2048_S128x2048)
      (mulf (broadcastTo S128x2048 (shapeCast S1x2048 w3 shapeCasts_S1x2048_S1x2048) broadcasts_S1x2048_S128x2048)
        (extf .f32 cur bitsLt_bf16_f32)))
    (mulf (broadcastTo S128x2048 (shapeCast S1x2048 w0 shapeCasts_S1x2048_S1x2048) broadcasts_S1x2048_S128x2048)
      (extractStridedSlice S128x2048 ![0, 0] shifted slices_S384x2048_o0_0_S128x2048)))
    (mulf (broadcastTo S128x2048 (shapeCast S1x2048 w1 shapeCasts_S1x2048_S1x2048) broadcasts_S1x2048_S128x2048)
      (extractStridedSlice S128x2048 ![128, 0] shifted slices_S384x2048_o128_0_S128x2048)))
    (mulf (broadcastTo S128x2048 (shapeCast S1x2048 w2 shapeCasts_S1x2048_S1x2048) broadcasts_S1x2048_S128x2048)
      (extractStridedSlice S128x2048 ![256, 0] shifted slices_S384x2048_o256_0_S128x2048))

/-- One tap's share of the first eight rows, from the eight rows kept of the chunk before. -/
def tapX (k : BitVec 32) (w : FVec Ideal S1x2048 .f32) (tail : FVec Ideal S8x2048 .f32) : FVec Ideal S8x2048 .f32 :=
  select (cmpi .slt (iota .tc S8x2048 32 [0] iota_S8x2048_d0_w32) (broadcast S8x2048 k))
    (mulf (broadcastTo S8x2048 (shapeCast S1x2048 w shapeCasts_S1x2048_S1x2048) broadcasts_S1x2048_S8x2048)
      (dynamicRotate 0 k none tail rotates_S8x2048_d0))
    (broadcast S8x2048 (Scalar.ofBits .f32 0x00000000#32 : Ideal .f32))

/-- The activated convolution of a chunk's 2048 channels. -/
def actX (pre : FVec Ideal S128x2048 .f32) (tail : FVec Ideal S8x2048 .f32) (w0 w1 w2 : FVec Ideal S1x2048 .f32) :
    FVec Ideal S128x2048 .f32 :=
  have acc : FVec Ideal S128x2048 .f32 := concatenate S128x2048 0
    [⟨S8x2048, addf (extractStridedSlice S8x2048 ![0, 0] pre slices_S128x2048_o0_0_S8x2048)
      (addf (addf (addf (broadcast S8x2048 (Scalar.ofBits .f32 0x00000000#32 : Ideal .f32)) (tapX 3#32 w0 tail)) (tapX 2#32 w1 tail)) (tapX 1#32 w2 tail))⟩,
     ⟨S120x2048, extractStridedSlice S120x2048 ![8, 0] pre slices_S128x2048_o8_0_S120x2048⟩]
    concatenates_S8x2048_S120x2048_S128x2048_d0
  mulf acc (logistic acc)

theorem preX_apply (x : FVec Ideal S1x128x2048 .bf16) (sh : FVec Ideal S384x128 .bf16) (hsh : IsShift sh)
    (b w3 w0 w1 w2 : FVec Ideal S1x2048 .f32) (l : Fin 128) (d : Fin 2048) (T : ℕ) (u : ℕ → EReal)
    (hx : ∀ l : Fin 128, x (ix3 0 l d) = u (T + l.val + 3)) :
    preX x sh b w3 w0 w1 w2 (ix2 l d) =
      b (ix2 0 d) + w3 (ix2 0 d) * u (T + l.val + 3) + w0 (ix2 0 d) * (if 3 ≤ l.val then u (T + l.val) else 0)
        + w1 (ix2 0 d) * (if 2 ≤ l.val then u (T + l.val + 1) else 0)
        + w2 (ix2 0 d) * (if 1 ≤ l.val then u (T + l.val + 2) else 0) := by
  have h0 := shift_sum sh hsh 0 l T u _ hx (by have := l.isLt; show 128 * 0 + l.val < 384; omega)
  have h1 := shift_sum sh hsh 1 l T u _ hx (by have := l.isLt; show 128 * 1 + l.val < 384; omega)
  have h2 := shift_sum sh hsh 2 l T u _ hx (by have := l.isLt; show 128 * 2 + l.val < 384; omega)
  pointwise [preX]
  simp only [Fin.val_zero, Fin.val_one, Fin.val_two, Nat.mul_zero, Nat.zero_add, Nat.mul_one, Nat.add_zero, Nat.reduceMul] at h0 h1 h2
  have e1 : (2 ≤ l.val) = (3 ≤ l.val + 1) := by simp
  have e2 : (1 ≤ l.val) = (3 ≤ l.val + 2) := by simp
  simp only [e1, e2, ← Nat.add_assoc] at h0 h1 h2 ⊢
  rw [h0, h1, h2, hx l]

theorem tapX_apply (k : ℕ) (hk : k < 8) (hk0 : 0 < k) (hk3 : k ≤ 3) (w : FVec Ideal S1x2048 .f32) (tail : FVec Ideal S8x2048 .f32)
    (l : Fin 8) (d : Fin 2048) (T : ℕ) (u : ℕ → EReal) (ht : ∀ r : Fin 8, 5 ≤ r.val → tail (ix2 r d) = u (T + r.val - 5)) :
    tapX (BitVec.ofNat 32 k) w tail (ix2 l d) = if l.val < k then w (ix2 0 d) * u (T + l.val + 3 - k) else 0 := by
  pointwise [tapX]
  rw [cmpi_slt_fin l ⟨k, hk⟩, select_ite]
  have e : (BitVec.ofNat 32 k).toNat = k := by rw [BitVec.toNat_ofNat]; omega
  split
  · rename_i hl
    have hl : l.val < k := hl
    refine congrArg _ ((ht _ ?_).trans (congrArg u ?_))
    · show 5 ≤ (l.val + 8 - (BitVec.ofNat 32 k).toNat % 8) % 8
      rw [e]; omega
    · show T + (l.val + 8 - (BitVec.ofNat 32 k).toNat % 8) % 8 - 5 = _
      rw [e]; omega
  · rfl

theorem actX_apply (x : FVec Ideal S1x128x2048 .bf16) (sh : FVec Ideal S384x128 .bf16) (hsh : IsShift sh)
    (b w3 w0 w1 w2 : FVec Ideal S1x2048 .f32) (tail : FVec Ideal S8x2048 .f32) (l : Fin 128) (d : Fin 2048) (T : ℕ) (u : ℕ → EReal)
    (hx : ∀ l : Fin 128, x (ix3 0 l d) = u (T + l.val + 3))
    (ht : ∀ r : Fin 8, 5 ≤ r.val → tail (ix2 r d) = u (T + r.val - 5)) :
    actX (preX x sh b w3 w0 w1 w2) tail w0 w1 w2 (ix2 l d) =
      silu (convAt u (b (ix2 0 d)) (w0 (ix2 0 d)) (w1 (ix2 0 d)) (w2 (ix2 0 d)) (w3 (ix2 0 d)) (T + l.val)) := by
  have hp := fun l => preX_apply x sh hsh b w3 w0 w1 w2 l d T u hx
  have t0 := fun r : Fin 8 => tapX_apply 3 (by omega) (by omega) (by omega) w0 tail r d T u ht
  have t1 := fun r : Fin 8 => tapX_apply 2 (by omega) (by omega) (by omega) w1 tail r d T u ht
  have t2 := fun r : Fin 8 => tapX_apply 1 (by omega) (by omega) (by omega) w2 tail r d T u ht
  pointwise [actX]
  simp only [t0, t1, t2, hp]
  have key : (if h : l.val < 8 then
        b (ix2 0 d) + w3 (ix2 0 d) * u (T + l.val + 3) + w0 (ix2 0 d) * (if 3 ≤ l.val then u (T + l.val) else 0)
          + w1 (ix2 0 d) * (if 2 ≤ l.val then u (T + l.val + 1) else 0)
          + w2 (ix2 0 d) * (if 1 ≤ l.val then u (T + l.val + 2) else 0)
          + ((if l.val < 3 then w0 (ix2 0 d) * u (T + l.val + 3 - 3) else 0)
            + (if l.val < 2 then w1 (ix2 0 d) * u (T + l.val + 3 - 2) else 0)
            + (if l.val < 1 then w2 (ix2 0 d) * u (T + l.val + 3 - 1) else 0))
      else b (ix2 0 d) + w3 (ix2 0 d) * u (T + (8 + (l.val - 8)) + 3)
          + w0 (ix2 0 d) * (if 3 ≤ 8 + (l.val - 8) then u (T + (8 + (l.val - 8))) else 0)
          + w1 (ix2 0 d) * (if 2 ≤ 8 + (l.val - 8) then u (T + (8 + (l.val - 8)) + 1) else 0)
          + w2 (ix2 0 d) * (if 1 ≤ 8 + (l.val - 8) then u (T + (8 + (l.val - 8)) + 2) else 0)) =
      convAt u (b (ix2 0 d)) (w0 (ix2 0 d)) (w1 (ix2 0 d)) (w2 (ix2 0 d)) (w3 (ix2 0 d)) (T + l.val) := by
    unfold convAt
    split
    · exact conv_first l.val _ _ _ _ _ _ _ _ _
    · have e : 8 + (l.val - 8) = l.val := by omega
      rw [e]
      exact conv_rest l.val (by omega) _ _ _ _ _ _ _ _ _
  rw [key]
  rfl

/-- The convolution of a chunk's 512 channels before the rows of the previous chunk are added. -/
def preG (x : FVec Ideal S1x128x512 .bf16) (sh : FVec Ideal S384x128 .bf16) (b w3 w0 w1 w2 : FVec Ideal S1x512 .f32) :
    FVec Ideal S128x512 .f32 :=
  have cur : FVec Ideal S128x512 .bf16 := shapeCast S128x512 x shapeCasts_S1x128x512_S128x512
  have shifted : FVec Ideal S384x512 .f32 :=
    matmul dot_S384x128_S128x512_S384x512_1_0_0_1_n_n none sh cur (constant S384x512 .f32 0x00000000#32)
  addf (addf (addf
    (addf (broadcastTo S128x512 (shapeCast S1x512 b shapeCasts_S1x512_S1x512) broadcasts_S1x512_S128x512)
      (mulf (broadcastTo S128x512 (shapeCast S1x512 w3 shapeCasts_S1x512_S1x512) broadcasts_S1x512_S128x512)
        (extf .f32 cur bitsLt_bf16_f32)))
    (mulf (broadcastTo S128x512 (shapeCast S1x512 w0 shapeCasts_S1x512_S1x512) broadcasts_S1x512_S128x512)
      (extractStridedSlice S128x512 ![0, 0] shifted slices_S384x512_o0_0_S128x512)))
    (mulf (broadcastTo S128x512 (shapeCast S1x512 w1 shapeCasts_S1x512_S1x512) broadcasts_S1x512_S128x512)
      (extractStridedSlice S128x512 ![128, 0] shifted slices_S384x512_o128_0_S128x512)))
    (mulf (broadcastTo S128x512 (shapeCast S1x512 w2 shapeCasts_S1x512_S1x512) broadcasts_S1x512_S128x512)
      (extractStridedSlice S128x512 ![256, 0] shifted slices_S384x512_o256_0_S128x512))

/-- One tap's share of the first eight rows, from the eight rows kept of the chunk before. -/
def tapG (k : BitVec 32) (w : FVec Ideal S1x512 .f32) (tail : FVec Ideal S8x512 .f32) : FVec Ideal S8x512 .f32 :=
  select (cmpi .slt (iota .tc S8x512 32 [0] iota_S8x512_d0_w32) (broadcast S8x512 k))
    (mulf (broadcastTo S8x512 (shapeCast S1x512 w shapeCasts_S1x512_S1x512) broadcasts_S1x512_S8x512)
      (dynamicRotate 0 k none tail rotates_S8x512_d0))
    (broadcast S8x512 (Scalar.ofBits .f32 0x00000000#32 : Ideal .f32))

/-- The activated convolution of a chunk's 512 channels. -/
def actG (pre : FVec Ideal S128x512 .f32) (tail : FVec Ideal S8x512 .f32) (w0 w1 w2 : FVec Ideal S1x512 .f32) :
    FVec Ideal S128x512 .f32 :=
  have acc : FVec Ideal S128x512 .f32 := concatenate S128x512 0
    [⟨S8x512, addf (extractStridedSlice S8x512 ![0, 0] pre slices_S128x512_o0_0_S8x512)
      (addf (addf (addf (broadcast S8x512 (Scalar.ofBits .f32 0x00000000#32 : Ideal .f32)) (tapG 3#32 w0 tail)) (tapG 2#32 w1 tail)) (tapG 1#32 w2 tail))⟩,
     ⟨S120x512, extractStridedSlice S120x512 ![8, 0] pre slices_S128x512_o8_0_S120x512⟩]
    concatenates_S8x512_S120x512_S128x512_d0
  mulf acc (logistic acc)

theorem preG_apply (x : FVec Ideal S1x128x512 .bf16) (sh : FVec Ideal S384x128 .bf16) (hsh : IsShift sh)
    (b w3 w0 w1 w2 : FVec Ideal S1x512 .f32) (l : Fin 128) (d : Fin 512) (T : ℕ) (u : ℕ → EReal)
    (hx : ∀ l : Fin 128, x (ix3 0 l d) = u (T + l.val + 3)) :
    preG x sh b w3 w0 w1 w2 (ix2 l d) =
      b (ix2 0 d) + w3 (ix2 0 d) * u (T + l.val + 3) + w0 (ix2 0 d) * (if 3 ≤ l.val then u (T + l.val) else 0)
        + w1 (ix2 0 d) * (if 2 ≤ l.val then u (T + l.val + 1) else 0)
        + w2 (ix2 0 d) * (if 1 ≤ l.val then u (T + l.val + 2) else 0) := by
  have h0 := shift_sum sh hsh 0 l T u _ hx (by have := l.isLt; show 128 * 0 + l.val < 384; omega)
  have h1 := shift_sum sh hsh 1 l T u _ hx (by have := l.isLt; show 128 * 1 + l.val < 384; omega)
  have h2 := shift_sum sh hsh 2 l T u _ hx (by have := l.isLt; show 128 * 2 + l.val < 384; omega)
  pointwise [preG]
  simp only [Fin.val_zero, Fin.val_one, Fin.val_two, Nat.mul_zero, Nat.zero_add, Nat.mul_one, Nat.add_zero, Nat.reduceMul] at h0 h1 h2
  have e1 : (2 ≤ l.val) = (3 ≤ l.val + 1) := by simp
  have e2 : (1 ≤ l.val) = (3 ≤ l.val + 2) := by simp
  simp only [e1, e2, ← Nat.add_assoc] at h0 h1 h2 ⊢
  rw [h0, h1, h2, hx l]

theorem tapG_apply (k : ℕ) (hk : k < 8) (hk0 : 0 < k) (hk3 : k ≤ 3) (w : FVec Ideal S1x512 .f32) (tail : FVec Ideal S8x512 .f32)
    (l : Fin 8) (d : Fin 512) (T : ℕ) (u : ℕ → EReal) (ht : ∀ r : Fin 8, 5 ≤ r.val → tail (ix2 r d) = u (T + r.val - 5)) :
    tapG (BitVec.ofNat 32 k) w tail (ix2 l d) = if l.val < k then w (ix2 0 d) * u (T + l.val + 3 - k) else 0 := by
  pointwise [tapG]
  rw [cmpi_slt_fin l ⟨k, hk⟩, select_ite]
  have e : (BitVec.ofNat 32 k).toNat = k := by rw [BitVec.toNat_ofNat]; omega
  split
  · rename_i hl
    have hl : l.val < k := hl
    refine congrArg _ ((ht _ ?_).trans (congrArg u ?_))
    · show 5 ≤ (l.val + 8 - (BitVec.ofNat 32 k).toNat % 8) % 8
      rw [e]; omega
    · show T + (l.val + 8 - (BitVec.ofNat 32 k).toNat % 8) % 8 - 5 = _
      rw [e]; omega
  · rfl

theorem actG_apply (x : FVec Ideal S1x128x512 .bf16) (sh : FVec Ideal S384x128 .bf16) (hsh : IsShift sh)
    (b w3 w0 w1 w2 : FVec Ideal S1x512 .f32) (tail : FVec Ideal S8x512 .f32) (l : Fin 128) (d : Fin 512) (T : ℕ) (u : ℕ → EReal)
    (hx : ∀ l : Fin 128, x (ix3 0 l d) = u (T + l.val + 3))
    (ht : ∀ r : Fin 8, 5 ≤ r.val → tail (ix2 r d) = u (T + r.val - 5)) :
    actG (preG x sh b w3 w0 w1 w2) tail w0 w1 w2 (ix2 l d) =
      silu (convAt u (b (ix2 0 d)) (w0 (ix2 0 d)) (w1 (ix2 0 d)) (w2 (ix2 0 d)) (w3 (ix2 0 d)) (T + l.val)) := by
  have hp := fun l => preG_apply x sh hsh b w3 w0 w1 w2 l d T u hx
  have t0 := fun r : Fin 8 => tapG_apply 3 (by omega) (by omega) (by omega) w0 tail r d T u ht
  have t1 := fun r : Fin 8 => tapG_apply 2 (by omega) (by omega) (by omega) w1 tail r d T u ht
  have t2 := fun r : Fin 8 => tapG_apply 1 (by omega) (by omega) (by omega) w2 tail r d T u ht
  pointwise [actG]
  simp only [t0, t1, t2, hp]
  have key : (if h : l.val < 8 then
        b (ix2 0 d) + w3 (ix2 0 d) * u (T + l.val + 3) + w0 (ix2 0 d) * (if 3 ≤ l.val then u (T + l.val) else 0)
          + w1 (ix2 0 d) * (if 2 ≤ l.val then u (T + l.val + 1) else 0)
          + w2 (ix2 0 d) * (if 1 ≤ l.val then u (T + l.val + 2) else 0)
          + ((if l.val < 3 then w0 (ix2 0 d) * u (T + l.val + 3 - 3) else 0)
            + (if l.val < 2 then w1 (ix2 0 d) * u (T + l.val + 3 - 2) else 0)
            + (if l.val < 1 then w2 (ix2 0 d) * u (T + l.val + 3 - 1) else 0))
      else b (ix2 0 d) + w3 (ix2 0 d) * u (T + (8 + (l.val - 8)) + 3)
          + w0 (ix2 0 d) * (if 3 ≤ 8 + (l.val - 8) then u (T + (8 + (l.val - 8))) else 0)
          + w1 (ix2 0 d) * (if 2 ≤ 8 + (l.val - 8) then u (T + (8 + (l.val - 8)) + 1) else 0)
          + w2 (ix2 0 d) * (if 1 ≤ 8 + (l.val - 8) then u (T + (8 + (l.val - 8)) + 2) else 0)) =
      convAt u (b (ix2 0 d)) (w0 (ix2 0 d)) (w1 (ix2 0 d)) (w2 (ix2 0 d)) (w3 (ix2 0 d)) (T + l.val) := by
    unfold convAt
    split
    · exact conv_first l.val _ _ _ _ _ _ _ _ _
    · have e : 8 + (l.val - 8) = l.val := by omega
      rw [e]
      exact conv_rest l.val (by omega) _ _ _ _ _ _ _ _ _
  rw [key]
  rfl

end Cert.KernelIdeal.Chunk
-- ==== Proof.Scalars.lean ====
module

public import Idealize.ShloMosaic.Lib.Pointwise

@[expose] public section

set_option maxRecDepth 16384

noncomputable section

namespace Cert.Ssd

open Idealize.ShloMosaic
open scoped BigOperators

/-- `log₂ e`. -/
def L2E : EReal := (((Real.log 2)⁻¹ : ℝ) : EReal)

theorem L_pos : 0 < (Real.log 2)⁻¹ := inv_pos.2 (Real.log_pos (by norm_num))

theorem bot_mul_L : (⊥ : EReal) * L2E = ⊥ := EReal.bot_mul_coe_of_pos L_pos
theorem top_mul_L : (⊤ : EReal) * L2E = ⊤ := EReal.top_mul_coe_of_pos L_pos
theorem coe_mul_L (x : ℝ) : (x : EReal) * L2E = ((x * (Real.log 2)⁻¹ : ℝ) : EReal) := (EReal.coe_mul _ _).symm

theorem add_mul_L (x y : EReal) : (x + y) * L2E = x * L2E + y * L2E := by
  induction x using EReal.rec with
  | bot => rw [EReal.bot_add, bot_mul_L, EReal.bot_add]
  | top =>
    induction y using EReal.rec with
    | bot => rw [EReal.add_bot, bot_mul_L, EReal.add_bot]
    | top => rw [EReal.top_add_top, top_mul_L, EReal.top_add_top]
    | coe y => rw [EReal.top_add_coe, top_mul_L, coe_mul_L, EReal.top_add_coe]
  | coe x =>
    induction y using EReal.rec with
    | bot => rw [EReal.add_bot, bot_mul_L, EReal.add_bot]
    | top => rw [EReal.coe_add_top, top_mul_L, coe_mul_L, EReal.coe_add_top]
    | coe y => rw [← EReal.coe_add, coe_mul_L, coe_mul_L, coe_mul_L, ← EReal.coe_add, add_mul]

theorem sum_mul_L {ι : Type} (s : Finset ι) (f : ι → EReal) : (∑ i ∈ s, f i) * L2E = ∑ i ∈ s, f i * L2E := by
  classical
  induction s using Finset.induction_on with
  | empty => simp
  | insert a s h ih => rw [Finset.sum_insert h, Finset.sum_insert h, add_mul_L, ih]

theorem exp2_real (x : ℝ) : Real.rpow 2 (x * (Real.log 2)⁻¹) = Real.exp x := by
  show (2 : ℝ) ^ (x * (Real.log 2)⁻¹) = _
  rw [Real.rpow_def_of_pos (by norm_num)]
  congr 1
  have : Real.log 2 ≠ 0 := (Real.log_pos (by norm_num)).ne'
  field_simp

theorem exp2_mul_L (x : EReal) : Ideal.exp2 (x * L2E) = Ideal.exp x := by
  induction x using EReal.rec with
  | bot => rw [bot_mul_L]; rfl
  | top => rw [top_mul_L]; rfl
  | coe x => rw [coe_mul_L]; exact congrArg (fun r : ℝ => (r : EReal)) (exp2_real x)

theorem exp2_sub (a b : EReal) (ha : a ≤ b) (hb : b ≤ 0) : Ideal.exp2 (a * L2E - b * L2E) = Ideal.exp (a - b) := by
  induction b using EReal.rec with
  | bot =>
    obtain rfl := le_bot_iff.1 ha
    rw [bot_mul_L]
    rfl
  | top => exact absurd hb (by simp)
  | coe b =>
    induction a using EReal.rec with
    | bot => rw [bot_mul_L, sub_eq_add_neg, EReal.bot_add, sub_eq_add_neg, EReal.bot_add]; rfl
    | top => exact absurd (ha.trans hb) (by simp)
    | coe a => rw [coe_mul_L, coe_mul_L, ← EReal.coe_sub, ← EReal.coe_sub, ← sub_mul]; exact congrArg (fun r : ℝ => (r : EReal)) (exp2_real _)

/-- The kernel's decay, one exponential of both factors, is the decay times the step. -/
theorem decay_eq (a b d : EReal) (ha : a ≤ b) (hb : b ≤ 0) (hd : 0 ≤ d) :
    Ideal.exp2 (a * L2E - (b * L2E - Ideal.log d * L2E)) = Ideal.exp (a - b) * d := by
  induction b using EReal.rec with
  | bot =>
    obtain rfl := le_bot_iff.1 ha
    rw [bot_mul_L, sub_eq_add_neg ⊥ (Ideal.log d * L2E), EReal.bot_add]
    show (0 : EReal) = (0 : EReal) * d
    rw [zero_mul]
  | top => exact absurd hb (by simp)
  | coe b =>
    induction a using EReal.rec with
    | bot =>
      rw [bot_mul_L, sub_eq_add_neg, EReal.bot_add, sub_eq_add_neg, EReal.bot_add]
      show (0 : EReal) = (0 : EReal) * d
      rw [zero_mul]
    | top => exact absurd (ha.trans hb) (by simp)
    | coe a =>
      rw [coe_mul_L, coe_mul_L, ← EReal.coe_sub]
      have hE : Ideal.exp ((a - b : ℝ) : EReal) = ((Real.exp (a - b) : ℝ) : EReal) := rfl
      rw [hE]
      induction d using EReal.rec with
      | bot => exact absurd hd (by simp)
      | top =>
        have : Ideal.log ⊤ = ⊤ := rfl
        rw [this, top_mul_L, EReal.coe_mul_top_of_pos (Real.exp_pos _), sub_eq_add_neg _ ⊤, EReal.neg_top, EReal.add_bot, sub_eq_add_neg _ ⊥, EReal.neg_bot, EReal.coe_add_top]
        rfl
      | coe d =>
        have hd : 0 ≤ d := by exact_mod_cast hd
        by_cases h0 : d ≤ 0
        · have e : d = 0 := le_antisymm h0 hd
          subst e
          have : Ideal.log ((0 : ℝ) : EReal) = ⊥ := if_pos le_rfl
          rw [this, bot_mul_L, sub_eq_add_neg _ ⊥, EReal.neg_bot, EReal.coe_add_top, sub_eq_add_neg _ ⊤, EReal.neg_top, EReal.add_bot, EReal.coe_zero, mul_zero]
          rfl
        · have : Ideal.log (d : EReal) = ((Real.log d : ℝ) : EReal) := if_neg h0
          rw [this, coe_mul_L, ← EReal.coe_sub, ← EReal.coe_sub, ← sub_mul, ← sub_mul]
          show ((Real.rpow 2 _ : ℝ) : EReal) = _
          rw [exp2_real, ← EReal.coe_mul]
          congr 1
          rw [sub_sub_eq_add_sub, Real.exp_sub, Real.exp_add, Real.exp_log (lt_of_not_ge h0), Real.exp_sub]
          ring

/-- The softplus, in the form that cannot overflow. -/
def softplus (x : EReal) : EReal := max x 0 + Ideal.log1p (Ideal.exp (-(max x (-x))))

theorem exp_nonneg (x : EReal) : 0 ≤ Ideal.exp x := by
  induction x using EReal.rec with
  | bot => exact le_rfl
  | top => exact le_top
  | coe x => exact EReal.coe_nonneg.2 (Real.exp_pos x).le

theorem log1p_nonneg (x : EReal) (h : 0 ≤ x) : 0 ≤ Ideal.log1p x := by
  unfold Ideal.log1p
  induction x using EReal.rec with
  | bot => exact absurd h (by simp)
  | top => rw [show (1 : EReal) + ⊤ = ⊤ from EReal.coe_add_top 1]; exact le_top
  | coe x =>
    have h : 0 ≤ x := by exact_mod_cast h
    rw [show (1 : EReal) + (x : EReal) = ((1 + x : ℝ) : EReal) from rfl]
    show 0 ≤ if 1 + x ≤ 0 then (⊥ : EReal) else ((Real.log (1 + x) : ℝ) : EReal)
    rw [if_neg (by linarith)]
    exact EReal.coe_nonneg.2 (Real.log_nonneg (by linarith))

theorem softplus_nonneg (x : EReal) : 0 ≤ softplus x :=
  add_nonneg (le_max_right _ _) (log1p_nonneg _ (exp_nonneg _))

theorem step_nonpos (d x : EReal) (hd : 0 ≤ d) : d * -Ideal.exp x ≤ 0 := by
  rw [mul_neg]
  exact EReal.neg_le_zero.2 (mul_nonneg hd (exp_nonneg x))

/-- The log decay cumulated over a chunk. -/
def cum (p : Fin 128 → EReal) (l : Fin 128) : EReal := ∑ s : Fin 128, if s.val ≤ l.val then p s else 0

theorem cum_nonpos (p : Fin 128 → EReal) (h : ∀ s, p s ≤ 0) (l : Fin 128) : cum p l ≤ 0 :=
  Finset.sum_nonpos fun s _ => by split; exacts [h s, le_rfl]

theorem cum_anti (p : Fin 128 → EReal) (h : ∀ s, p s ≤ 0) (k l : Fin 128) (hkl : k.val ≤ l.val) : cum p l ≤ cum p k :=
  Finset.sum_le_sum fun s _ => by
    by_cases h1 : s.val ≤ k.val
    · rw [if_pos h1, if_pos (h1.trans hkl)]
    · rw [if_neg h1]; split; exacts [h s, le_rfl]

end Cert.Ssd
-- ==== Proof.Decay.lean ====
module

public import proofs.«01_k».proof.Proof.Gen.KernelIdeal.Skeleton
public import proofs.«01_k».proof.Proof.Conv
public import proofs.«01_k».proof.Proof.Scalars

@[expose] public section

set_option maxRecDepth 16384

noncomputable section

namespace Cert.KernelIdeal.Chunk

open Cert.KernelIdeal Cert.KernelIdeal.Gen Idealize.ShloMosaic Idealize.ShloMosaic.TcCoe Idealize.ShloMosaic.Tactic
open Cert.Ssd
open scoped BigOperators

/-- The steps of a chunk. -/
def dtM (d : FVec Ideal S1x128x128 .f32) (bias : FVec Ideal S1x128 .f32) : FVec Ideal S128x128 .f32 :=
  k0_pay33 (k0_pay28 d bias) (k0_pay29 d bias) (k0_pay30 d bias) (k0_pay31 (F := Ideal) d bias) k0_pay32

/-- The cumulated log decay of a chunk, in base two. -/
def cumM (d : FVec Ideal S1x128x128 .f32) (bias al : FVec Ideal S1x128 .f32) : FVec Ideal S128x128 .f32 :=
  k0_pay35 (k0_pay28 d bias) (k0_pay29 d bias) (k0_pay30 d bias) (k0_pay31 (F := Ideal) d bias) k0_pay32 al

/-- The decay to the chunk's end times the step, a head in a row. -/
def endM (d : FVec Ideal S1x128x128 .f32) (bias al : FVec Ideal S1x128 .f32) : FVec Ideal S128x128 .f32 :=
  k0_pay36 (k0_pay28 d bias) (k0_pay29 d bias) (k0_pay30 d bias) (k0_pay31 (F := Ideal) d bias) k0_pay32 al

/-- The cumulated log decay less the step's logarithm, a head in a row. -/
def srcM (d : FVec Ideal S1x128x128 .f32) (bias al : FVec Ideal S1x128 .f32) : FVec Ideal S128x128 .f32 :=
  k0_pay37 (k0_pay28 d bias) (k0_pay29 d bias) (k0_pay30 d bias) (k0_pay31 (F := Ideal) d bias) k0_pay32 al

theorem kappa_log2e : (Named.named κ "log2_e" 0x3FB8AA3B#32 : Ideal .f32) = L2E := by
  rfl

theorem sub_zero_E (x : EReal) : x - 0 = x := by rw [sub_eq_add_neg, neg_zero, add_zero]
theorem zero_sub_E (x : EReal) : 0 - x = -x := by rw [sub_eq_add_neg, zero_add]

theorem dtM_apply (d : FVec Ideal S1x128x128 .f32) (bias : FVec Ideal S1x128 .f32) (s h : Fin 128) :
    dtM d bias (ix2 s h) = softplus (d (ix3 0 s h) + bias (ix2 0 h)) := by
  pointwise [dtM, k0_pay33, k0_pay28, k0_pay29, k0_pay30, k0_pay31, k0_pay32]
  rw [if_neg (by simp), zero_sub_E]
  rfl

theorem cumM_apply (d : FVec Ideal S1x128x128 .f32) (bias al : FVec Ideal S1x128 .f32) (l h : Fin 128) :
    cumM d bias al (ix2 l h) = cum (fun s => dtM d bias (ix2 s h) * -Ideal.exp (al (ix2 0 h))) l * L2E := by
  have e2 : k0_pay33 (k0_pay28 d bias) (k0_pay29 d bias) (k0_pay30 d bias) (k0_pay31 (F := Ideal) d bias) k0_pay32 = dtM d bias := rfl
  unfold cumM k0_pay35
  rw [e2]
  generalize dtM d bias = D
  pointwise [k0_pay34]
  rw [cum, sum_mul_L, kappa_log2e]
  refine Finset.sum_congr rfl fun s _ => ?_
  rw [cmpi_sge_fin, zero_sub_E]
  split
  · rw [show (FloatOps.sitofp FTy.f32 (BitVec.setWidth 32 1#1) : Ideal .f32) = 1 by
      show (((BitVec.setWidth 32 1#1).toInt : ℝ) : EReal) = 1
      rw [show (BitVec.setWidth 32 1#1 : BitVec 32).toInt = 1 by decide]; simp]
    rw [one_mul, ← mul_assoc]
  · rw [show (FloatOps.sitofp FTy.f32 (BitVec.setWidth 32 0#1) : Ideal .f32) = 0 by
      show (((BitVec.setWidth 32 0#1).toInt : ℝ) : EReal) = 0
      rw [show (BitVec.setWidth 32 0#1 : BitVec 32).toInt = 0 by decide]; simp]
    rw [zero_mul, zero_mul]

theorem endM_apply (d : FVec Ideal S1x128x128 .f32) (bias al : FVec Ideal S1x128 .f32) (h s : Fin 128) :
    endM d bias al (ix2 h s) =
      Ideal.exp2 (cumM d bias al (ix2 127 h) - cumM d bias al (ix2 s h)) * dtM d bias (ix2 s h) := by
  unfold cumM dtM
  pointwise [endM, k0_pay36]
  rfl

theorem srcM_apply (d : FVec Ideal S1x128x128 .f32) (bias al : FVec Ideal S1x128 .f32) (h s : Fin 128) :
    srcM d bias al (ix2 h s) = cumM d bias al (ix2 s h) - Ideal.log (dtM d bias (ix2 s h)) * L2E := by
  unfold cumM dtM
  pointwise [srcM, k0_pay37]
  rw [kappa_log2e]

end Cert.KernelIdeal.Chunk
-- ==== Proof.Block.lean ====
module

public import proofs.«01_k».proof.Proof.Decay
public import Idealize.ShloMosaic.Lib.Pipeline.ValueKit

@[expose] public section

noncomputable section

namespace Cert.KernelIdeal.Chunk

open Cert.KernelIdeal Cert.KernelIdeal.Gen Idealize.ShloMosaic Idealize.ShloMosaic.TcCoe Idealize.ShloMosaic.Tactic

theorem slCol {h : ℕ} (hh : h < 32) : S128x128.Slices ![0, h] S128x1 :=
  ⟨rfl, fun a => by fin_cases a <;> simp <;> omega⟩
theorem slRow {h : ℕ} (hh : h < 32) : S128x128.Slices ![h, 0] S1x128 :=
  ⟨rfl, fun a => by fin_cases a <;> simp <;> omega⟩
theorem slGrp {g : ℕ} (hg : g < 4) : S128x512.Slices ![0, 128 * g] S128x128 :=
  ⟨rfl, fun a => by fin_cases a <;> simp <;> omega⟩
theorem slPair {p : ℕ} (hp : p < 16) : S128x2048.Slices ![0, 128 * p] S128x128 :=
  ⟨rfl, fun a => by fin_cases a <;> simp <;> omega⟩

/-- A head's column of a chunk's matrix. -/
def colOf (A : FVec Ideal S128x128 .f32) (h : ℕ) (hh : h < 32) : FVec Ideal S128x1 .f32 :=
  extractStridedSlice S128x1 ![0, h] A (slCol hh)
/-- A head's row of a chunk's transposed matrix. -/
def rowOf (A : FVec Ideal S128x128 .f32) (h : ℕ) (hh : h < 32) : FVec Ideal S1x128 .f32 :=
  extractStridedSlice S1x128 ![h, 0] A (slRow hh)
/-- A group's columns. -/
def grpOf (A : FVec Ideal S128x512 .f32) (g : ℕ) (hg : g < 4) : FVec Ideal S128x128 .f32 :=
  extractStridedSlice S128x128 ![0, 128 * g] A (slGrp hg)
/-- A pair's columns of the activations. -/
def pairOf (A : FVec Ideal S128x2048 .f32) (p : ℕ) (hp : p < 16) : FVec Ideal S128x128 .bf16 :=
  extractStridedSlice S128x128 ![0, 128 * p] (truncf .bf16 A bitsLt_bf16_f32) (slPair hp)

/-- A group's scores. -/
def scoreOf (B C : FVec Ideal S128x512 .f32) (g : ℕ) (hg : g < 4) : FVec Ideal S128x128 .f32 :=
  matmul dot_S128x128_S128x128_S128x128_1_1_0_0_n_n none (truncf .bf16 (grpOf C g hg) bitsLt_bf16_f32)
    (truncf .bf16 (grpOf B g hg) bitsLt_bf16_f32) (constant S128x128 .f32 0x00000000#32)

/-- The output of pair `p` over a chunk. -/
def pieceY (A Sr : FVec Ideal S128x128 .f32) (X : FVec Ideal S128x2048 .f32) (B C : FVec Ideal S128x512 .f32)
    (prev : FVec Ideal S128x128 .f32) (p : ℕ) (hp : p < 16) : FVec Ideal S128x128 .f32 :=
  pairY (colOf A (2 * p) (by omega)) (colOf A (2 * p + 1) (by omega)) (rowOf Sr (2 * p) (by omega)) (rowOf Sr (2 * p + 1) (by omega))
    (grpOf C (p / 4) (by omega)) (scoreOf B C (p / 4) (by omega)) prev (pairOf X p hp)

/-- The state of pair `p` after a chunk. -/
def pieceS (A E : FVec Ideal S128x128 .f32) (X : FVec Ideal S128x2048 .f32) (B : FVec Ideal S128x512 .f32)
    (prev : FVec Ideal S128x128 .f32) (p : ℕ) (hp : p < 16) : FVec Ideal S128x128 .f32 :=
  pairS (colOf A (2 * p) (by omega)) (colOf A (2 * p + 1) (by omega)) (rowOf E (2 * p) (by omega)) (rowOf E (2 * p + 1) (by omega))
    (transpose S128x128 [1, 0] (grpOf B (p / 4) (by omega)) transposes_S128x128_p1_0_S128x128) prev (pairOf X p hp)

theorem inbPair {p : ℕ} (hp : p < 16) (a : Fin S128x2048.rank) : ![0, 128 * p] a + S128x128.size a ≤ S128x2048.size a := by
  fin_cases a <;> simp [Shape.size] <;> omega
theorem inbX {k : ℕ} (hk : k < 4) (a : Fin S4x2048.rank) : ![k, 0] a + S1x2048.size a ≤ S4x2048.size a := by
  fin_cases a <;> simp [Shape.size] <;> omega
theorem inbG {k : ℕ} (hk : k < 4) (a : Fin S4x512.rank) : ![k, 0] a + S1x512.size a ≤ S4x512.size a := by
  fin_cases a <;> simp [Shape.size] <;> omega

/-- A pair's columns of the state. -/
def ldPair (prev : FVec Ideal S128x2048 .f32) (p : ℕ) (hp : p < 16) : FVec Ideal S128x128 .f32 :=
  View.ld (Val := Elt Ideal) (e' := .f32) (S := S128x2048) prev (Rect.unit (s := S128x2048) ![0, 128 * p] S128x128.size (inbPair hp))
/-- A tap's weights. -/
def rowX (w : FVec Ideal S4x2048 .f32) (k : ℕ) (hk : k < 4) : FVec Ideal S1x2048 .f32 :=
  View.ld (Val := Elt Ideal) (e' := .f32) (S := S4x2048) w (Rect.unit (s := S4x2048) ![k, 0] S1x2048.size (inbX hk))
/-- A tap's weights, for a group's channels. -/
def rowG (w : FVec Ideal S4x512 .f32) (k : ℕ) (hk : k < 4) : FVec Ideal S1x512 .f32 :=
  View.ld (Val := Elt Ideal) (e' := .f32) (S := S4x512) w (Rect.unit (s := S4x512) ![k, 0] S1x512.size (inbG hk))

/-- A chunk's activations. -/
def xsB (x : FVec Ideal S1x128x2048 .bf16) (sh : FVec Ideal S384x128 .bf16) (w : FVec Ideal S4x2048 .f32) (b : FVec Ideal S1x2048 .f32)
    (t : FVec Ideal S8x2048 .f32) : FVec Ideal S128x2048 .f32 :=
  actX (preX x sh b (rowX w 3 (by omega)) (rowX w 0 (by omega)) (rowX w 1 (by omega)) (rowX w 2 (by omega))) t
    (rowX w 0 (by omega)) (rowX w 1 (by omega)) (rowX w 2 (by omega))
/-- A chunk's group projections. -/
def grB (x : FVec Ideal S1x128x512 .bf16) (sh : FVec Ideal S384x128 .bf16) (w : FVec Ideal S4x512 .f32) (b : FVec Ideal S1x512 .f32)
    (t : FVec Ideal S8x512 .f32) : FVec Ideal S128x512 .f32 :=
  actG (preG x sh b (rowG w 3 (by omega)) (rowG w 0 (by omega)) (rowG w 1 (by omega)) (rowG w 2 (by omega))) t
    (rowG w 0 (by omega)) (rowG w 1 (by omega)) (rowG w 2 (by omega))

/-- The first chunk's rows before it. -/
def zeroX : FVec Ideal S8x2048 .f32 := shapeCast S8x2048 (broadcast S8x2048 (Scalar.ofBits .f32 0x00000000#32 : Ideal .f32)) shapeCasts_S8x2048_S8x2048
/-- The first chunk's rows before it, for a group's channels. -/
def zeroG : FVec Ideal S8x512 .f32 := shapeCast S8x512 (broadcast S8x512 (Scalar.ofBits .f32 0x00000000#32 : Ideal .f32)) shapeCasts_S8x512_S8x512
/-- The first chunk's state before it. -/
def zeroS : FVec Ideal S128x2048 .f32 := shapeCast S128x2048 (broadcast S128x2048 (Scalar.ofBits .f32 0x00000000#32 : Ideal .f32)) shapeCasts_S128x2048_S128x2048

/-- The state after a chunk. -/
def stateB (A E : FVec Ideal S128x128 .f32) (X : FVec Ideal S128x2048 .f32) (B : FVec Ideal S128x512 .f32)
    (prev : FVec Ideal S128x2048 .f32) : FVec Ideal S128x2048 .f32 := fun y =>
  have hp : (y 1).val / 128 < 16 := Nat.div_lt_of_lt_mul (y 1).isLt
  pieceS A E X B (ldPair prev ((y 1).val / 128) hp) ((y 1).val / 128) hp (ix2 (y 0) ⟨(y 1).val % 128, Nat.mod_lt _ (by norm_num)⟩)

/-- The heads' output over a chunk. -/
def yB (A Sr : FVec Ideal S128x128 .f32) (X : FVec Ideal S128x2048 .f32) (B C : FVec Ideal S128x512 .f32)
    (prev : FVec Ideal S128x2048 .f32) : FVec Ideal S128x2048 .f32 := fun y =>
  have hp : (y 1).val / 128 < 16 := Nat.div_lt_of_lt_mul (y 1).isLt
  pieceY A Sr X B C (ldPair prev ((y 1).val / 128) hp) ((y 1).val / 128) hp (ix2 (y 0) ⟨(y 1).val % 128, Nat.mod_lt _ (by norm_num)⟩)

theorem stateB_at (A E : FVec Ideal S128x128 .f32) (X : FVec Ideal S128x2048 .f32) (B : FVec Ideal S128x512 .f32)
    (prev : FVec Ideal S128x2048 .f32) (p : ℕ) (hp : p < 16) (x : S128x128.Idx) (y : S128x2048.Idx)
    (h0 : (y 0).val = (x 0).val) (h1 : (y 1).val = 128 * p + (x 1).val) :
    pieceS A E X B (ldPair prev p hp) p hp x = stateB A E X B prev y := by
  have hx : (x 1).val < 128 := (x 1).isLt
  have e : (y 1).val / 128 = p := by omega
  have e2 : (ix2 (y 0) ⟨(y 1).val % 128, Nat.mod_lt _ (by norm_num)⟩ : S128x128.Idx) = x := by
    funext a
    fin_cases a
    · exact Fin.ext (by simpa using h0)
    · exact Fin.ext (by show (y 1).val % 128 = (x 1).val; omega)
  unfold stateB
  simp only [e2]
  subst e
  rfl

theorem stateB_emb (A E : FVec Ideal S128x128 .f32) (X : FVec Ideal S128x2048 .f32) (B : FVec Ideal S128x512 .f32)
    (prev : FVec Ideal S128x2048 .f32) (p : ℕ) (hp : p < 16) (inb) (x : S128x128.Idx) :
    pieceS A E X B (ldPair prev p hp) p hp x =
      stateB A E X B prev ((Rect.unit (s := S128x2048) ![0, 128 * p] S128x128.size inb).emb x) := by
  refine stateB_at A E X B prev p hp x _ ?_ ?_
  · show 0 + 1 * (x 0).val = _; omega
  · show 128 * p + 1 * (x 1).val = _; omega

theorem yB_at (A Sr : FVec Ideal S128x128 .f32) (X : FVec Ideal S128x2048 .f32) (B C : FVec Ideal S128x512 .f32)
    (prev : FVec Ideal S128x2048 .f32) (p : ℕ) (hp : p < 16) (x : S128x128.Idx) (y : S128x2048.Idx)
    (h0 : (y 0).val = (x 0).val) (h1 : (y 1).val = 128 * p + (x 1).val) :
    pieceY A Sr X B C (ldPair prev p hp) p hp x = yB A Sr X B C prev y := by
  have hx : (x 1).val < 128 := (x 1).isLt
  have e : (y 1).val / 128 = p := by omega
  have e2 : (ix2 (y 0) ⟨(y 1).val % 128, Nat.mod_lt _ (by norm_num)⟩ : S128x128.Idx) = x := by
    funext a
    fin_cases a
    · exact Fin.ext (by simpa using h0)
    · exact Fin.ext (by show (y 1).val % 128 = (x 1).val; omega)
  unfold yB
  simp only [e2]
  subst e
  rfl

theorem whole_idx (inb) (y : S128x2048.Idx) : (Rect.unit (s := S128x2048) ![0, 0] S128x2048.size inb).toLoadRect.idx y = y := by
  funext a
  fin_cases a
  · exact Fin.ext (by show 0 + 1 * (y 0).val = (y 0).val; omega)
  · exact Fin.ext (by show 0 + 1 * (y 1).val = (y 1).val; omega)

/-- The last rows of a chunk. -/
def tailX (x : FVec Ideal S1x128x2048 .bf16) : FVec Ideal S8x2048 .f32 :=
  k0_pay9 (extf .f32 (shapeCast S128x2048 x shapeCasts_S1x128x2048_S128x2048 : FVec Ideal S128x2048 .bf16) bitsLt_bf16_f32)
/-- The last rows of a chunk, for a group's channels. -/
def tailG (x : FVec Ideal S1x128x512 .bf16) : FVec Ideal S8x512 .f32 :=
  shapeCast S8x512 (extractStridedSlice S8x512 ![120, 0]
    (extf .f32 (shapeCast S128x512 x shapeCasts_S1x128x512_S128x512 : FVec Ideal S128x512 .bf16) bitsLt_bf16_f32 : FVec Ideal S128x512 .f32)
    slices_S128x512_o120_0_S8x512) shapeCasts_S8x512_S8x512

theorem slNorm {g : ℕ} (hg : g < 4) : S128x2048.Slices ![0, 512 * g] S128x512 :=
  ⟨rfl, fun a => by fin_cases a <;> simp <;> omega⟩
theorem inbNorm {g : ℕ} (hg : g < 4) (a : Fin S1x2048.rank) : ![0, 512 * g] a + S1x512.size a ≤ S1x2048.size a := by
  fin_cases a <;> simp [Shape.size] <;> omega

/-- The gated output of a chunk. -/
def gateB (Y X : FVec Ideal S128x2048 .f32) (z : FVec Ideal S1x128x2048 .bf16) (ds : FVec Ideal S1x2048 .f32) : FVec Ideal S128x2048 .f32 :=
  have zf : FVec Ideal S128x2048 .f32 := extf .f32 (shapeCast S128x2048 z shapeCasts_S1x128x2048_S128x2048) bitsLt_bf16_f32
  mulf (addf Y (mulf X (broadcastTo S128x2048 (shapeCast S1x2048 ds shapeCasts_S1x2048_S1x2048) broadcasts_S1x2048_S128x2048)))
    (mulf zf (logistic zf))

/-- One group's normed columns. -/
def normB (G : FVec Ideal S128x2048 .f32) (ng : FVec Ideal S1x2048 .f32) (g : ℕ) (hg : g < 4) : FVec Ideal S1x128x512 .bf16 :=
  have s : FVec Ideal S128x512 .f32 := extractStridedSlice S128x512 ![0, 512 * g] G (slNorm hg)
  have q : FVec Ideal S128x1 .f32 := shapeCast S128x1 (multiReduction .add [1] S128 (mulf s s) 0x00000000#32 reduces_S128x512_S128 (.inl rfl) rfl)
    shapeCasts_S128_S128x1
  have r : FVec Ideal S128x1 .f32 := rsqrt (addf (divf q (broadcast S128x1 (Scalar.ofBits .f32 0x44000000#32 : Ideal .f32)))
    (broadcast S128x1 (Scalar.ofBits .f32 0x358637BD#32 : Ideal .f32)))
  shapeCast S1x128x512 (truncf .bf16 (mulf (mulf s (broadcastTo S128x512 r broadcasts_S128x1_S128x512))
    (broadcastTo S128x512 (shapeCast S1x512 (View.ld (Val := Elt Ideal) (e' := .f32) (S := S1x2048) ng
      (Rect.unit (s := S1x2048) ![0, 512 * g] S1x512.size (inbNorm hg)) : FVec Ideal S1x512 .f32) shapeCasts_S1x512_S1x512) broadcasts_S1x512_S128x512))
    bitsLt_bf16_f32) shapeCasts_S128x512_S1x128x512

/-- The output block of a point. -/
def outB (G : FVec Ideal S128x2048 .f32) (ng : FVec Ideal S1x2048 .f32) : FVec Ideal S1x128x2048 .bf16 := fun y =>
  have hg : (y 2).val / 512 < 4 := Nat.div_lt_of_lt_mul (y 2).isLt
  normB G ng ((y 2).val / 512) hg (ix3 (y 0) (y 1) ⟨(y 2).val % 512, Nat.mod_lt _ (by norm_num)⟩)

theorem outB_at (G : FVec Ideal S128x2048 .f32) (ng : FVec Ideal S1x2048 .f32) (g : ℕ) (hg : g < 4) (x : S1x128x512.Idx) (y : S1x128x2048.Idx)
    (h0 : (y 0).val = (x 0).val) (h1 : (y 1).val = (x 1).val) (h2 : (y 2).val = 512 * g + (x 2).val) :
    normB G ng g hg x = outB G ng y := by
  have hx : (x 2).val < 512 := (x 2).isLt
  have e : (y 2).val / 512 = g := by omega
  have e2 : (ix3 (y 0) (y 1) ⟨(y 2).val % 512, Nat.mod_lt _ (by norm_num)⟩ : S1x128x512.Idx) = x := by
    funext a
    fin_cases a
    · exact Fin.ext h0
    · exact Fin.ext h1
    · exact Fin.ext (by show (y 2).val % 512 = (x 2).val; omega)
  unfold outB
  simp only [e2]
  subst e
  rfl

end Cert.KernelIdeal.Chunk
-- ==== Proof.BodyA.lean ====
module

public import proofs.«01_k».proof.Proof.Gen.KernelIdeal.Value
public import Idealize.ShloMosaic.Lib.Pipeline.ValueKit
public import Idealize.ShloMosaic.Lib.Pipeline.ReadBack
public import proofs.«01_k».proof.Proof.Block

@[expose] public section

set_option maxRecDepth 16384
set_option pp.maxSteps 400
noncomputable section
namespace Cert.KernelIdeal.Chunk.CaseA
open Cert.KernelIdeal.Chunk Cert.KernelIdeal Cert.KernelIdeal.Gen Idealize.ShloMosaic Idealize.ShloMosaic.TcCoe Idealize.ShloMosaic.Tactic
open Cert.KernelIdeal.Gen.kernelRun0_A.sl

/-- The activations' word. -/
theorem x_eq (c : Dev nD) (arg3 : Memref sig .tc .vmem S1x128x2048 .bf16) (harg3 : arg3.IsWhole) (arg7 : Memref sig .tc .vmem S384x128 .bf16) (harg7 : arg7.IsWhole) (arg8 : Memref sig .tc .vmem S4x2048 .f32) (harg8 : arg8.IsWhole) (arg11 : Memref sig .tc .vmem S1x2048 .f32) (harg11 : arg11.IsWhole) (arg19 : Memref sig .tc .vmem S8x2048 .f32) (x1 : Vec Ideal S1x128x2048 .bf16) (x5 : Vec Ideal S384x128 .bf16) (x6 : Vec Ideal S4x2048 .f32) (x9 : Vec Ideal S1x2048 .f32) : v76 (F := Ideal) c arg3 harg3 arg7 harg7 arg8 harg8 arg11 harg11 arg19 x1 x5 x6 x9 = xsB x1 x5 x6 x9 zeroX := by
  frame_open
  dsimp only [View.readAt_eq_ld]
  repeat rw [Memref.IsWhole.read_unread]
  repeat (rw [View.ld_unit_lit']; swap; · decide)
  repeat (rw [View.readCov_unit_lit']; swap; · decide)
  rfl

/-- The input projection's word. -/
theorem b_eq (c : Dev nD) (arg4 : Memref sig .tc .vmem S1x128x512 .bf16) (harg4 : arg4.IsWhole) (arg7 : Memref sig .tc .vmem S384x128 .bf16) (harg7 : arg7.IsWhole) (arg9 : Memref sig .tc .vmem S4x512 .f32) (harg9 : arg9.IsWhole) (arg12 : Memref sig .tc .vmem S1x512 .f32) (harg12 : arg12.IsWhole) (arg20 : Memref sig .tc .vmem S8x512 .f32) (x2 : Vec Ideal S1x128x512 .bf16) (x5 : Vec Ideal S384x128 .bf16) (x7 : Vec Ideal S4x512 .f32) (x10 : Vec Ideal S1x512 .f32) : v150 (F := Ideal) c arg4 harg4 arg7 harg7 arg9 harg9 arg12 harg12 arg20 x2 x5 x7 x10 = grB x2 x5 x7 x10 zeroG := by
  frame_open
  dsimp only [View.readAt_eq_ld]
  repeat rw [Memref.IsWhole.read_unread]
  repeat (rw [View.ld_unit_lit']; swap; · decide)
  repeat (rw [View.readCov_unit_lit']; swap; · decide)
  rfl

/-- The output projection's word. -/
theorem c_eq (c : Dev nD) (arg5 : Memref sig .tc .vmem S1x128x512 .bf16) (harg5 : arg5.IsWhole) (arg7 : Memref sig .tc .vmem S384x128 .bf16) (harg7 : arg7.IsWhole) (arg10 : Memref sig .tc .vmem S4x512 .f32) (harg10 : arg10.IsWhole) (arg13 : Memref sig .tc .vmem S1x512 .f32) (harg13 : arg13.IsWhole) (arg21 : Memref sig .tc .vmem S8x512 .f32) (x3 : Vec Ideal S1x128x512 .bf16) (x5 : Vec Ideal S384x128 .bf16) (x8 : Vec Ideal S4x512 .f32) (x11 : Vec Ideal S1x512 .f32) : v224 (F := Ideal) c arg5 harg5 arg7 harg7 arg10 harg10 arg13 harg13 arg21 x3 x5 x8 x11 = grB x3 x5 x8 x11 zeroG := by
  frame_open
  dsimp only [View.readAt_eq_ld]
  repeat rw [Memref.IsWhole.read_unread]
  repeat (rw [View.ld_unit_lit']; swap; · decide)
  repeat (rw [View.readCov_unit_lit']; swap; · decide)
  rfl

/-- The word of `cumM`. -/
theorem cum_eq (c : Dev nD) (arg6 : Memref sig .tc .vmem S1x128x128 .f32) (harg6 : arg6.IsWhole) (arg14 : Memref sig .tc .vmem S1x128 .f32) (harg14 : arg14.IsWhole) (arg15 : Memref sig .tc .vmem S1x128 .f32) (harg15 : arg15.IsWhole) (x4 : Vec Ideal S1x128x128 .f32) (x12 : Vec Ideal S1x128 .f32) (x13 : Vec Ideal S1x128 .f32) : r (F := Ideal) c arg6 harg6 arg14 harg14 arg15 harg15 x4 x12 x13 = cumM x4 x12 x13 := by
  frame_open
  dsimp only [View.readAt_eq_ld]
  repeat rw [Memref.IsWhole.read_unread]
  repeat (rw [View.ld_unit_lit']; swap; · decide)
  rfl

/-- The word of `endM`. -/
theorem end_eq (c : Dev nD) (arg6 : Memref sig .tc .vmem S1x128x128 .f32) (harg6 : arg6.IsWhole) (arg14 : Memref sig .tc .vmem S1x128 .f32) (harg14 : arg14.IsWhole) (arg15 : Memref sig .tc .vmem S1x128 .f32) (harg15 : arg15.IsWhole) (x4 : Vec Ideal S1x128x128 .f32) (x12 : Vec Ideal S1x128 .f32) (x13 : Vec Ideal S1x128 .f32) : r_1 (F := Ideal) c arg6 harg6 arg14 harg14 arg15 harg15 x4 x12 x13 = endM x4 x12 x13 := by
  frame_open
  dsimp only [View.readAt_eq_ld]
  repeat rw [Memref.IsWhole.read_unread]
  repeat (rw [View.ld_unit_lit']; swap; · decide)
  rfl

/-- The word of `srcM`. -/
theorem src_eq (c : Dev nD) (arg6 : Memref sig .tc .vmem S1x128x128 .f32) (harg6 : arg6.IsWhole) (arg14 : Memref sig .tc .vmem S1x128 .f32) (harg14 : arg14.IsWhole) (arg15 : Memref sig .tc .vmem S1x128 .f32) (harg15 : arg15.IsWhole) (x4 : Vec Ideal S1x128x128 .f32) (x12 : Vec Ideal S1x128 .f32) (x13 : Vec Ideal S1x128 .f32) : r_2 (F := Ideal) c arg6 harg6 arg14 harg14 arg15 harg15 x4 x12 x13 = srcM x4 x12 x13 := by
  frame_open
  dsimp only [View.readAt_eq_ld]
  repeat rw [Memref.IsWhole.read_unread]
  repeat (rw [View.ld_unit_lit']; swap; · decide)
  rfl

/-- The first chunk's loads of the state find zeros. -/
theorem loads_eq (c : Dev nD) (arg3 : Memref sig .tc .vmem S1x128x2048 .bf16) (harg3 : arg3.IsWhole) (arg4 : Memref sig .tc .vmem S1x128x512 .bf16) (harg4 : arg4.IsWhole) (arg6 : Memref sig .tc .vmem S1x128x128 .f32) (harg6 : arg6.IsWhole) (arg7 : Memref sig .tc .vmem S384x128 .bf16) (harg7 : arg7.IsWhole) (arg8 : Memref sig .tc .vmem S4x2048 .f32) (harg8 : arg8.IsWhole) (arg9 : Memref sig .tc .vmem S4x512 .f32) (harg9 : arg9.IsWhole) (arg11 : Memref sig .tc .vmem S1x2048 .f32) (harg11 : arg11.IsWhole) (arg12 : Memref sig .tc .vmem S1x512 .f32) (harg12 : arg12.IsWhole) (arg14 : Memref sig .tc .vmem S1x128 .f32) (harg14 : arg14.IsWhole) (arg15 : Memref sig .tc .vmem S1x128 .f32) (harg15 : arg15.IsWhole) (arg19 : Memref sig .tc .vmem S8x2048 .f32) (arg20 : Memref sig .tc .vmem S8x512 .f32) (arg22 : Memref sig .tc .vmem S128x2048 .f32) (x1 : Vec Ideal S1x128x2048 .bf16) (x2 : Vec Ideal S1x128x512 .bf16) (x4 : Vec Ideal S1x128x128 .f32) (x5 : Vec Ideal S384x128 .bf16) (x6 : Vec Ideal S4x2048 .f32) (x7 : Vec Ideal S4x512 .f32) (x9 : Vec Ideal S1x2048 .f32) (x10 : Vec Ideal S1x512 .f32) (x12 : Vec Ideal S1x128 .f32) (x13 : Vec Ideal S1x128 .f32) :
    v322 (F := Ideal) c arg22 = ldPair zeroS 0 (by omega) ∧
    v390 (F := Ideal) c arg3 harg3 arg4 harg4 arg6 harg6 arg7 harg7 arg8 harg8 arg9 harg9 arg11 harg11 arg12 harg12 arg14 harg14 arg15 harg15 arg19 arg20 arg22 x1 x2 x4 x5 x6 x7 x9 x10 x12 x13 = ldPair zeroS 1 (by omega) ∧
    v458 (F := Ideal) c arg3 harg3 arg4 harg4 arg6 harg6 arg7 harg7 arg8 harg8 arg9 harg9 arg11 harg11 arg12 harg12 arg14 harg14 arg15 harg15 arg19 arg20 arg22 x1 x2 x4 x5 x6 x7 x9 x10 x12 x13 = ldPair zeroS 2 (by omega) ∧
    v526 (F := Ideal) c arg3 harg3 arg4 harg4 arg6 harg6 arg7 harg7 arg8 harg8 arg9 harg9 arg11 harg11 arg12 harg12 arg14 harg14 arg15 harg15 arg19 arg20 arg22 x1 x2 x4 x5 x6 x7 x9 x10 x12 x13 = ldPair zeroS 3 (by omega) ∧
    v600 (F := Ideal) c arg3 harg3 arg4 harg4 arg6 harg6 arg7 harg7 arg8 harg8 arg9 harg9 arg11 harg11 arg12 harg12 arg14 harg14 arg15 harg15 arg19 arg20 arg22 x1 x2 x4 x5 x6 x7 x9 x10 x12 x13 = ldPair zeroS 4 (by omega) ∧
    v668 (F := Ideal) c arg3 harg3 arg4 harg4 arg6 harg6 arg7 harg7 arg8 harg8 arg9 harg9 arg11 harg11 arg12 harg12 arg14 harg14 arg15 harg15 arg19 arg20 arg22 x1 x2 x4 x5 x6 x7 x9 x10 x12 x13 = ldPair zeroS 5 (by omega) ∧
    v736 (F := Ideal) c arg3 harg3 arg4 harg4 arg6 harg6 arg7 harg7 arg8 harg8 arg9 harg9 arg11 harg11 arg12 harg12 arg14 harg14 arg15 harg15 arg19 arg20 arg22 x1 x2 x4 x5 x6 x7 x9 x10 x12 x13 = ldPair zeroS 6 (by omega) ∧
    v804 (F := Ideal) c arg3 harg3 arg4 harg4 arg6 harg6 arg7 harg7 arg8 harg8 arg9 harg9 arg11 harg11 arg12 harg12 arg14 harg14 arg15 harg15 arg19 arg20 arg22 x1 x2 x4 x5 x6 x7 x9 x10 x12 x13 = ldPair zeroS 7 (by omega) ∧
    v878 (F := Ideal) c arg3 harg3 arg4 harg4 arg6 harg6 arg7 harg7 arg8 harg8 arg9 harg9 arg11 harg11 arg12 harg12 arg14 harg14 arg15 harg15 arg19 arg20 arg22 x1 x2 x4 x5 x6 x7 x9 x10 x12 x13 = ldPair zeroS 8 (by omega) ∧
    v946 (F := Ideal) c arg3 harg3 arg4 harg4 arg6 harg6 arg7 harg7 arg8 harg8 arg9 harg9 arg11 harg11 arg12 harg12 arg14 harg14 arg15 harg15 arg19 arg20 arg22 x1 x2 x4 x5 x6 x7 x9 x10 x12 x13 = ldPair zeroS 9 (by omega) ∧
    v1014 (F := Ideal) c arg3 harg3 arg4 harg4 arg6 harg6 arg7 harg7 arg8 harg8 arg9 harg9 arg11 harg11 arg12 harg12 arg14 harg14 arg15 harg15 arg19 arg20 arg22 x1 x2 x4 x5 x6 x7 x9 x10 x12 x13 = ldPair zeroS 10 (by omega) ∧
    v1082 (F := Ideal) c arg3 harg3 arg4 harg4 arg6 harg6 arg7 harg7 arg8 harg8 arg9 harg9 arg11 harg11 arg12 harg12 arg14 harg14 arg15 harg15 arg19 arg20 arg22 x1 x2 x4 x5 x6 x7 x9 x10 x12 x13 = ldPair zeroS 11 (by omega) ∧
    v1156 (F := Ideal) c arg3 harg3 arg4 harg4 arg6 harg6 arg7 harg7 arg8 harg8 arg9 harg9 arg11 harg11 arg12 harg12 arg14 harg14 arg15 harg15 arg19 arg20 arg22 x1 x2 x4 x5 x6 x7 x9 x10 x12 x13 = ldPair zeroS 12 (by omega) ∧
    v1224 (F := Ideal) c arg3 harg3 arg4 harg4 arg6 harg6 arg7 harg7 arg8 harg8 arg9 harg9 arg11 harg11 arg12 harg12 arg14 harg14 arg15 harg15 arg19 arg20 arg22 x1 x2 x4 x5 x6 x7 x9 x10 x12 x13 = ldPair zeroS 13 (by omega) ∧
    v1292 (F := Ideal) c arg3 harg3 arg4 harg4 arg6 harg6 arg7 harg7 arg8 harg8 arg9 harg9 arg11 harg11 arg12 harg12 arg14 harg14 arg15 harg15 arg19 arg20 arg22 x1 x2 x4 x5 x6 x7 x9 x10 x12 x13 = ldPair zeroS 14 (by omega) ∧
    v1360 (F := Ideal) c arg3 harg3 arg4 harg4 arg6 harg6 arg7 harg7 arg8 harg8 arg9 harg9 arg11 harg11 arg12 harg12 arg14 harg14 arg15 harg15 arg19 arg20 arg22 x1 x2 x4 x5 x6 x7 x9 x10 x12 x13 = ldPair zeroS 15 (by omega) := by
  refine ⟨?_, ?_, ?_, ?_, ?_, ?_, ?_, ?_, ?_, ?_, ?_, ?_, ?_, ?_, ?_, ?_⟩ <;>
  · dsimp only [v322, v390, v458, v526, v600, v668, v736, v804, v878, v946, v1014, v1082, v1156, v1224, v1292, v1360, HS3_1, HS3_2, HS3_3, HS3_4, HS3_5, HS3_6, HS3_7, HS3_8, HS3_9, HS3_10, HS3_11, HS3_12, HS3_13, HS3_14, HS3_15, HS3_16, v1490, v1487]
    simp (disch := decide) only [↓ View.readCov_skip, ↓ View.readCov_cons_toLoadRect, ↓ View.readCov_fill]
    rfl

set_option maxHeartbeats 4000000 in
/-- The state that a point leaves. -/
theorem state_eq (c : Dev nD) (i : grid0.Coords) (arg2 : Memref sig .tc .vmem S1x128x2048 .bf16) (harg2 : arg2.IsWhole) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x128 .f32) (harg6 : arg6.IsWhole) (arg7 : Memref sig .tc .vmem S384x128 .bf16) (harg7 : arg7.IsWhole) (arg8 : Memref sig .tc .vmem S4x2048 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x128x2048 .bf16) (harg18 : arg18.IsWhole) (arg19 : Memref sig .tc .vmem S8x2048 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S128x2048 .f32) (harg22 : arg22.IsWhole) (arg23 : Memref sig .tc .vmem S128x2048 .f32) (harg23 : arg23.IsWhole) (hc0 : cond0_0 i)
    (x0 : Vec Ideal S1x128x2048 .bf16) (x1 : Vec Ideal S1x128x2048 .bf16) (x2 : Vec Ideal S1x128x512 .bf16) (x3 : Vec Ideal S1x128x512 .bf16) (x4 : Vec Ideal S1x128x128 .f32) (x5 : Vec Ideal S384x128 .bf16) (x6 : Vec Ideal S4x2048 .f32) (x7 : Vec Ideal S4x512 .f32) (x8 : Vec Ideal S4x512 .f32) (x9 : Vec Ideal S1x2048 .f32) (x10 : Vec Ideal S1x512 .f32) (x11 : Vec Ideal S1x512 .f32) (x12 : Vec Ideal S1x128 .f32) (x13 : Vec Ideal S1x128 .f32) (x14 : Vec Ideal S1x2048 .f32) (x15 : Vec Ideal S1x2048 .f32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 = stateB (cumM x4 x12 x13) (endM x4 x12 x13) (xsB x1 x5 x6 x9 zeroX) (grB x2 x5 x7 x10 zeroG) zeroS := by
  have hX := x_eq c arg3 harg3 arg7 harg7 arg8 harg8 arg11 harg11 arg19 x1 x5 x6 x9
  have hB := b_eq c arg4 harg4 arg7 harg7 arg9 harg9 arg12 harg12 arg20 x2 x5 x7 x10
  have hA := cum_eq c arg6 harg6 arg14 harg14 arg15 harg15 x4 x12 x13
  dsimp only [r] at hA
  have hE := end_eq c arg6 harg6 arg14 harg14 arg15 harg15 x4 x12 x13
  dsimp only [r_1] at hE
  obtain ⟨g0, g1, g2, g3, g4, g5, g6, g7, g8, g9, g10, g11, g12, g13, g14, g15⟩ := loads_eq c arg3 harg3 arg4 harg4 arg6 harg6 arg7 harg7 arg8 harg8 arg9 harg9 arg11 harg11 arg12 harg12 arg14 harg14 arg15 harg15 arg19 arg20 arg22 x1 x2 x4 x5 x6 x7 x9 x10 x12 x13
  unfold sout0_A_3 kernelRun0_A
  rw [View.read_writes_junk_eq_canon]
  dsimp only [
    HS3_16, HS3_15, HS3_14, HS3_13, HS3_12, HS3_11, HS3_10, HS3_9, HS3_8, HS3_7, HS3_6, HS3_5, HS3_4, HS3_3, HS3_2, HS3_1, v1490, v1487, cst_302,
    v348, v345, v344, v341, v336, cst_119, v321, v225, v335, v319, v318, v317, v316, r_1, r_5, v299, v298, v297, v296, v340, v330, v339, v338, v337,
    v320, v310, v303, v302, v301, r, v300, v290, r_6, v416, v413, v412, v409, v404, v389, v403, v387, v386, v385, v384, v367, v366, v365, v364, v408,
    v407, v406, v405, v388, v378, v371, v370, v369, v368, v358, v351, v350, v349, v484, v481, v480, v477, v472, v457, v471, v455, v454, v453, v452,
    v435, v434, v433, v432, v476, v475, v474, v473, v456, v446, v439, v438, v437, v436, v426, v419, v418, v417, v552, v549, v548, v545, v540, v525,
    v539, v523, v522, v521, v520, v503, v502, v501, v500, v544, v543, v542, v541, v524, v514, v507, v506, v505, v504, v494, v487, v486, v485, v626,
    v623, v622, v619, v614, v599, v613, v597, v596, v595, v594, v558, v553, v577, v576, v575, v574, v618, v617, v616, v615, v598, v588, v581, v580,
    v579, v578, v568, v561, v560, v559, v694, v691, v690, v687, v682, v667, v681, v665, v664, v663, v662, v645, v644, v643, v642, v686, v685, v684,
    v683, v666, v656, v649, v648, v647, v646, v636, v629, v628, v627, v762, v759, v758, v755, v750, v735, v749, v733, v732, v731, v730, v713, v712,
    v711, v710, v754, v753, v752, v751, v734, v724, v717, v716, v715, v714, v704, v697, v696, v695, v830, v827, v826, v823, v818, v803, v817, v801,
    v800, v799, v798, v781, v780, v779, v778, v822, v821, v820, v819, v802, v792, v785, v784, v783, v782, v772, v765, v764, v763, v904, v901, v900,
    v897, v892, v877, v891, v875, v874, v873, v872, v836, v831, v855, v854, v853, v852, v896, v895, v894, v893, v876, v866, v859, v858, v857, v856,
    v846, v839, v838, v837, v972, v969, v968, v965, v960, v945, v959, v943, v942, v941, v940, v923, v922, v921, v920, v964, v963, v962, v961, v944,
    v934, v927, v926, v925, v924, v914, v907, v906, v905, v1040, v1037, v1036, v1033, v1028, v1013, v1027, v1011, v1010, v1009, v1008, v991, v990,
    v989, v988, v1032, v1031, v1030, v1029, v1012, v1002, v995, v994, v993, v992, v982, v975, v974, v973, v1108, v1105, v1104, v1101, v1096, v1081,
    v1095, v1079, v1078, v1077, v1076, v1059, v1058, v1057, v1056, v1100, v1099, v1098, v1097, v1080, v1070, v1063, v1062, v1061, v1060, v1050,
    v1043, v1042, v1041, v1182, v1179, v1178, v1175, v1170, v1155, v1169, v1153, v1152, v1151, v1150, v1114, v1109, v1133, v1132, v1131, v1130,
    v1174, v1173, v1172, v1171, v1154, v1144, v1137, v1136, v1135, v1134, v1124, v1117, v1116, v1115, v1250, v1247, v1246, v1243, v1238, v1223,
    v1237, v1221, v1220, v1219, v1218, v1201, v1200, v1199, v1198, v1242, v1241, v1240, v1239, v1222, v1212, v1205, v1204, v1203, v1202, v1192,
    v1185, v1184, v1183, v1318, v1315, v1314, v1311, v1306, v1291, v1305, v1289, v1288, v1287, v1286, v1269, v1268, v1267, v1266, v1310, v1309,
    v1308, v1307, v1290, v1280, v1273, v1272, v1271, v1270, v1260, v1253, v1252, v1251, v1386, v1383, v1382, v1379, v1374, v1359, v1373, v1357,
    v1356, v1355, v1354, v1337, v1336, v1335, v1334, v1378, v1377, v1376, v1375, v1358, v1348, v1341, v1340, v1339, v1338, v1328, v1321, v1320,
    v1319, k0_pay40, k0_pay41, k0_pay42, k0_pay43, k0_pay44]
  rw [hX, hB, hA, hE, g0, g1, g2, g3, g4, g5, g6, g7, g8, g9, g10, g11, g12, g13, g14, g15]
  generalize cumM x4 x12 x13 = A
  generalize endM x4 x12 x13 = E
  generalize xsB x1 x5 x6 x9 _ = X
  generalize grB x2 x5 x7 x10 _ = B
  funext y
  refine View.canon_append_of_piecesOf (Val := Elt Ideal) (e := .f32) (stateB A E X B zeroS) [_] [_, _, _, _, _, _, _, _, _, _, _, _, _, _, _, _]
    ⟨?_, ?_, ?_, ?_, ?_, ?_, ?_, ?_, ?_, ?_, ?_, ?_, ?_, ?_, ?_, ?_, trivial⟩ y ?_
  · exact fun x => stateB_emb A E X B zeroS 15 (by omega) (inbPair (by omega)) x
  · exact fun x => stateB_emb A E X B zeroS 14 (by omega) (inbPair (by omega)) x
  · exact fun x => stateB_emb A E X B zeroS 13 (by omega) (inbPair (by omega)) x
  · exact fun x => stateB_emb A E X B zeroS 12 (by omega) (inbPair (by omega)) x
  · exact fun x => stateB_emb A E X B zeroS 11 (by omega) (inbPair (by omega)) x
  · exact fun x => stateB_emb A E X B zeroS 10 (by omega) (inbPair (by omega)) x
  · exact fun x => stateB_emb A E X B zeroS 9 (by omega) (inbPair (by omega)) x
  · exact fun x => stateB_emb A E X B zeroS 8 (by omega) (inbPair (by omega)) x
  · exact fun x => stateB_emb A E X B zeroS 7 (by omega) (inbPair (by omega)) x
  · exact fun x => stateB_emb A E X B zeroS 6 (by omega) (inbPair (by omega)) x
  · exact fun x => stateB_emb A E X B zeroS 5 (by omega) (inbPair (by omega)) x
  · exact fun x => stateB_emb A E X B zeroS 4 (by omega) (inbPair (by omega)) x
  · exact fun x => stateB_emb A E X B zeroS 3 (by omega) (inbPair (by omega)) x
  · exact fun x => stateB_emb A E X B zeroS 2 (by omega) (inbPair (by omega)) x
  · exact fun x => stateB_emb A E X B zeroS 1 (by omega) (inbPair (by omega)) x
  · exact fun x => stateB_emb A E X B zeroS 0 (by omega) (inbPair (by omega)) x
  · exact View.cover_of_tiledL _ ![128, 128] rfl y

set_option maxHeartbeats 4000000 in
/-- The heads' output over a point's chunk, as read back from its scratch. -/
theorem y_eq (c : Dev nD) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x128 .f32) (harg6 : arg6.IsWhole) (arg7 : Memref sig .tc .vmem S384x128 .bf16) (harg7 : arg7.IsWhole) (arg8 : Memref sig .tc .vmem S4x2048 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x128 .f32) (harg14 : arg14.IsWhole) (arg15 : Memref sig .tc .vmem S1x128 .f32) (harg15 : arg15.IsWhole) (arg19 : Memref sig .tc .vmem S8x2048 .f32) (arg20 : Memref sig .tc .vmem S8x512 .f32) (arg21 : Memref sig .tc .vmem S8x512 .f32) (arg22 : Memref sig .tc .vmem S128x2048 .f32) (arg23 : Memref sig .tc .vmem S128x2048 .f32) (x1 : Vec Ideal S1x128x2048 .bf16) (x2 : Vec Ideal S1x128x512 .bf16) (x3 : Vec Ideal S1x128x512 .bf16) (x4 : Vec Ideal S1x128x128 .f32) (x5 : Vec Ideal S384x128 .bf16) (x6 : Vec Ideal S4x2048 .f32) (x7 : Vec Ideal S4x512 .f32) (x8 : Vec Ideal S4x512 .f32) (x9 : Vec Ideal S1x2048 .f32) (x10 : Vec Ideal S1x512 .f32) (x11 : Vec Ideal S1x512 .f32) (x12 : Vec Ideal S1x128 .f32) (x13 : Vec Ideal S1x128 .f32) : v1387 (F := Ideal) c arg3 harg3 arg4 harg4 arg5 harg5 arg6 harg6 arg7 harg7 arg8 harg8 arg9 harg9 arg10 harg10 arg11 harg11 arg12 harg12 arg13 harg13 arg14 harg14 arg15 harg15 arg19 arg20 arg21 arg22 arg23 x1 x2 x3 x4 x5 x6 x7 x8 x9 x10 x11 x12 x13 =
    yB (cumM x4 x12 x13) (srcM x4 x12 x13) (xsB x1 x5 x6 x9 zeroX) (grB x2 x5 x7 x10 zeroG) (grB x3 x5 x8 x11 zeroG) zeroS := by
  have hX := x_eq c arg3 harg3 arg7 harg7 arg8 harg8 arg11 harg11 arg19 x1 x5 x6 x9
  have hB := b_eq c arg4 harg4 arg7 harg7 arg9 harg9 arg12 harg12 arg20 x2 x5 x7 x10
  have hC := c_eq c arg5 harg5 arg7 harg7 arg10 harg10 arg13 harg13 arg21 x3 x5 x8 x11
  have hA := cum_eq c arg6 harg6 arg14 harg14 arg15 harg15 x4 x12 x13
  dsimp only [r] at hA
  have hS := src_eq c arg6 harg6 arg14 harg14 arg15 harg15 x4 x12 x13
  dsimp only [r_2] at hS
  obtain ⟨g0, g1, g2, g3, g4, g5, g6, g7, g8, g9, g10, g11, g12, g13, g14, g15⟩ := loads_eq c arg3 harg3 arg4 harg4 arg6 harg6 arg7 harg7 arg8 harg8 arg9 harg9 arg11 harg11 arg12 harg12 arg14 harg14 arg15 harg15 arg19 arg20 arg22 x1 x2 x4 x5 x6 x7 x9 x10 x12 x13
  dsimp only [
    v1387, HS4_16, v334, v331, v328, v326, cst_119, v324, v323, v321, v225, v325, v315, v314, v313, v310, v303, v302, v301, r, r_3, v312, v311, v309,
    v308, v307, cst_116, v306, v305, v304, r_2, r_4, v295, v294, v293, v290, r_6, v292, v291, v289, v288, r_7, v327, v330, v402, v399, v396, v394,
    v392, v391, v389, v393, v383, v382, v381, v378, v371, v370, v369, v380, v379, v377, v376, v374, v373, v372, v363, v362, v361, v358, v351, v350,
    v349, v360, v359, v357, v356, v354, v353, v352, v395, v470, v467, v464, v462, v460, v459, v457, v461, v451, v450, v449, v446, v439, v438, v437,
    v448, v447, v445, v444, v442, v441, v440, v431, v430, v429, v426, v419, v418, v417, v428, v427, v425, v424, v422, v421, v420, v463, v538, v535,
    v532, v530, v528, v527, v525, v529, v519, v518, v517, v514, v507, v506, v505, v516, v515, v513, v512, v510, v509, v508, v499, v498, v497, v494,
    v487, v486, v485, v496, v495, v493, v492, v490, v489, v488, v531, v612, v609, v606, v604, v602, v601, v599, v603, v593, v592, v591, v588, v581,
    v580, v579, v554, v590, v589, v587, v586, v584, v583, v582, v557, cst_152, v556, v553, v555, v573, v572, v571, v568, v561, v560, v559, v570,
    v569, v567, v566, v564, v563, v562, v605, v680, v677, v674, v672, v670, v669, v667, v671, v661, v660, v659, v656, v649, v648, v647, v658, v657,
    v655, v654, v652, v651, v650, v641, v640, v639, v636, v629, v628, v627, v638, v637, v635, v634, v632, v631, v630, v673, v748, v745, v742, v740,
    v738, v737, v735, v739, v729, v728, v727, v724, v717, v716, v715, v726, v725, v723, v722, v720, v719, v718, v709, v708, v707, v704, v697, v696,
    v695, v706, v705, v703, v702, v700, v699, v698, v741, v816, v813, v810, v808, v806, v805, v803, v807, v797, v796, v795, v792, v785, v784, v783,
    v794, v793, v791, v790, v788, v787, v786, v777, v776, v775, v772, v765, v764, v763, v774, v773, v771, v770, v768, v767, v766, v809, v890, v887,
    v884, v882, v880, v879, v877, v881, v871, v870, v869, v866, v859, v858, v857, v832, v868, v867, v865, v864, v862, v861, v860, v835, v834, v831,
    v833, v851, v850, v849, v846, v839, v838, v837, v848, v847, v845, v844, v842, v841, v840, v883, v958, v955, v952, v950, v948, v947, v945, v949,
    v939, v938, v937, v934, v927, v926, v925, v936, v935, v933, v932, v930, v929, v928, v919, v918, v917, v914, v907, v906, v905, v916, v915, v913,
    v912, v910, v909, v908, v951, v1026, v1023, v1020, v1018, v1016, v1015, v1013, v1017, v1007, v1006, v1005, v1002, v995, v994, v993, v1004, v1003,
    v1001, v1000, v998, v997, v996, v987, v986, v985, v982, v975, v974, v973, v984, v983, v981, v980, v978, v977, v976, v1019, v1094, v1091, v1088,
    v1086, v1084, v1083, v1081, v1085, v1075, v1074, v1073, v1070, v1063, v1062, v1061, v1072, v1071, v1069, v1068, v1066, v1065, v1064, v1055,
    v1054, v1053, v1050, v1043, v1042, v1041, v1052, v1051, v1049, v1048, v1046, v1045, v1044, v1087, v1168, v1165, v1162, v1160, v1158, v1157,
    v1155, v1159, v1149, v1148, v1147, v1144, v1137, v1136, v1135, v1110, v1146, v1145, v1143, v1142, v1140, v1139, v1138, v1113, v1112, v1109,
    v1111, v1129, v1128, v1127, v1124, v1117, v1116, v1115, v1126, v1125, v1123, v1122, v1120, v1119, v1118, v1161, v1236, v1233, v1230, v1228,
    v1226, v1225, v1223, v1227, v1217, v1216, v1215, v1212, v1205, v1204, v1203, v1214, v1213, v1211, v1210, v1208, v1207, v1206, v1197, v1196,
    v1195, v1192, v1185, v1184, v1183, v1194, v1193, v1191, v1190, v1188, v1187, v1186, v1229, v1304, v1301, v1298, v1296, v1294, v1293, v1291,
    v1295, v1285, v1284, v1283, v1280, v1273, v1272, v1271, v1282, v1281, v1279, v1278, v1276, v1275, v1274, v1265, v1264, v1263, v1260, v1253,
    v1252, v1251, v1262, v1261, v1259, v1258, v1256, v1255, v1254, v1297, v1372, v1369, v1366, v1364, v1362, v1361, v1359, v1363, v1353, v1352,
    v1351, v1348, v1341, v1340, v1339, v1350, v1349, v1347, v1346, v1344, v1343, v1342, v1333, v1332, v1331, v1328, v1321, v1320, v1319, v1330,
    v1329, v1327, v1326, v1324, v1323, v1322, v1365, k0_pay40, k0_pay41, k0_pay42, k0_pay43, k0_pay44]
  rw [hX, hB, hC, hA, hS, g0, g1, g2, g3, g4, g5, g6, g7, g8, g9, g10, g11, g12, g13, g14, g15]
  generalize cumM x4 x12 x13 = A
  generalize srcM x4 x12 x13 = Sr
  generalize xsB x1 x5 x6 x9 _ = X
  generalize grB x2 x5 x7 x10 _ = B
  generalize grB x3 x5 x8 x11 _ = C
  rw [View.readCov_eq_canon']
  funext y
  refine (congrArg _ (whole_idx _ y)).trans ?_
  canon_tiles x h
  · exact yB_at A Sr X B C zeroS 15 (by omega) x y h0 (by omega)
  · exact yB_at A Sr X B C zeroS 14 (by omega) x y h0 (by omega)
  · exact yB_at A Sr X B C zeroS 13 (by omega) x y h0 (by omega)
  · exact yB_at A Sr X B C zeroS 12 (by omega) x y h0 (by omega)
  · exact yB_at A Sr X B C zeroS 11 (by omega) x y h0 (by omega)
  · exact yB_at A Sr X B C zeroS 10 (by omega) x y h0 (by omega)
  · exact yB_at A Sr X B C zeroS 9 (by omega) x y h0 (by omega)
  · exact yB_at A Sr X B C zeroS 8 (by omega) x y h0 (by omega)
  · exact yB_at A Sr X B C zeroS 7 (by omega) x y h0 (by omega)
  · exact yB_at A Sr X B C zeroS 6 (by omega) x y h0 (by omega)
  · exact yB_at A Sr X B C zeroS 5 (by omega) x y h0 (by omega)
  · exact yB_at A Sr X B C zeroS 4 (by omega) x y h0 (by omega)
  · exact yB_at A Sr X B C zeroS 3 (by omega) x y h0 (by omega)
  · exact yB_at A Sr X B C zeroS 2 (by omega) x y h0 (by omega)
  · exact yB_at A Sr X B C zeroS 1 (by omega) x y h0 (by omega)
  · exact yB_at A Sr X B C zeroS 0 (by omega) x y h0 (by omega)

/-- The gated output's word. -/
theorem gate_eq (c : Dev nD) (arg2 : Memref sig .tc .vmem S1x128x2048 .bf16) (harg2 : arg2.IsWhole) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x128 .f32) (harg6 : arg6.IsWhole) (arg7 : Memref sig .tc .vmem S384x128 .bf16) (harg7 : arg7.IsWhole) (arg8 : Memref sig .tc .vmem S4x2048 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x2048 .f32) (harg16 : arg16.IsWhole) (arg19 : Memref sig .tc .vmem S8x2048 .f32) (arg20 : Memref sig .tc .vmem S8x512 .f32) (arg21 : Memref sig .tc .vmem S8x512 .f32) (arg22 : Memref sig .tc .vmem S128x2048 .f32) (arg23 : Memref sig .tc .vmem S128x2048 .f32) (x0 : Vec Ideal S1x128x2048 .bf16) (x1 : Vec Ideal S1x128x2048 .bf16) (x2 : Vec Ideal S1x128x512 .bf16) (x3 : Vec Ideal S1x128x512 .bf16) (x4 : Vec Ideal S1x128x128 .f32) (x5 : Vec Ideal S384x128 .bf16) (x6 : Vec Ideal S4x2048 .f32) (x7 : Vec Ideal S4x512 .f32) (x8 : Vec Ideal S4x512 .f32) (x9 : Vec Ideal S1x2048 .f32) (x10 : Vec Ideal S1x512 .f32) (x11 : Vec Ideal S1x512 .f32) (x12 : Vec Ideal S1x128 .f32) (x13 : Vec Ideal S1x128 .f32) (x14 : Vec Ideal S1x2048 .f32) : v1398 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg19 arg20 arg21 arg22 arg23 x0 x1 x2 x3 x4 x5 x6 x7 x8 x9 x10 x11 x12 x13 x14 =
    gateB (yB (cumM x4 x12 x13) (srcM x4 x12 x13) (xsB x1 x5 x6 x9 zeroX) (grB x2 x5 x7 x10 zeroG) (grB x3 x5 x8 x11 zeroG) zeroS)
      (xsB x1 x5 x6 x9 zeroX) x0 x14 := by
  have hX := x_eq c arg3 harg3 arg7 harg7 arg8 harg8 arg11 harg11 arg19 x1 x5 x6 x9
  have hY := y_eq c arg3 harg3 arg4 harg4 arg5 harg5 arg6 harg6 arg7 harg7 arg8 harg8 arg9 harg9 arg10 harg10 arg11 harg11 arg12 harg12 arg13 harg13 arg14 harg14 arg15 harg15 arg19 arg20 arg21 arg22 arg23 x1 x2 x3 x4 x5 x6 x7 x8 x9 x10 x11 x12 x13
  dsimp only [
    v1398, v1397, v1396, v1395, v1394, v1392, v1391, v1390, v1389]
  rw [hX, hY]
  dsimp only [View.readAt_eq_ld]
  repeat rw [Memref.IsWhole.read_unread]
  repeat (rw [View.ld_unit_lit']; swap; · decide)
  rfl

set_option maxHeartbeats 4000000 in
/-- The output block that a point leaves. -/
theorem out_eq (c : Dev nD) (i : grid0.Coords) (arg2 : Memref sig .tc .vmem S1x128x2048 .bf16) (harg2 : arg2.IsWhole) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x128 .f32) (harg6 : arg6.IsWhole) (arg7 : Memref sig .tc .vmem S384x128 .bf16) (harg7 : arg7.IsWhole) (arg8 : Memref sig .tc .vmem S4x2048 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x128x2048 .bf16) (harg18 : arg18.IsWhole) (arg19 : Memref sig .tc .vmem S8x2048 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S128x2048 .f32) (harg22 : arg22.IsWhole) (arg23 : Memref sig .tc .vmem S128x2048 .f32) (harg23 : arg23.IsWhole) (hc0 : cond0_0 i)
    (x0 : Vec Ideal S1x128x2048 .bf16) (x1 : Vec Ideal S1x128x2048 .bf16) (x2 : Vec Ideal S1x128x512 .bf16) (x3 : Vec Ideal S1x128x512 .bf16) (x4 : Vec Ideal S1x128x128 .f32) (x5 : Vec Ideal S384x128 .bf16) (x6 : Vec Ideal S4x2048 .f32) (x7 : Vec Ideal S4x512 .f32) (x8 : Vec Ideal S4x512 .f32) (x9 : Vec Ideal S1x2048 .f32) (x10 : Vec Ideal S1x512 .f32) (x11 : Vec Ideal S1x512 .f32) (x12 : Vec Ideal S1x128 .f32) (x13 : Vec Ideal S1x128 .f32) (x14 : Vec Ideal S1x2048 .f32) (x15 : Vec Ideal S1x2048 .f32) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 =
      outB (gateB (yB (cumM x4 x12 x13) (srcM x4 x12 x13) (xsB x1 x5 x6 x9 zeroX) (grB x2 x5 x7 x10 zeroG) (grB x3 x5 x8 x11 zeroG) zeroS)
        (xsB x1 x5 x6 x9 zeroX) x0 x14) x15 := by
  have hG := gate_eq c arg2 harg2 arg3 harg3 arg4 harg4 arg5 harg5 arg6 harg6 arg7 harg7 arg8 harg8 arg9 harg9 arg10 harg10 arg11 harg11 arg12 harg12 arg13 harg13 arg14 harg14 arg15 harg15 arg16 harg16 arg19 arg20 arg21 arg22 arg23 x0 x1 x2 x3 x4 x5 x6 x7 x8 x9 x10 x11 x12 x13 x14
  unfold out0_A_16 kernelRun0_A
  rw [View.read_writes_junk_eq_canon]
  dsimp only [
    v1417, v1414, v1413, v1412, v1411, v1409, v1408, v1407, v1406, v1405, cst_272, v1404, v1403, cst_271, v1402, v1401, v1400, v1399, v1436, v1433,
    v1432, v1431, v1430, v1428, v1427, v1426, v1425, v1423, v1421, v1420, v1419, v1418, v1445, v1444, v1442, v1440, v1439, v1438, v1437, r_8,
    k0_pay1, k0_pay250, k0_pay251]
  rw [hG]
  dsimp only [View.readAt_eq_ld]
  repeat rw [Memref.IsWhole.read_unread]
  generalize gateB _ _ _ _ = G
  funext y
  canon_tiles x h
  · exact outB_at G x15 3 (by omega) x y (by omega) h1 (by omega)
  · exact outB_at G x15 2 (by omega) x y (by omega) h1 (by omega)
  · exact outB_at G x15 1 (by omega) x y (by omega) h1 (by omega)
  · exact outB_at G x15 0 (by omega) x y (by omega) h1 (by omega)

/-- The rows that a point leaves for the next. -/
theorem tail0_eq (c : Dev nD) (i : grid0.Coords) (arg2 : Memref sig .tc .vmem S1x128x2048 .bf16) (harg2 : arg2.IsWhole) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x128 .f32) (harg6 : arg6.IsWhole) (arg7 : Memref sig .tc .vmem S384x128 .bf16) (harg7 : arg7.IsWhole) (arg8 : Memref sig .tc .vmem S4x2048 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x128x2048 .bf16) (harg18 : arg18.IsWhole) (arg19 : Memref sig .tc .vmem S8x2048 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S128x2048 .f32) (harg22 : arg22.IsWhole) (arg23 : Memref sig .tc .vmem S128x2048 .f32) (harg23 : arg23.IsWhole) (hc0 : cond0_0 i)
    (x0 : Vec Ideal S1x128x2048 .bf16) (x1 : Vec Ideal S1x128x2048 .bf16) (x2 : Vec Ideal S1x128x512 .bf16) (x3 : Vec Ideal S1x128x512 .bf16) (x4 : Vec Ideal S1x128x128 .f32) (x5 : Vec Ideal S384x128 .bf16) (x6 : Vec Ideal S4x2048 .f32) (x7 : Vec Ideal S4x512 .f32) (x8 : Vec Ideal S4x512 .f32) (x9 : Vec Ideal S1x2048 .f32) (x10 : Vec Ideal S1x512 .f32) (x11 : Vec Ideal S1x512 .f32) (x12 : Vec Ideal S1x128 .f32) (x13 : Vec Ideal S1x128 .f32) (x14 : Vec Ideal S1x2048 .f32) (x15 : Vec Ideal S1x2048 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 = tailX x1 := by
  frame_open
  rw [View.read_writes_junk_eq_canon]
  dsimp only [View.readAt_eq_ld]
  repeat rw [Memref.IsWhole.read_unread]
  repeat (rw [View.ld_unit_lit']; swap; · decide)
  rw [View.canon_cons_unit_lit' _ _ _ (by decide)]
  rfl

/-- The rows that a point leaves for the next. -/
theorem tail1_eq (c : Dev nD) (i : grid0.Coords) (arg2 : Memref sig .tc .vmem S1x128x2048 .bf16) (harg2 : arg2.IsWhole) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x128 .f32) (harg6 : arg6.IsWhole) (arg7 : Memref sig .tc .vmem S384x128 .bf16) (harg7 : arg7.IsWhole) (arg8 : Memref sig .tc .vmem S4x2048 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x128x2048 .bf16) (harg18 : arg18.IsWhole) (arg19 : Memref sig .tc .vmem S8x2048 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S128x2048 .f32) (harg22 : arg22.IsWhole) (arg23 : Memref sig .tc .vmem S128x2048 .f32) (harg23 : arg23.IsWhole) (hc0 : cond0_0 i)
    (x0 : Vec Ideal S1x128x2048 .bf16) (x1 : Vec Ideal S1x128x2048 .bf16) (x2 : Vec Ideal S1x128x512 .bf16) (x3 : Vec Ideal S1x128x512 .bf16) (x4 : Vec Ideal S1x128x128 .f32) (x5 : Vec Ideal S384x128 .bf16) (x6 : Vec Ideal S4x2048 .f32) (x7 : Vec Ideal S4x512 .f32) (x8 : Vec Ideal S4x512 .f32) (x9 : Vec Ideal S1x2048 .f32) (x10 : Vec Ideal S1x512 .f32) (x11 : Vec Ideal S1x512 .f32) (x12 : Vec Ideal S1x128 .f32) (x13 : Vec Ideal S1x128 .f32) (x14 : Vec Ideal S1x2048 .f32) (x15 : Vec Ideal S1x2048 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 = tailG x2 := by
  frame_open
  rw [View.read_writes_junk_eq_canon]
  dsimp only [View.readAt_eq_ld]
  repeat rw [Memref.IsWhole.read_unread]
  repeat (rw [View.ld_unit_lit']; swap; · decide)
  rw [View.canon_cons_unit_lit' _ _ _ (by decide)]
  rfl

/-- The rows that a point leaves for the next. -/
theorem tail2_eq (c : Dev nD) (i : grid0.Coords) (arg2 : Memref sig .tc .vmem S1x128x2048 .bf16) (harg2 : arg2.IsWhole) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x128 .f32) (harg6 : arg6.IsWhole) (arg7 : Memref sig .tc .vmem S384x128 .bf16) (harg7 : arg7.IsWhole) (arg8 : Memref sig .tc .vmem S4x2048 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x128x2048 .bf16) (harg18 : arg18.IsWhole) (arg19 : Memref sig .tc .vmem S8x2048 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S128x2048 .f32) (harg22 : arg22.IsWhole) (arg23 : Memref sig .tc .vmem S128x2048 .f32) (harg23 : arg23.IsWhole) (hc0 : cond0_0 i)
    (x0 : Vec Ideal S1x128x2048 .bf16) (x1 : Vec Ideal S1x128x2048 .bf16) (x2 : Vec Ideal S1x128x512 .bf16) (x3 : Vec Ideal S1x128x512 .bf16) (x4 : Vec Ideal S1x128x128 .f32) (x5 : Vec Ideal S384x128 .bf16) (x6 : Vec Ideal S4x2048 .f32) (x7 : Vec Ideal S4x512 .f32) (x8 : Vec Ideal S4x512 .f32) (x9 : Vec Ideal S1x2048 .f32) (x10 : Vec Ideal S1x512 .f32) (x11 : Vec Ideal S1x512 .f32) (x12 : Vec Ideal S1x128 .f32) (x13 : Vec Ideal S1x128 .f32) (x14 : Vec Ideal S1x2048 .f32) (x15 : Vec Ideal S1x2048 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 = tailG x3 := by
  frame_open
  rw [View.read_writes_junk_eq_canon]
  dsimp only [View.readAt_eq_ld]
  repeat rw [Memref.IsWhole.read_unread]
  repeat (rw [View.ld_unit_lit']; swap; · decide)
  rw [View.canon_cons_unit_lit' _ _ _ (by decide)]
  rfl

end Cert.KernelIdeal.Chunk.CaseA
-- ==== Proof.BodyB.lean ====
module

public import proofs.«01_k».proof.Proof.Gen.KernelIdeal.Value
public import Idealize.ShloMosaic.Lib.Pipeline.ValueKit
public import Idealize.ShloMosaic.Lib.Pipeline.ReadBack
public import proofs.«01_k».proof.Proof.Block

@[expose] public section

set_option maxRecDepth 16384
set_option pp.maxSteps 400
noncomputable section
namespace Cert.KernelIdeal.Chunk.CaseB
open Cert.KernelIdeal.Chunk Cert.KernelIdeal Cert.KernelIdeal.Gen Idealize.ShloMosaic Idealize.ShloMosaic.TcCoe Idealize.ShloMosaic.Tactic
open Cert.KernelIdeal.Gen.kernelRun0_B.sl

/-- The activations' word. -/
theorem x_eq (c : Dev nD) (arg3 : Memref sig .tc .vmem S1x128x2048 .bf16) (harg3 : arg3.IsWhole) (arg7 : Memref sig .tc .vmem S384x128 .bf16) (harg7 : arg7.IsWhole) (arg8 : Memref sig .tc .vmem S4x2048 .f32) (harg8 : arg8.IsWhole) (arg11 : Memref sig .tc .vmem S1x2048 .f32) (harg11 : arg11.IsWhole) (arg19 : Memref sig .tc .vmem S8x2048 .f32) (harg19 : arg19.IsWhole) (x1 : Vec Ideal S1x128x2048 .bf16) (x5 : Vec Ideal S384x128 .bf16) (x6 : Vec Ideal S4x2048 .f32) (x9 : Vec Ideal S1x2048 .f32) (xs0 : Vec Ideal S8x2048 .f32) : v76 (F := Ideal) c arg3 harg3 arg7 harg7 arg8 harg8 arg11 harg11 arg19 harg19 x1 x5 x6 x9 xs0 = xsB x1 x5 x6 x9 xs0 := by
  frame_open
  dsimp only [View.readAt_eq_ld]
  repeat rw [Memref.IsWhole.read_unread]
  repeat (rw [View.ld_unit_lit']; swap; · decide)
  rfl

/-- The input projection's word. -/
theorem b_eq (c : Dev nD) (arg4 : Memref sig .tc .vmem S1x128x512 .bf16) (harg4 : arg4.IsWhole) (arg7 : Memref sig .tc .vmem S384x128 .bf16) (harg7 : arg7.IsWhole) (arg9 : Memref sig .tc .vmem S4x512 .f32) (harg9 : arg9.IsWhole) (arg12 : Memref sig .tc .vmem S1x512 .f32) (harg12 : arg12.IsWhole) (arg20 : Memref sig .tc .vmem S8x512 .f32) (harg20 : arg20.IsWhole) (x2 : Vec Ideal S1x128x512 .bf16) (x5 : Vec Ideal S384x128 .bf16) (x7 : Vec Ideal S4x512 .f32) (x10 : Vec Ideal S1x512 .f32) (xs1 : Vec Ideal S8x512 .f32) : v150 (F := Ideal) c arg4 harg4 arg7 harg7 arg9 harg9 arg12 harg12 arg20 harg20 x2 x5 x7 x10 xs1 = grB x2 x5 x7 x10 xs1 := by
  frame_open
  dsimp only [View.readAt_eq_ld]
  repeat rw [Memref.IsWhole.read_unread]
  repeat (rw [View.ld_unit_lit']; swap; · decide)
  rfl

/-- The output projection's word. -/
theorem c_eq (c : Dev nD) (arg5 : Memref sig .tc .vmem S1x128x512 .bf16) (harg5 : arg5.IsWhole) (arg7 : Memref sig .tc .vmem S384x128 .bf16) (harg7 : arg7.IsWhole) (arg10 : Memref sig .tc .vmem S4x512 .f32) (harg10 : arg10.IsWhole) (arg13 : Memref sig .tc .vmem S1x512 .f32) (harg13 : arg13.IsWhole) (arg21 : Memref sig .tc .vmem S8x512 .f32) (harg21 : arg21.IsWhole) (x3 : Vec Ideal S1x128x512 .bf16) (x5 : Vec Ideal S384x128 .bf16) (x8 : Vec Ideal S4x512 .f32) (x11 : Vec Ideal S1x512 .f32) (xs2 : Vec Ideal S8x512 .f32) : v224 (F := Ideal) c arg5 harg5 arg7 harg7 arg10 harg10 arg13 harg13 arg21 harg21 x3 x5 x8 x11 xs2 = grB x3 x5 x8 x11 xs2 := by
  frame_open
  dsimp only [View.readAt_eq_ld]
  repeat rw [Memref.IsWhole.read_unread]
  repeat (rw [View.ld_unit_lit']; swap; · decide)
  rfl

/-- The word of `cumM`. -/
theorem cum_eq (c : Dev nD) (arg6 : Memref sig .tc .vmem S1x128x128 .f32) (harg6 : arg6.IsWhole) (arg14 : Memref sig .tc .vmem S1x128 .f32) (harg14 : arg14.IsWhole) (arg15 : Memref sig .tc .vmem S1x128 .f32) (harg15 : arg15.IsWhole) (x4 : Vec Ideal S1x128x128 .f32) (x12 : Vec Ideal S1x128 .f32) (x13 : Vec Ideal S1x128 .f32) : r_3 (F := Ideal) c arg6 harg6 arg14 harg14 arg15 harg15 x4 x12 x13 = cumM x4 x12 x13 := by
  frame_open
  dsimp only [View.readAt_eq_ld]
  repeat rw [Memref.IsWhole.read_unread]
  repeat (rw [View.ld_unit_lit']; swap; · decide)
  rfl

/-- The word of `endM`. -/
theorem end_eq (c : Dev nD) (arg6 : Memref sig .tc .vmem S1x128x128 .f32) (harg6 : arg6.IsWhole) (arg14 : Memref sig .tc .vmem S1x128 .f32) (harg14 : arg14.IsWhole) (arg15 : Memref sig .tc .vmem S1x128 .f32) (harg15 : arg15.IsWhole) (x4 : Vec Ideal S1x128x128 .f32) (x12 : Vec Ideal S1x128 .f32) (x13 : Vec Ideal S1x128 .f32) : r_4 (F := Ideal) c arg6 harg6 arg14 harg14 arg15 harg15 x4 x12 x13 = endM x4 x12 x13 := by
  frame_open
  dsimp only [View.readAt_eq_ld]
  repeat rw [Memref.IsWhole.read_unread]
  repeat (rw [View.ld_unit_lit']; swap; · decide)
  rfl

/-- The word of `srcM`. -/
theorem src_eq (c : Dev nD) (arg6 : Memref sig .tc .vmem S1x128x128 .f32) (harg6 : arg6.IsWhole) (arg14 : Memref sig .tc .vmem S1x128 .f32) (harg14 : arg14.IsWhole) (arg15 : Memref sig .tc .vmem S1x128 .f32) (harg15 : arg15.IsWhole) (x4 : Vec Ideal S1x128x128 .f32) (x12 : Vec Ideal S1x128 .f32) (x13 : Vec Ideal S1x128 .f32) : r_5 (F := Ideal) c arg6 harg6 arg14 harg14 arg15 harg15 x4 x12 x13 = srcM x4 x12 x13 := by
  frame_open
  dsimp only [View.readAt_eq_ld]
  repeat rw [Memref.IsWhole.read_unread]
  repeat (rw [View.ld_unit_lit']; swap; · decide)
  rfl

set_option maxHeartbeats 4000000 in
/-- The state that a point leaves. -/
theorem state_eq (c : Dev nD) (i : grid0.Coords) (arg2 : Memref sig .tc .vmem S1x128x2048 .bf16) (harg2 : arg2.IsWhole) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x128 .f32) (harg6 : arg6.IsWhole) (arg7 : Memref sig .tc .vmem S384x128 .bf16) (harg7 : arg7.IsWhole) (arg8 : Memref sig .tc .vmem S4x2048 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x128x2048 .bf16) (harg18 : arg18.IsWhole) (arg19 : Memref sig .tc .vmem S8x2048 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S128x2048 .f32) (harg22 : arg22.IsWhole) (arg23 : Memref sig .tc .vmem S128x2048 .f32) (harg23 : arg23.IsWhole) (hc0 : ¬cond0_0 i)
    (x0 : Vec Ideal S1x128x2048 .bf16) (x1 : Vec Ideal S1x128x2048 .bf16) (x2 : Vec Ideal S1x128x512 .bf16) (x3 : Vec Ideal S1x128x512 .bf16) (x4 : Vec Ideal S1x128x128 .f32) (x5 : Vec Ideal S384x128 .bf16) (x6 : Vec Ideal S4x2048 .f32) (x7 : Vec Ideal S4x512 .f32) (x8 : Vec Ideal S4x512 .f32) (x9 : Vec Ideal S1x2048 .f32) (x10 : Vec Ideal S1x512 .f32) (x11 : Vec Ideal S1x512 .f32) (x12 : Vec Ideal S1x128 .f32) (x13 : Vec Ideal S1x128 .f32) (x14 : Vec Ideal S1x2048 .f32) (x15 : Vec Ideal S1x2048 .f32) (xs0 : Vec Ideal S8x2048 .f32) (xs1 : Vec Ideal S8x512 .f32) (xs2 : Vec Ideal S8x512 .f32) (xs3 : Vec Ideal S128x2048 .f32) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs0 xs1 xs2 xs3 = stateB (cumM x4 x12 x13) (endM x4 x12 x13) (xsB x1 x5 x6 x9 xs0) (grB x2 x5 x7 x10 xs1) xs3 := by
  have hX := x_eq c arg3 harg3 arg7 harg7 arg8 harg8 arg11 harg11 arg19 harg19 x1 x5 x6 x9 xs0
  have hB := b_eq c arg4 harg4 arg7 harg7 arg9 harg9 arg12 harg12 arg20 harg20 x2 x5 x7 x10 xs1
  have hA := cum_eq c arg6 harg6 arg14 harg14 arg15 harg15 x4 x12 x13
  dsimp only [r_3] at hA
  have hE := end_eq c arg6 harg6 arg14 harg14 arg15 harg15 x4 x12 x13
  dsimp only [r_4] at hE
  unfold sout0_B_3 kernelRun0_B
  rw [View.read_writes_junk_eq_canon]
  dsimp only [
    v348, v345, v344, v341, v336, cst_119, v321, v225, v335, v319, v318, v317, v316, r_4, r_8, v299, v298, v297, v296, v340, v330, v339, v338, v337,
    v320, v310, v303, v302, v301, r_3, v300, v290, r_9, v416, v413, v412, v409, v404, v389, v403, v387, v386, v385, v384, v367, v366, v365, v364,
    v408, v407, v406, v405, v388, v378, v371, v370, v369, v368, v358, v351, v350, v349, v390, v484, v481, v480, v477, v472, v457, v471, v455, v454,
    v453, v452, v435, v434, v433, v432, v476, v475, v474, v473, v456, v446, v439, v438, v437, v436, v426, v419, v418, v417, v458, v552, v549, v548,
    v545, v540, v525, v539, v523, v522, v521, v520, v503, v502, v501, v500, v544, v543, v542, v541, v524, v514, v507, v506, v505, v504, v494, v487,
    v486, v485, v526, v626, v623, v622, v619, v614, v599, v613, v597, v596, v595, v594, v558, v553, v577, v576, v575, v574, v618, v617, v616, v615,
    v598, v588, v581, v580, v579, v578, v568, v561, v560, v559, v600, v694, v691, v690, v687, v682, v667, v681, v665, v664, v663, v662, v645, v644,
    v643, v642, v686, v685, v684, v683, v666, v656, v649, v648, v647, v646, v636, v629, v628, v627, v668, v762, v759, v758, v755, v750, v735, v749,
    v733, v732, v731, v730, v713, v712, v711, v710, v754, v753, v752, v751, v734, v724, v717, v716, v715, v714, v704, v697, v696, v695, v736, v830,
    v827, v826, v823, v818, v803, v817, v801, v800, v799, v798, v781, v780, v779, v778, v822, v821, v820, v819, v802, v792, v785, v784, v783, v782,
    v772, v765, v764, v763, v804, v904, v901, v900, v897, v892, v877, v891, v875, v874, v873, v872, v836, v831, v855, v854, v853, v852, v896, v895,
    v894, v893, v876, v866, v859, v858, v857, v856, v846, v839, v838, v837, v878, v972, v969, v968, v965, v960, v945, v959, v943, v942, v941, v940,
    v923, v922, v921, v920, v964, v963, v962, v961, v944, v934, v927, v926, v925, v924, v914, v907, v906, v905, v946, v1040, v1037, v1036, v1033,
    v1028, v1013, v1027, v1011, v1010, v1009, v1008, v991, v990, v989, v988, v1032, v1031, v1030, v1029, v1012, v1002, v995, v994, v993, v992, v982,
    v975, v974, v973, v1014, v1108, v1105, v1104, v1101, v1096, v1081, v1095, v1079, v1078, v1077, v1076, v1059, v1058, v1057, v1056, v1100, v1099,
    v1098, v1097, v1080, v1070, v1063, v1062, v1061, v1060, v1050, v1043, v1042, v1041, v1082, v1182, v1179, v1178, v1175, v1170, v1155, v1169,
    v1153, v1152, v1151, v1150, v1114, v1109, v1133, v1132, v1131, v1130, v1174, v1173, v1172, v1171, v1154, v1144, v1137, v1136, v1135, v1134,
    v1124, v1117, v1116, v1115, v1156, v1250, v1247, v1246, v1243, v1238, v1223, v1237, v1221, v1220, v1219, v1218, v1201, v1200, v1199, v1198,
    v1242, v1241, v1240, v1239, v1222, v1212, v1205, v1204, v1203, v1202, v1192, v1185, v1184, v1183, v1224, v1318, v1315, v1314, v1311, v1306,
    v1291, v1305, v1289, v1288, v1287, v1286, v1269, v1268, v1267, v1266, v1310, v1309, v1308, v1307, v1290, v1280, v1273, v1272, v1271, v1270,
    v1260, v1253, v1252, v1251, v1292, v1386, v1383, v1382, v1379, v1374, v1359, v1373, v1357, v1356, v1355, v1354, v1337, v1336, v1335, v1334,
    v1378, v1377, v1376, v1375, v1358, v1348, v1341, v1340, v1339, v1338, v1328, v1321, v1320, v1319, v1360, k0_pay40, k0_pay41, k0_pay42, k0_pay43,
    k0_pay44]
  rw [hX, hB, hA, hE]
  dsimp only [View.readAt_eq_ld]
  repeat rw [Memref.IsWhole.read_unread]
  generalize cumM x4 x12 x13 = A
  generalize endM x4 x12 x13 = E
  generalize xsB x1 x5 x6 x9 _ = X
  generalize grB x2 x5 x7 x10 _ = B
  funext y
  canon_tiles x h
  · exact stateB_at A E X B xs3 15 (by omega) x y h0 (by omega)
  · exact stateB_at A E X B xs3 14 (by omega) x y h0 (by omega)
  · exact stateB_at A E X B xs3 13 (by omega) x y h0 (by omega)
  · exact stateB_at A E X B xs3 12 (by omega) x y h0 (by omega)
  · exact stateB_at A E X B xs3 11 (by omega) x y h0 (by omega)
  · exact stateB_at A E X B xs3 10 (by omega) x y h0 (by omega)
  · exact stateB_at A E X B xs3 9 (by omega) x y h0 (by omega)
  · exact stateB_at A E X B xs3 8 (by omega) x y h0 (by omega)
  · exact stateB_at A E X B xs3 7 (by omega) x y h0 (by omega)
  · exact stateB_at A E X B xs3 6 (by omega) x y h0 (by omega)
  · exact stateB_at A E X B xs3 5 (by omega) x y h0 (by omega)
  · exact stateB_at A E X B xs3 4 (by omega) x y h0 (by omega)
  · exact stateB_at A E X B xs3 3 (by omega) x y h0 (by omega)
  · exact stateB_at A E X B xs3 2 (by omega) x y h0 (by omega)
  · exact stateB_at A E X B xs3 1 (by omega) x y h0 (by omega)
  · exact stateB_at A E X B xs3 0 (by omega) x y h0 (by omega)

set_option maxHeartbeats 4000000 in
/-- The heads' output over a point's chunk, as read back from its scratch. -/
theorem y_eq (c : Dev nD) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x128 .f32) (harg6 : arg6.IsWhole) (arg7 : Memref sig .tc .vmem S384x128 .bf16) (harg7 : arg7.IsWhole) (arg8 : Memref sig .tc .vmem S4x2048 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x128 .f32) (harg14 : arg14.IsWhole) (arg15 : Memref sig .tc .vmem S1x128 .f32) (harg15 : arg15.IsWhole) (arg19 : Memref sig .tc .vmem S8x2048 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S128x2048 .f32) (harg22 : arg22.IsWhole) (arg23 : Memref sig .tc .vmem S128x2048 .f32) (x1 : Vec Ideal S1x128x2048 .bf16) (x2 : Vec Ideal S1x128x512 .bf16) (x3 : Vec Ideal S1x128x512 .bf16) (x4 : Vec Ideal S1x128x128 .f32) (x5 : Vec Ideal S384x128 .bf16) (x6 : Vec Ideal S4x2048 .f32) (x7 : Vec Ideal S4x512 .f32) (x8 : Vec Ideal S4x512 .f32) (x9 : Vec Ideal S1x2048 .f32) (x10 : Vec Ideal S1x512 .f32) (x11 : Vec Ideal S1x512 .f32) (x12 : Vec Ideal S1x128 .f32) (x13 : Vec Ideal S1x128 .f32) (xs0 : Vec Ideal S8x2048 .f32) (xs1 : Vec Ideal S8x512 .f32) (xs2 : Vec Ideal S8x512 .f32) (xs3 : Vec Ideal S128x2048 .f32) : v1387 (F := Ideal) c arg3 harg3 arg4 harg4 arg5 harg5 arg6 harg6 arg7 harg7 arg8 harg8 arg9 harg9 arg10 harg10 arg11 harg11 arg12 harg12 arg13 harg13 arg14 harg14 arg15 harg15 arg19 harg19 arg20 harg20 arg21 harg21 arg22 harg22 arg23 x1 x2 x3 x4 x5 x6 x7 x8 x9 x10 x11 x12 x13 xs0 xs1 xs2 xs3 =
    yB (cumM x4 x12 x13) (srcM x4 x12 x13) (xsB x1 x5 x6 x9 xs0) (grB x2 x5 x7 x10 xs1) (grB x3 x5 x8 x11 xs2) xs3 := by
  have hX := x_eq c arg3 harg3 arg7 harg7 arg8 harg8 arg11 harg11 arg19 harg19 x1 x5 x6 x9 xs0
  have hB := b_eq c arg4 harg4 arg7 harg7 arg9 harg9 arg12 harg12 arg20 harg20 x2 x5 x7 x10 xs1
  have hC := c_eq c arg5 harg5 arg7 harg7 arg10 harg10 arg13 harg13 arg21 harg21 x3 x5 x8 x11 xs2
  have hA := cum_eq c arg6 harg6 arg14 harg14 arg15 harg15 x4 x12 x13
  dsimp only [r_3] at hA
  have hS := src_eq c arg6 harg6 arg14 harg14 arg15 harg15 x4 x12 x13
  dsimp only [r_5] at hS
  dsimp only [
    v1387, HS4_16, v334, v331, v328, v326, cst_119, v324, v323, v321, v225, v325, v315, v314, v313, v310, v303, v302, v301, r_3, r_6, v312, v311,
    v309, v308, v307, cst_116, v306, v305, v304, r_5, r_7, v295, v294, v293, v290, r_9, v292, v291, v289, v288, r_10, v327, v330, v402, v399, v396,
    v394, v392, v391, v390, v389, v393, v383, v382, v381, v378, v371, v370, v369, v380, v379, v377, v376, v374, v373, v372, v363, v362, v361, v358,
    v351, v350, v349, v360, v359, v357, v356, v354, v353, v352, v395, v470, v467, v464, v462, v460, v459, v458, v457, v461, v451, v450, v449, v446,
    v439, v438, v437, v448, v447, v445, v444, v442, v441, v440, v431, v430, v429, v426, v419, v418, v417, v428, v427, v425, v424, v422, v421, v420,
    v463, v538, v535, v532, v530, v528, v527, v526, v525, v529, v519, v518, v517, v514, v507, v506, v505, v516, v515, v513, v512, v510, v509, v508,
    v499, v498, v497, v494, v487, v486, v485, v496, v495, v493, v492, v490, v489, v488, v531, v612, v609, v606, v604, v602, v601, v600, v599, v603,
    v593, v592, v591, v588, v581, v580, v579, v554, v590, v589, v587, v586, v584, v583, v582, v557, cst_152, v556, v553, v555, v573, v572, v571,
    v568, v561, v560, v559, v570, v569, v567, v566, v564, v563, v562, v605, v680, v677, v674, v672, v670, v669, v668, v667, v671, v661, v660, v659,
    v656, v649, v648, v647, v658, v657, v655, v654, v652, v651, v650, v641, v640, v639, v636, v629, v628, v627, v638, v637, v635, v634, v632, v631,
    v630, v673, v748, v745, v742, v740, v738, v737, v736, v735, v739, v729, v728, v727, v724, v717, v716, v715, v726, v725, v723, v722, v720, v719,
    v718, v709, v708, v707, v704, v697, v696, v695, v706, v705, v703, v702, v700, v699, v698, v741, v816, v813, v810, v808, v806, v805, v804, v803,
    v807, v797, v796, v795, v792, v785, v784, v783, v794, v793, v791, v790, v788, v787, v786, v777, v776, v775, v772, v765, v764, v763, v774, v773,
    v771, v770, v768, v767, v766, v809, v890, v887, v884, v882, v880, v879, v878, v877, v881, v871, v870, v869, v866, v859, v858, v857, v832, v868,
    v867, v865, v864, v862, v861, v860, v835, v834, v831, v833, v851, v850, v849, v846, v839, v838, v837, v848, v847, v845, v844, v842, v841, v840,
    v883, v958, v955, v952, v950, v948, v947, v946, v945, v949, v939, v938, v937, v934, v927, v926, v925, v936, v935, v933, v932, v930, v929, v928,
    v919, v918, v917, v914, v907, v906, v905, v916, v915, v913, v912, v910, v909, v908, v951, v1026, v1023, v1020, v1018, v1016, v1015, v1014, v1013,
    v1017, v1007, v1006, v1005, v1002, v995, v994, v993, v1004, v1003, v1001, v1000, v998, v997, v996, v987, v986, v985, v982, v975, v974, v973,
    v984, v983, v981, v980, v978, v977, v976, v1019, v1094, v1091, v1088, v1086, v1084, v1083, v1082, v1081, v1085, v1075, v1074, v1073, v1070,
    v1063, v1062, v1061, v1072, v1071, v1069, v1068, v1066, v1065, v1064, v1055, v1054, v1053, v1050, v1043, v1042, v1041, v1052, v1051, v1049,
    v1048, v1046, v1045, v1044, v1087, v1168, v1165, v1162, v1160, v1158, v1157, v1156, v1155, v1159, v1149, v1148, v1147, v1144, v1137, v1136,
    v1135, v1110, v1146, v1145, v1143, v1142, v1140, v1139, v1138, v1113, v1112, v1109, v1111, v1129, v1128, v1127, v1124, v1117, v1116, v1115,
    v1126, v1125, v1123, v1122, v1120, v1119, v1118, v1161, v1236, v1233, v1230, v1228, v1226, v1225, v1224, v1223, v1227, v1217, v1216, v1215,
    v1212, v1205, v1204, v1203, v1214, v1213, v1211, v1210, v1208, v1207, v1206, v1197, v1196, v1195, v1192, v1185, v1184, v1183, v1194, v1193,
    v1191, v1190, v1188, v1187, v1186, v1229, v1304, v1301, v1298, v1296, v1294, v1293, v1292, v1291, v1295, v1285, v1284, v1283, v1280, v1273,
    v1272, v1271, v1282, v1281, v1279, v1278, v1276, v1275, v1274, v1265, v1264, v1263, v1260, v1253, v1252, v1251, v1262, v1261, v1259, v1258,
    v1256, v1255, v1254, v1297, v1372, v1369, v1366, v1364, v1362, v1361, v1360, v1359, v1363, v1353, v1352, v1351, v1348, v1341, v1340, v1339,
    v1350, v1349, v1347, v1346, v1344, v1343, v1342, v1333, v1332, v1331, v1328, v1321, v1320, v1319, v1330, v1329, v1327, v1326, v1324, v1323,
    v1322, v1365, k0_pay40, k0_pay41, k0_pay42, k0_pay43, k0_pay44]
  rw [hX, hB, hC, hA, hS]
  dsimp only [View.readAt_eq_ld]
  repeat rw [Memref.IsWhole.read_unread]
  generalize cumM x4 x12 x13 = A
  generalize srcM x4 x12 x13 = Sr
  generalize xsB x1 x5 x6 x9 _ = X
  generalize grB x2 x5 x7 x10 _ = B
  generalize grB x3 x5 x8 x11 _ = C
  rw [View.readCov_eq_canon']
  funext y
  refine (congrArg _ (whole_idx _ y)).trans ?_
  canon_tiles x h
  · exact yB_at A Sr X B C xs3 15 (by omega) x y h0 (by omega)
  · exact yB_at A Sr X B C xs3 14 (by omega) x y h0 (by omega)
  · exact yB_at A Sr X B C xs3 13 (by omega) x y h0 (by omega)
  · exact yB_at A Sr X B C xs3 12 (by omega) x y h0 (by omega)
  · exact yB_at A Sr X B C xs3 11 (by omega) x y h0 (by omega)
  · exact yB_at A Sr X B C xs3 10 (by omega) x y h0 (by omega)
  · exact yB_at A Sr X B C xs3 9 (by omega) x y h0 (by omega)
  · exact yB_at A Sr X B C xs3 8 (by omega) x y h0 (by omega)
  · exact yB_at A Sr X B C xs3 7 (by omega) x y h0 (by omega)
  · exact yB_at A Sr X B C xs3 6 (by omega) x y h0 (by omega)
  · exact yB_at A Sr X B C xs3 5 (by omega) x y h0 (by omega)
  · exact yB_at A Sr X B C xs3 4 (by omega) x y h0 (by omega)
  · exact yB_at A Sr X B C xs3 3 (by omega) x y h0 (by omega)
  · exact yB_at A Sr X B C xs3 2 (by omega) x y h0 (by omega)
  · exact yB_at A Sr X B C xs3 1 (by omega) x y h0 (by omega)
  · exact yB_at A Sr X B C xs3 0 (by omega) x y h0 (by omega)

/-- The gated output's word. -/
theorem gate_eq (c : Dev nD) (arg2 : Memref sig .tc .vmem S1x128x2048 .bf16) (harg2 : arg2.IsWhole) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x128 .f32) (harg6 : arg6.IsWhole) (arg7 : Memref sig .tc .vmem S384x128 .bf16) (harg7 : arg7.IsWhole) (arg8 : Memref sig .tc .vmem S4x2048 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x2048 .f32) (harg16 : arg16.IsWhole) (arg19 : Memref sig .tc .vmem S8x2048 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S128x2048 .f32) (harg22 : arg22.IsWhole) (arg23 : Memref sig .tc .vmem S128x2048 .f32) (x0 : Vec Ideal S1x128x2048 .bf16) (x1 : Vec Ideal S1x128x2048 .bf16) (x2 : Vec Ideal S1x128x512 .bf16) (x3 : Vec Ideal S1x128x512 .bf16) (x4 : Vec Ideal S1x128x128 .f32) (x5 : Vec Ideal S384x128 .bf16) (x6 : Vec Ideal S4x2048 .f32) (x7 : Vec Ideal S4x512 .f32) (x8 : Vec Ideal S4x512 .f32) (x9 : Vec Ideal S1x2048 .f32) (x10 : Vec Ideal S1x512 .f32) (x11 : Vec Ideal S1x512 .f32) (x12 : Vec Ideal S1x128 .f32) (x13 : Vec Ideal S1x128 .f32) (x14 : Vec Ideal S1x2048 .f32) (xs0 : Vec Ideal S8x2048 .f32) (xs1 : Vec Ideal S8x512 .f32) (xs2 : Vec Ideal S8x512 .f32) (xs3 : Vec Ideal S128x2048 .f32) : v1398 (F := Ideal) c arg2 harg2 arg3 harg3 arg4 harg4 arg5 harg5 arg6 harg6 arg7 harg7 arg8 harg8 arg9 harg9 arg10 harg10 arg11 harg11 arg12 harg12 arg13 harg13 arg14 harg14 arg15 harg15 arg16 harg16 arg19 harg19 arg20 harg20 arg21 harg21 arg22 harg22 arg23 x0 x1 x2 x3 x4 x5 x6 x7 x8 x9 x10 x11 x12 x13 x14 xs0 xs1 xs2 xs3 =
    gateB (yB (cumM x4 x12 x13) (srcM x4 x12 x13) (xsB x1 x5 x6 x9 xs0) (grB x2 x5 x7 x10 xs1) (grB x3 x5 x8 x11 xs2) xs3)
      (xsB x1 x5 x6 x9 xs0) x0 x14 := by
  have hX := x_eq c arg3 harg3 arg7 harg7 arg8 harg8 arg11 harg11 arg19 harg19 x1 x5 x6 x9 xs0
  have hY := y_eq c arg3 harg3 arg4 harg4 arg5 harg5 arg6 harg6 arg7 harg7 arg8 harg8 arg9 harg9 arg10 harg10 arg11 harg11 arg12 harg12 arg13 harg13 arg14 harg14 arg15 harg15 arg19 harg19 arg20 harg20 arg21 harg21 arg22 harg22 arg23 x1 x2 x3 x4 x5 x6 x7 x8 x9 x10 x11 x12 x13 xs0 xs1 xs2 xs3
  dsimp only [
    v1398, v1397, v1396, v1395, v1394, v1392, v1391, v1390, v1389]
  rw [hX, hY]
  dsimp only [View.readAt_eq_ld]
  repeat rw [Memref.IsWhole.read_unread]
  repeat (rw [View.ld_unit_lit']; swap; · decide)
  rfl

set_option maxHeartbeats 4000000 in
/-- The output block that a point leaves. -/
theorem out_eq (c : Dev nD) (i : grid0.Coords) (arg2 : Memref sig .tc .vmem S1x128x2048 .bf16) (harg2 : arg2.IsWhole) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x128 .f32) (harg6 : arg6.IsWhole) (arg7 : Memref sig .tc .vmem S384x128 .bf16) (harg7 : arg7.IsWhole) (arg8 : Memref sig .tc .vmem S4x2048 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x128x2048 .bf16) (harg18 : arg18.IsWhole) (arg19 : Memref sig .tc .vmem S8x2048 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S128x2048 .f32) (harg22 : arg22.IsWhole) (arg23 : Memref sig .tc .vmem S128x2048 .f32) (harg23 : arg23.IsWhole) (hc0 : ¬cond0_0 i)
    (x0 : Vec Ideal S1x128x2048 .bf16) (x1 : Vec Ideal S1x128x2048 .bf16) (x2 : Vec Ideal S1x128x512 .bf16) (x3 : Vec Ideal S1x128x512 .bf16) (x4 : Vec Ideal S1x128x128 .f32) (x5 : Vec Ideal S384x128 .bf16) (x6 : Vec Ideal S4x2048 .f32) (x7 : Vec Ideal S4x512 .f32) (x8 : Vec Ideal S4x512 .f32) (x9 : Vec Ideal S1x2048 .f32) (x10 : Vec Ideal S1x512 .f32) (x11 : Vec Ideal S1x512 .f32) (x12 : Vec Ideal S1x128 .f32) (x13 : Vec Ideal S1x128 .f32) (x14 : Vec Ideal S1x2048 .f32) (x15 : Vec Ideal S1x2048 .f32) (xs0 : Vec Ideal S8x2048 .f32) (xs1 : Vec Ideal S8x512 .f32) (xs2 : Vec Ideal S8x512 .f32) (xs3 : Vec Ideal S128x2048 .f32) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs0 xs1 xs2 xs3 =
      outB (gateB (yB (cumM x4 x12 x13) (srcM x4 x12 x13) (xsB x1 x5 x6 x9 xs0) (grB x2 x5 x7 x10 xs1) (grB x3 x5 x8 x11 xs2) xs3)
        (xsB x1 x5 x6 x9 xs0) x0 x14) x15 := by
  have hG := gate_eq c arg2 harg2 arg3 harg3 arg4 harg4 arg5 harg5 arg6 harg6 arg7 harg7 arg8 harg8 arg9 harg9 arg10 harg10 arg11 harg11 arg12 harg12 arg13 harg13 arg14 harg14 arg15 harg15 arg16 harg16 arg19 harg19 arg20 harg20 arg21 harg21 arg22 harg22 arg23 x0 x1 x2 x3 x4 x5 x6 x7 x8 x9 x10 x11 x12 x13 x14 xs0 xs1 xs2 xs3
  unfold out0_B_16 kernelRun0_B
  rw [View.read_writes_junk_eq_canon]
  dsimp only [
    v1417, v1414, v1413, v1412, v1411, v1409, v1408, v1407, v1406, v1405, cst_272, v1404, v1403, cst_271, v1402, v1401, v1400, v1399, v1436, v1433,
    v1432, v1431, v1430, v1428, v1427, v1426, v1425, v1423, v1421, v1420, v1419, v1418, v1445, v1444, v1442, v1440, v1439, v1438, v1437, r_11,
    k0_pay1, k0_pay250, k0_pay251]
  rw [hG]
  dsimp only [View.readAt_eq_ld]
  repeat rw [Memref.IsWhole.read_unread]
  generalize gateB _ _ _ _ = G
  funext y
  canon_tiles x h
  · exact outB_at G x15 3 (by omega) x y (by omega) h1 (by omega)
  · exact outB_at G x15 2 (by omega) x y (by omega) h1 (by omega)
  · exact outB_at G x15 1 (by omega) x y (by omega) h1 (by omega)
  · exact outB_at G x15 0 (by omega) x y (by omega) h1 (by omega)

/-- The rows that a point leaves for the next. -/
theorem tail0_eq (c : Dev nD) (i : grid0.Coords) (arg2 : Memref sig .tc .vmem S1x128x2048 .bf16) (harg2 : arg2.IsWhole) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x128 .f32) (harg6 : arg6.IsWhole) (arg7 : Memref sig .tc .vmem S384x128 .bf16) (harg7 : arg7.IsWhole) (arg8 : Memref sig .tc .vmem S4x2048 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x128x2048 .bf16) (harg18 : arg18.IsWhole) (arg19 : Memref sig .tc .vmem S8x2048 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S128x2048 .f32) (harg22 : arg22.IsWhole) (arg23 : Memref sig .tc .vmem S128x2048 .f32) (harg23 : arg23.IsWhole) (hc0 : ¬cond0_0 i)
    (x0 : Vec Ideal S1x128x2048 .bf16) (x1 : Vec Ideal S1x128x2048 .bf16) (x2 : Vec Ideal S1x128x512 .bf16) (x3 : Vec Ideal S1x128x512 .bf16) (x4 : Vec Ideal S1x128x128 .f32) (x5 : Vec Ideal S384x128 .bf16) (x6 : Vec Ideal S4x2048 .f32) (x7 : Vec Ideal S4x512 .f32) (x8 : Vec Ideal S4x512 .f32) (x9 : Vec Ideal S1x2048 .f32) (x10 : Vec Ideal S1x512 .f32) (x11 : Vec Ideal S1x512 .f32) (x12 : Vec Ideal S1x128 .f32) (x13 : Vec Ideal S1x128 .f32) (x14 : Vec Ideal S1x2048 .f32) (x15 : Vec Ideal S1x2048 .f32) (xs0 : Vec Ideal S8x2048 .f32) (xs1 : Vec Ideal S8x512 .f32) (xs2 : Vec Ideal S8x512 .f32) (xs3 : Vec Ideal S128x2048 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs0 xs1 xs2 xs3 = tailX x1 := by
  frame_open
  rw [View.read_writes_junk_eq_canon]
  dsimp only [View.readAt_eq_ld]
  repeat rw [Memref.IsWhole.read_unread]
  repeat (rw [View.ld_unit_lit']; swap; · decide)
  rw [View.canon_cons_unit_lit' _ _ _ (by decide)]
  rfl

/-- The rows that a point leaves for the next. -/
theorem tail1_eq (c : Dev nD) (i : grid0.Coords) (arg2 : Memref sig .tc .vmem S1x128x2048 .bf16) (harg2 : arg2.IsWhole) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x128 .f32) (harg6 : arg6.IsWhole) (arg7 : Memref sig .tc .vmem S384x128 .bf16) (harg7 : arg7.IsWhole) (arg8 : Memref sig .tc .vmem S4x2048 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x128x2048 .bf16) (harg18 : arg18.IsWhole) (arg19 : Memref sig .tc .vmem S8x2048 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S128x2048 .f32) (harg22 : arg22.IsWhole) (arg23 : Memref sig .tc .vmem S128x2048 .f32) (harg23 : arg23.IsWhole) (hc0 : ¬cond0_0 i)
    (x0 : Vec Ideal S1x128x2048 .bf16) (x1 : Vec Ideal S1x128x2048 .bf16) (x2 : Vec Ideal S1x128x512 .bf16) (x3 : Vec Ideal S1x128x512 .bf16) (x4 : Vec Ideal S1x128x128 .f32) (x5 : Vec Ideal S384x128 .bf16) (x6 : Vec Ideal S4x2048 .f32) (x7 : Vec Ideal S4x512 .f32) (x8 : Vec Ideal S4x512 .f32) (x9 : Vec Ideal S1x2048 .f32) (x10 : Vec Ideal S1x512 .f32) (x11 : Vec Ideal S1x512 .f32) (x12 : Vec Ideal S1x128 .f32) (x13 : Vec Ideal S1x128 .f32) (x14 : Vec Ideal S1x2048 .f32) (x15 : Vec Ideal S1x2048 .f32) (xs0 : Vec Ideal S8x2048 .f32) (xs1 : Vec Ideal S8x512 .f32) (xs2 : Vec Ideal S8x512 .f32) (xs3 : Vec Ideal S128x2048 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs0 xs1 xs2 xs3 = tailG x2 := by
  frame_open
  rw [View.read_writes_junk_eq_canon]
  dsimp only [View.readAt_eq_ld]
  repeat rw [Memref.IsWhole.read_unread]
  repeat (rw [View.ld_unit_lit']; swap; · decide)
  rw [View.canon_cons_unit_lit' _ _ _ (by decide)]
  rfl

/-- The rows that a point leaves for the next. -/
theorem tail2_eq (c : Dev nD) (i : grid0.Coords) (arg2 : Memref sig .tc .vmem S1x128x2048 .bf16) (harg2 : arg2.IsWhole) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x128 .f32) (harg6 : arg6.IsWhole) (arg7 : Memref sig .tc .vmem S384x128 .bf16) (harg7 : arg7.IsWhole) (arg8 : Memref sig .tc .vmem S4x2048 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S1x2048 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S1x128x2048 .bf16) (harg18 : arg18.IsWhole) (arg19 : Memref sig .tc .vmem S8x2048 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S128x2048 .f32) (harg22 : arg22.IsWhole) (arg23 : Memref sig .tc .vmem S128x2048 .f32) (harg23 : arg23.IsWhole) (hc0 : ¬cond0_0 i)
    (x0 : Vec Ideal S1x128x2048 .bf16) (x1 : Vec Ideal S1x128x2048 .bf16) (x2 : Vec Ideal S1x128x512 .bf16) (x3 : Vec Ideal S1x128x512 .bf16) (x4 : Vec Ideal S1x128x128 .f32) (x5 : Vec Ideal S384x128 .bf16) (x6 : Vec Ideal S4x2048 .f32) (x7 : Vec Ideal S4x512 .f32) (x8 : Vec Ideal S4x512 .f32) (x9 : Vec Ideal S1x2048 .f32) (x10 : Vec Ideal S1x512 .f32) (x11 : Vec Ideal S1x512 .f32) (x12 : Vec Ideal S1x128 .f32) (x13 : Vec Ideal S1x128 .f32) (x14 : Vec Ideal S1x2048 .f32) (x15 : Vec Ideal S1x2048 .f32) (xs0 : Vec Ideal S8x2048 .f32) (xs1 : Vec Ideal S8x512 .f32) (xs2 : Vec Ideal S8x512 .f32) (xs3 : Vec Ideal S128x2048 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs0 xs1 xs2 xs3 = tailG x3 := by
  frame_open
  rw [View.read_writes_junk_eq_canon]
  dsimp only [View.readAt_eq_ld]
  repeat rw [Memref.IsWhole.read_unread]
  repeat (rw [View.ld_unit_lit']; swap; · decide)
  rw [View.canon_cons_unit_lit' _ _ _ (by decide)]
  rfl

end Cert.KernelIdeal.Chunk.CaseB
-- ==== Proof.Point.lean ====
module

public import proofs.«01_k».proof.Proof.Gen.KernelIdeal.Value
public import Idealize.ShloMosaic.Lib.Pipeline.ValueKit
public import Idealize.ShloMosaic.Lib.Claim
public import proofs.«01_k».proof.Proof.BodyA
public import proofs.«01_k».proof.Proof.BodyB

@[expose] public section

set_option maxRecDepth 16384
set_option pp.maxSteps 400
noncomputable section
namespace Cert.KernelIdeal.Chunk
open Cert.KernelIdeal Cert.KernelIdeal.Gen Idealize.ShloMosaic Idealize.ShloMosaic.TcCoe Idealize.ShloMosaic.Tactic

variable (m : (ℓ : Loc nD τ sig) → Buf (Elt Ideal) ℓ) (c : Dev nD)

/-- A point's activations, from the rows left before it. -/
def Xp (t : Fin cfg0.N) (r : FVec Ideal S8x2048 .f32) : FVec Ideal S128x2048 .f32 :=
  xsB (X0_1 m c t) (iblk m c 5 t) (iblk m c 6 t) (iblk m c 9 t) r
/-- A point's input projection. -/
def Bp (t : Fin cfg0.N) (r : FVec Ideal S8x512 .f32) : FVec Ideal S128x512 .f32 :=
  grB (iblk m c 2 t) (iblk m c 5 t) (iblk m c 7 t) (iblk m c 10 t) r
/-- A point's output projection. -/
def Cp (t : Fin cfg0.N) (r : FVec Ideal S8x512 .f32) : FVec Ideal S128x512 .f32 :=
  grB (iblk m c 3 t) (iblk m c 5 t) (iblk m c 8 t) (iblk m c 11 t) r
/-- A point's log decays. -/
def Ap (t : Fin cfg0.N) : FVec Ideal S128x128 .f32 := cumM (iblk m c 4 t) (iblk m c 12 t) (iblk m c 13 t)
/-- A point's decays to its end. -/
def Ep (t : Fin cfg0.N) : FVec Ideal S128x128 .f32 := endM (iblk m c 4 t) (iblk m c 12 t) (iblk m c 13 t)
/-- A point's source terms. -/
def Sp (t : Fin cfg0.N) : FVec Ideal S128x128 .f32 := srcM (iblk m c 4 t) (iblk m c 12 t) (iblk m c 13 t)

/-- The rows and the state before a point, four buffers. -/
abbrev Carry : Type := FVec Ideal S8x2048 .f32 × FVec Ideal S8x512 .f32 × FVec Ideal S8x512 .f32 × FVec Ideal S128x2048 .f32

/-- What a point leaves, from what it finds. -/
def stepOf (t : Fin cfg0.N) (p : Carry) : FVec Ideal S1x128x2048 .bf16 × Carry :=
  (outB (gateB (yB (Ap m c t) (Sp m c t) (Xp m c t p.1) (Bp m c t p.2.1) (Cp m c t p.2.2.1) p.2.2.2) (Xp m c t p.1) (X0_0 m c t) (iblk m c 14 t)) (iblk m c 15 t),
   tailX (X0_1 m c t), tailG (iblk m c 2 t), tailG (iblk m c 3 t), stateB (Ap m c t) (Ep m c t) (Xp m c t p.1) (Bp m c t p.2.1) p.2.2.2)

theorem point_A (t : Fin cfg0.N) (h0 : t.val % 32 = 0) : outsAt0 m c t.val t.isLt = stepOf m c t (zeroX, zeroG, zeroG, zeroS) := by
  rw [outsAt0_A m c t h0, CaseA.out_eq, CaseA.tail0_eq, CaseA.tail1_eq, CaseA.tail2_eq, CaseA.state_eq]
  rfl

theorem point_B (t : Fin cfg0.N) (h0 : ¬t.val % 32 = 0) :
    outsAt0 m c t.val t.isLt = stepOf m c t (outsAt0 m c (t.val - 1) (Nat.lt_of_le_of_lt (Nat.sub_le _ _) t.isLt)).2 := by
  rw [outsAt0_B m c t h0, CaseB.out_eq, CaseB.tail0_eq, CaseB.tail1_eq, CaseB.tail2_eq, CaseB.state_eq]
  rfl

end Cert.KernelIdeal.Chunk
-- ==== Proof.Spec.lean ====
module

public import proofs.«01_k».proof.Proof.Conv
public import proofs.«01_k».proof.Proof.Scalars

@[expose] public section

noncomputable section

namespace Cert.Ssd

open Idealize.ShloMosaic Cert.KernelIdeal.Chunk
open scoped BigOperators

/-- The arguments, read at natural numbers. -/
structure Args where
  P : Fin 4 → ℕ → ℕ → EReal
  W : ℕ → ℕ → EReal
  cb : ℕ → EReal
  db : ℕ → EReal
  al : ℕ → EReal
  ds : ℕ → EReal
  g : ℕ → EReal

/-- The arguments of the arrays. -/
def argsOf (p : FVec Ideal ⟨3, ![4, 4096, 9064]⟩ .f32) (w : FVec Ideal ⟨2, ![4, 3072]⟩ .f32) (cb : FVec Ideal ⟨1, ![3072]⟩ .f32)
    (db al ds : FVec Ideal ⟨1, ![32]⟩ .f32) (g : FVec Ideal ⟨1, ![2048]⟩ .f32) : Args where
  P b s j := if h : s < 4096 ∧ j < 9064 then p (ix3 b ⟨s, h.1⟩ ⟨j, h.2⟩) else 0
  W k j := if h : k < 4 ∧ j < 3072 then w (ix2 ⟨k, h.1⟩ ⟨j, h.2⟩) else 0
  cb j := if h : j < 3072 then cb (ix1 ⟨j, h⟩) else 0
  db j := if h : j < 32 then db (ix1 ⟨j, h⟩) else 0
  al j := if h : j < 32 then al (ix1 ⟨j, h⟩) else 0
  ds j := if h : j < 32 then ds (ix1 ⟨j, h⟩) else 0
  g j := if h : j < 2048 then g (ix1 ⟨j, h⟩) else 0

section
variable (p : FVec Ideal ⟨3, ![4, 4096, 9064]⟩ .f32) (w : FVec Ideal ⟨2, ![4, 3072]⟩ .f32) (cb : FVec Ideal ⟨1, ![3072]⟩ .f32)
    (db al ds : FVec Ideal ⟨1, ![32]⟩ .f32) (g : FVec Ideal ⟨1, ![2048]⟩ .f32)
theorem P_at (b : Fin 4) (s j : ℕ) (hs : s < 4096) (hj : j < 9064) : (argsOf p w cb db al ds g).P b s j = p (ix3 b ⟨s, hs⟩ ⟨j, hj⟩) := dif_pos ⟨hs, hj⟩
theorem W_at (k j : ℕ) (hk : k < 4) (hj : j < 3072) : (argsOf p w cb db al ds g).W k j = w (ix2 ⟨k, hk⟩ ⟨j, hj⟩) := dif_pos ⟨hk, hj⟩
theorem cb_at (j : ℕ) (hj : j < 3072) : (argsOf p w cb db al ds g).cb j = cb (ix1 ⟨j, hj⟩) := dif_pos hj
theorem db_at (j : ℕ) (hj : j < 32) : (argsOf p w cb db al ds g).db j = db (ix1 ⟨j, hj⟩) := dif_pos hj
theorem al_at (j : ℕ) (hj : j < 32) : (argsOf p w cb db al ds g).al j = al (ix1 ⟨j, hj⟩) := dif_pos hj
theorem ds_at (j : ℕ) (hj : j < 32) : (argsOf p w cb db al ds g).ds j = ds (ix1 ⟨j, hj⟩) := dif_pos hj
theorem g_at (j : ℕ) (hj : j < 2048) : (argsOf p w cb db al ds g).g j = g (ix1 ⟨j, hj⟩) := dif_pos hj
end

variable (A : Args) (b : Fin 4)

/-- A channel's sequence, three zeros before it. -/
def ext (j n : ℕ) : EReal := if 3 ≤ n then A.P b (n - 3) (3912 + j) else 0
/-- A channel after convolution and activation. -/
def act (j T : ℕ) : EReal := silu (convAt (ext A b j) (A.cb j) (A.W 0 j) (A.W 1 j) (A.W 2 j) (A.W 3 j) T)
/-- A head's step. -/
def step (T h : ℕ) : EReal := softplus (A.P b T (6984 + h) + A.db h)
/-- A head's log decay over a chunk. -/
def acc (k h : ℕ) (l : Fin 128) : EReal := cum (fun s => step A b (128 * k + s.val) h * -Ideal.exp (A.al h)) l
/-- A head's decay from a position to its chunk's end, times the step. -/
def tail (k h : ℕ) (s : Fin 128) : EReal := Ideal.exp (acc A b k h 127 - acc A b k h s) * step A b (128 * k + s.val) h
/-- A head's state before chunk `k`. -/
def St : ℕ → ℕ → ℕ → Fin 128 → EReal
  | 0, _, _, _ => 0
  | k + 1, h, d, n => St k h d n * Ideal.exp (acc A b k h 127) +
      ∑ x : Fin 128, act A b (2048 + (128 * (h / 8) + n.val)) (128 * k + x.val) * tail A b k h x * act A b (64 * h + d) (128 * k + x.val)
/-- A group's score. -/
def score (k g : ℕ) (l s : Fin 128) : EReal :=
  ∑ n : Fin 128, act A b (2560 + (128 * g + n.val)) (128 * k + l.val) * act A b (2048 + (128 * g + n.val)) (128 * k + s.val)
/-- A head's output. -/
def Yh (k h d : ℕ) (l : Fin 128) : EReal :=
  (∑ s : Fin 128, score A b k (h / 8) l s *
      (if s.val ≤ l.val then Ideal.exp (acc A b k h l - acc A b k h s) * step A b (128 * k + s.val) h else 0) * act A b (64 * h + d) (128 * k + s.val))
    + ∑ n : Fin 128, act A b (2560 + (128 * (h / 8) + n.val)) (128 * k + l.val) * Ideal.exp (acc A b k h l) * St A b k h d n
/-- A gated column. -/
def gate (k : ℕ) (l : Fin 128) (j : ℕ) : EReal :=
  (Yh A b k (j / 64) (j % 64) l + act A b j (128 * k + l.val) * A.ds (j / 64)) * silu (A.P b (128 * k + l.val) (1864 + j))
/-- The layer's output. -/
def out (k : ℕ) (l : Fin 128) (j : ℕ) : EReal :=
  gate A b k l j * Ideal.rsqrt (Ideal.div (∑ i : Fin 512, gate A b k l (512 * (j / 512) + i.val) * gate A b k l (512 * (j / 512) + i.val))
    (Ideal.ofBits .f32 0x44000000#32) + Ideal.ofBits .f32 0x358637BD#32) * A.g j

theorem step_nonneg (T h : ℕ) : 0 ≤ step A b T h := softplus_nonneg _
theorem acc_nonpos (k h : ℕ) (l : Fin 128) : acc A b k h l ≤ 0 := cum_nonpos _ (fun _ => step_nonpos _ _ (step_nonneg A b _ _)) l
theorem acc_anti (k h : ℕ) (s l : Fin 128) (hs : s.val ≤ l.val) : acc A b k h l ≤ acc A b k h s :=
  cum_anti _ (fun _ => step_nonpos _ _ (step_nonneg A b _ _)) s l hs

end Cert.Ssd
-- ==== Proof.Host.lean ====
module

public import proofs.«01_k».proof.Proof.Gen.KernelIdeal.Value
public import Idealize.ShloMosaic.Lib.Pipeline.ValueKit
public import Idealize.ShloMosaic.Lib.Claim
public import proofs.«01_k».proof.Proof.Spec

@[expose] public section

set_option maxRecDepth 16384
set_option pp.maxSteps 400
noncomputable section
namespace Cert.KernelIdeal.Chunk
open Cert.KernelIdeal Cert.KernelIdeal.Gen Idealize.ShloMosaic Idealize.ShloMosaic.TcCoe Idealize.ShloMosaic.Tactic

variable (m : (ℓ : Loc nD τ sig) → Buf (Elt Ideal) ℓ) (c : Dev nD)

theorem V_segs (b : Ref sig .tc) : V m c b = StableHlo.after hostOps0_4 (StableHlo.after hostOps0_3 (StableHlo.after hostOps0_2
    (StableHlo.after hostOps0_1 (StableHlo.after hostOps0 fun b => m (c, b))))) (Proc.devRef .tc b) := by
  unfold V
  rw [List.flatten_cons, List.flatten_cons, List.flatten_cons, List.flatten_cons, List.flatten_cons, List.flatten_nil]
  rw [StableHlo.after_append, StableHlo.after_append, StableHlo.after_append, StableHlo.after_append, StableHlo.after_append]
  rfl

theorem V9_z (b : Fin 4) (s : Fin 4096) (d : Fin 2048) : V m c main_v9 (ix3 b s ⟨0 + d.val, by omega⟩) = m ((c : Thread nD τ).loc main_arg0) (ix3 b s ⟨1864 + d.val, by omega⟩) := by
  rw [V_segs]
  unfold hostOps0 hostOps0_1 hostOps0_2 hostOps0_3 hostOps0_4
  generalize lit0 = L
  simp only [StableHlo.after_cons, StableHlo.after_nil]
  after_results_simp
  pointwise
  try (after_results_simp; pointwise)

theorem V9_x (b : Fin 4) (s : Fin 4096) (d : Fin 2048) : V m c main_v9 (ix3 b s ⟨2048 + d.val, by omega⟩) = m ((c : Thread nD τ).loc main_arg0) (ix3 b s ⟨3912 + d.val, by omega⟩) := by
  rw [V_segs]
  unfold hostOps0 hostOps0_1 hostOps0_2 hostOps0_3 hostOps0_4
  generalize lit0 = L
  simp only [StableHlo.after_cons, StableHlo.after_nil]
  after_results_simp
  pointwise
  try (after_results_simp; pointwise)

theorem V9_b (b : Fin 4) (s : Fin 4096) (d : Fin 512) : V m c main_v9 (ix3 b s ⟨7168 + d.val, by omega⟩) = m ((c : Thread nD τ).loc main_arg0) (ix3 b s ⟨5960 + d.val, by omega⟩) := by
  rw [V_segs]
  unfold hostOps0 hostOps0_1 hostOps0_2 hostOps0_3 hostOps0_4
  generalize lit0 = L
  simp only [StableHlo.after_cons, StableHlo.after_nil]
  after_results_simp
  pointwise
  try (after_results_simp; pointwise)
  repeat rw [dif_neg (by omega)]
  rw [dif_pos (by omega)]
  exact congrArg _ (congrArg (ix3 b s) (Fin.ext (by dsimp only; omega)))

theorem V9_c (b : Fin 4) (s : Fin 4096) (d : Fin 512) : V m c main_v9 (ix3 b s ⟨7680 + d.val, by omega⟩) = m ((c : Thread nD τ).loc main_arg0) (ix3 b s ⟨6472 + d.val, by omega⟩) := by
  rw [V_segs]
  unfold hostOps0 hostOps0_1 hostOps0_2 hostOps0_3 hostOps0_4
  generalize lit0 = L
  simp only [StableHlo.after_cons, StableHlo.after_nil]
  after_results_simp
  pointwise
  try (after_results_simp; pointwise)
  repeat rw [dif_neg (by omega)]
  rw [dif_pos (by omega)]
  exact congrArg _ (congrArg (ix3 b s) (Fin.ext (by dsimp only; omega)))

theorem V16_dt (b : Fin 4) (s : Fin 4096) (h : Fin 32) : V m c main_v16 (ix3 b s ⟨384 + h.val, by omega⟩) = m ((c : Thread nD τ).loc main_arg0) (ix3 b s ⟨6984 + h.val, by omega⟩) := by
  rw [V_segs]
  unfold hostOps0 hostOps0_1 hostOps0_2 hostOps0_3 hostOps0_4
  generalize lit0 = L
  simp only [StableHlo.after_cons, StableHlo.after_nil]
  after_results_simp
  pointwise
  try (after_results_simp; pointwise)
  repeat rw [dif_neg (by omega)]
  rw [dif_pos (by omega)]
  exact congrArg _ (congrArg (ix3 b s) (Fin.ext (by dsimp only; omega)))

theorem V17_at (k : Fin 4) (d : Fin 2048) : V m c main_v17 (ix2 k d) = m ((c : Thread nD τ).loc main_arg1) (ix2 k ⟨0 + d.val, by omega⟩) := by
  rw [V_segs]
  unfold hostOps0 hostOps0_1 hostOps0_2 hostOps0_3 hostOps0_4
  generalize lit0 = L
  simp only [StableHlo.after_cons, StableHlo.after_nil]
  after_results_simp
  pointwise
  try (after_results_simp; pointwise)

theorem V18_at (k : Fin 4) (d : Fin 512) : V m c main_v18 (ix2 k d) = m ((c : Thread nD τ).loc main_arg1) (ix2 k ⟨2048 + d.val, by omega⟩) := by
  rw [V_segs]
  unfold hostOps0 hostOps0_1 hostOps0_2 hostOps0_3 hostOps0_4
  generalize lit0 = L
  simp only [StableHlo.after_cons, StableHlo.after_nil]
  after_results_simp
  pointwise
  try (after_results_simp; pointwise)

theorem V19_at (k : Fin 4) (d : Fin 512) : V m c main_v19 (ix2 k d) = m ((c : Thread nD τ).loc main_arg1) (ix2 k ⟨2560 + d.val, by omega⟩) := by
  rw [V_segs]
  unfold hostOps0 hostOps0_1 hostOps0_2 hostOps0_3 hostOps0_4
  generalize lit0 = L
  simp only [StableHlo.after_cons, StableHlo.after_nil]
  after_results_simp
  pointwise
  try (after_results_simp; pointwise)

theorem V21_at (d : Fin 2048) : V m c main_v21 (ix2 0 d) = m ((c : Thread nD τ).loc main_arg2) (ix1 ⟨0 + d.val, by omega⟩) := by
  rw [V_segs]
  unfold hostOps0 hostOps0_1 hostOps0_2 hostOps0_3 hostOps0_4
  generalize lit0 = L
  simp only [StableHlo.after_cons, StableHlo.after_nil]
  after_results_simp
  pointwise
  try (after_results_simp; pointwise)

theorem V22_at (d : Fin 512) : V m c main_v22 (ix2 0 d) = m ((c : Thread nD τ).loc main_arg2) (ix1 ⟨2048 + d.val, by omega⟩) := by
  rw [V_segs]
  unfold hostOps0 hostOps0_1 hostOps0_2 hostOps0_3 hostOps0_4
  generalize lit0 = L
  simp only [StableHlo.after_cons, StableHlo.after_nil]
  after_results_simp
  pointwise
  try (after_results_simp; pointwise)

theorem V23_at (d : Fin 512) : V m c main_v23 (ix2 0 d) = m ((c : Thread nD τ).loc main_arg2) (ix1 ⟨2560 + d.val, by omega⟩) := by
  rw [V_segs]
  unfold hostOps0 hostOps0_1 hostOps0_2 hostOps0_3 hostOps0_4
  generalize lit0 = L
  simp only [StableHlo.after_cons, StableHlo.after_nil]
  after_results_simp
  pointwise
  try (after_results_simp; pointwise)

theorem V25_at (h : Fin 32) : V m c main_v25 (ix2 0 ⟨h.val, by omega⟩) = m ((c : Thread nD τ).loc main_arg3) (ix1 h) := by
  rw [V_segs]
  unfold hostOps0 hostOps0_1 hostOps0_2 hostOps0_3 hostOps0_4
  generalize lit0 = L
  simp only [StableHlo.after_cons, StableHlo.after_nil]
  after_results_simp
  pointwise
  try (after_results_simp; pointwise)
  show pad S128 ![0] ![96] ![0] (m (c, Proc.tc.devRef main_arg3)) (sitofp .f32 (constantI S_ 32 0#32) : FVec Ideal S_ .f32) pads_S32_S128_0960 h_S_ (ix1 ⟨h.val, _⟩) = _
  pointwise
  exact dif_pos (fun a => by fin_cases a; exact h.isLt)

theorem V27_at (h : Fin 32) : V m c main_v27 (ix2 0 ⟨h.val, by omega⟩) = m ((c : Thread nD τ).loc main_arg4) (ix1 h) := by
  rw [V_segs]
  unfold hostOps0 hostOps0_1 hostOps0_2 hostOps0_3 hostOps0_4
  generalize lit0 = L
  simp only [StableHlo.after_cons, StableHlo.after_nil]
  after_results_simp
  pointwise
  try (after_results_simp; pointwise)
  show pad S128 ![0] ![96] ![0] (m (c, Proc.tc.devRef main_arg4)) (sitofp .f32 (constantI S_ 32 0#32) : FVec Ideal S_ .f32) pads_S32_S128_0960 h_S_ (ix1 ⟨h.val, _⟩) = _
  pointwise
  exact dif_pos (fun a => by fin_cases a; exact h.isLt)

theorem V30_at (d : Fin 2048) : V m c main_v30 (ix2 0 d) = m ((c : Thread nD τ).loc main_arg5) (ix1 ⟨d.val / 64, by omega⟩) := by
  rw [V_segs]
  unfold hostOps0 hostOps0_1 hostOps0_2 hostOps0_3 hostOps0_4
  generalize lit0 = L
  simp only [StableHlo.after_cons, StableHlo.after_nil]
  after_results_simp
  pointwise
  try (after_results_simp; pointwise)

theorem V31_at (d : Fin 2048) : V m c main_v31 (ix2 0 d) = m ((c : Thread nD τ).loc main_arg6) (ix1 d) := by
  rw [V_segs]
  unfold hostOps0 hostOps0_1 hostOps0_2 hostOps0_3 hostOps0_4
  generalize lit0 = L
  simp only [StableHlo.after_cons, StableHlo.after_nil]
  after_results_simp
  pointwise
  try (after_results_simp; pointwise)

theorem Vcst_at (r : Fin 384) (s : Fin 128) : V m c main_cst (ix2 r s) = FloatOps.ofBits (F := Ideal) .bf16 (lit0 (S384x128.rowMajor (ix2 r s))) := by
  rw [V_segs]
  unfold hostOps0 hostOps0_1 hostOps0_2 hostOps0_3 hostOps0_4
  generalize lit0 = L
  simp only [StableHlo.after_cons, StableHlo.after_nil]
  after_results_simp

end Cert.KernelIdeal.Chunk
-- ==== Proof.Shift.lean ====
module

public import proofs.«01_k».proof.Proof.Gen.KernelIdeal.Skeleton
public import Idealize.ShloMosaic.Lib.Pointwise

@[expose] public section

set_option maxRecDepth 16384

noncomputable section

namespace Cert.KernelIdeal.Chunk

open Cert.KernelIdeal Cert.KernelIdeal.Gen Idealize.ShloMosaic Idealize.ShloMosaic.TcCoe Idealize.ShloMosaic.Tactic

set_option maxHeartbeats 8000000 in
/-- The literal's words, eight rows at a time: row `128 k + t` has a one at column `t - (3 - k)`. -/
theorem lit0_rows (k : Fin 3) (q : Fin 16) : ∀ (u : Fin 8) (s : Fin 128),
    lit0 ⟨(128 * k.val + (8 * q.val + u.val)) * 128 + s.val, by omega⟩ =
      if 8 * q.val + u.val + k.val = s.val + 3 then 0x3F80#16 else 0#16 := by
  fin_cases k <;> fin_cases q <;> decide +kernel

/-- The literal's words. -/
theorem lit0_words (k : Fin 3) (t s : Fin 128) (h : (128 * k.val + t.val) * 128 + s.val < 49152) :
    lit0 ⟨(128 * k.val + t.val) * 128 + s.val, h⟩ = if t.val + k.val = s.val + 3 then 0x3F80#16 else 0#16 := by
  have e := lit0_rows k ⟨t.val / 8, by omega⟩ ⟨t.val % 8, by omega⟩ s
  have h8 : 8 * (t.val / 8) + t.val % 8 = t.val := Nat.div_add_mod _ _
  simp only [h8] at e
  exact e

end Cert.KernelIdeal.Chunk
-- ==== Proof.Win.lean ====
module

public import proofs.«01_k».proof.Proof.Gen.KernelIdeal.Value
public import proofs.«01_k».proof.Proof.Host
public import Idealize.ShloMosaic.Lib.Pipeline.ValueKit
public import proofs.«01_k».proof.Proof.Spec
public import proofs.«01_k».proof.Proof.Shift

@[expose] public section

set_option maxRecDepth 16384
set_option pp.maxSteps 400
noncomputable section
namespace Cert.KernelIdeal.Chunk
open Cert.Ssd Cert.KernelIdeal Cert.KernelIdeal.Gen Idealize.ShloMosaic Idealize.ShloMosaic.TcCoe Idealize.ShloMosaic.Tactic
variable (m : (ℓ : Loc nD τ sig) → Buf (Elt Ideal) ℓ) (c : Dev nD)

/-- The arguments at entry. -/
def argsK : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

theorem lt128 (t : Fin cfg0.N) : t.val < 128 := lt_of_lt_of_eq t.isLt N_0
/-- A point's batch. -/
def bat (t : Fin cfg0.N) : Fin 4 := ⟨t.val / 32, by have := lt128 t; omega⟩
/-- A row of a point's chunk. -/
def row (t : Fin cfg0.N) (l : Fin 128) : Fin 4096 := ⟨128 * (t.val % 32) + l.val, by have := l.isLt; omega⟩

theorem idx0 (t : Fin cfg0.N) : win0_0.index t = ![t.val / 32, t.val % 32, 0] := (by decide +kernel : ∀ t : Fin grid0.N, win0_0.index t = ![t.val / 32, t.val % 32, 0]) t
theorem idx1 (t : Fin cfg0.N) : win0_1.index t = ![t.val / 32, t.val % 32, 1] := (by decide +kernel : ∀ t : Fin grid0.N, win0_1.index t = ![t.val / 32, t.val % 32, 1]) t
theorem idx2 (t : Fin cfg0.N) : win0_2.index t = ![t.val / 32, t.val % 32, 14] := (by decide +kernel : ∀ t : Fin grid0.N, win0_2.index t = ![t.val / 32, t.val % 32, 14]) t
theorem idx3 (t : Fin cfg0.N) : win0_3.index t = ![t.val / 32, t.val % 32, 15] := (by decide +kernel : ∀ t : Fin grid0.N, win0_3.index t = ![t.val / 32, t.val % 32, 15]) t
theorem idx4 (t : Fin cfg0.N) : win0_4.index t = ![t.val / 32, t.val % 32, 3] := (by decide +kernel : ∀ t : Fin grid0.N, win0_4.index t = ![t.val / 32, t.val % 32, 3]) t
theorem idx5 (t : Fin cfg0.N) : win0_5.index t = ![0, 0] := (by decide +kernel : ∀ t : Fin grid0.N, win0_5.index t = ![0, 0]) t
theorem idx6 (t : Fin cfg0.N) : win0_6.index t = ![0, 0] := (by decide +kernel : ∀ t : Fin grid0.N, win0_6.index t = ![0, 0]) t
theorem idx7 (t : Fin cfg0.N) : win0_7.index t = ![0, 0] := (by decide +kernel : ∀ t : Fin grid0.N, win0_7.index t = ![0, 0]) t
theorem idx8 (t : Fin cfg0.N) : win0_8.index t = ![0, 0] := (by decide +kernel : ∀ t : Fin grid0.N, win0_8.index t = ![0, 0]) t
theorem idx9 (t : Fin cfg0.N) : win0_9.index t = ![0, 0] := (by decide +kernel : ∀ t : Fin grid0.N, win0_9.index t = ![0, 0]) t
theorem idx10 (t : Fin cfg0.N) : win0_10.index t = ![0, 0] := (by decide +kernel : ∀ t : Fin grid0.N, win0_10.index t = ![0, 0]) t
theorem idx11 (t : Fin cfg0.N) : win0_11.index t = ![0, 0] := (by decide +kernel : ∀ t : Fin grid0.N, win0_11.index t = ![0, 0]) t
theorem idx12 (t : Fin cfg0.N) : win0_12.index t = ![0, 0] := (by decide +kernel : ∀ t : Fin grid0.N, win0_12.index t = ![0, 0]) t
theorem idx13 (t : Fin cfg0.N) : win0_13.index t = ![0, 0] := (by decide +kernel : ∀ t : Fin grid0.N, win0_13.index t = ![0, 0]) t
theorem idx14 (t : Fin cfg0.N) : win0_14.index t = ![0, 0] := (by decide +kernel : ∀ t : Fin grid0.N, win0_14.index t = ![0, 0]) t
theorem idx15 (t : Fin cfg0.N) : win0_15.index t = ![0, 0] := (by decide +kernel : ∀ t : Fin grid0.N, win0_15.index t = ![0, 0]) t

theorem w0 (t : Fin cfg0.N) (l : Fin 128) (d : Fin 2048) :
    X0_0 m c t (ix3 0 l d) = (argsK m c).P (bat t) (128 * (t.val % 32) + l.val) (1864 + d.val) := by
  refine Eq.trans ?_ (P_at _ _ _ _ _ _ _ _ _ _ (row t l).isLt (by omega)).symm
  refine Eq.trans ?_ (V9_z m c (bat t) (row t l) d)
  unfold X0_0 Pipeline.Window.fill
  rw [dif_pos (moved0_0 t _)]
  blk_ext [iblk, bat, row, idx0 t]

theorem w1 (t : Fin cfg0.N) (l : Fin 128) (d : Fin 2048) :
    X0_1 m c t (ix3 0 l d) = (argsK m c).P (bat t) (128 * (t.val % 32) + l.val) (3912 + d.val) := by
  refine Eq.trans ?_ (P_at _ _ _ _ _ _ _ _ _ _ (row t l).isLt (by omega)).symm
  refine Eq.trans ?_ (V9_x m c (bat t) (row t l) d)
  unfold X0_1 Pipeline.Window.fill
  rw [dif_pos (moved0_1 t _)]
  blk_ext [iblk, bat, row, idx1 t]

theorem w2 (t : Fin cfg0.N) (l : Fin 128) (d : Fin 512) :
    iblk m c 2 t (ix3 0 l d) = (argsK m c).P (bat t) (128 * (t.val % 32) + l.val) (3912 + (2048 + d.val)) := by
  refine Eq.trans ?_ (P_at _ _ _ _ _ _ _ _ _ _ (row t l).isLt (by omega)).symm
  refine Eq.trans ?_ ((V9_b m c (bat t) (row t l) d).trans (congrArg _ (congrArg (ix3 _ _) (Fin.ext (by first | rfl | (dsimp only; omega))))))
  blk_ext [iblk, bat, row, idx2 t]

theorem w3 (t : Fin cfg0.N) (l : Fin 128) (d : Fin 512) :
    iblk m c 3 t (ix3 0 l d) = (argsK m c).P (bat t) (128 * (t.val % 32) + l.val) (3912 + (2560 + d.val)) := by
  refine Eq.trans ?_ (P_at _ _ _ _ _ _ _ _ _ _ (row t l).isLt (by omega)).symm
  refine Eq.trans ?_ ((V9_c m c (bat t) (row t l) d).trans (congrArg _ (congrArg (ix3 _ _) (Fin.ext (by first | rfl | (dsimp only; omega))))))
  blk_ext [iblk, bat, row, idx3 t]

theorem w4 (t : Fin cfg0.N) (l : Fin 128) (h : ℕ) (hh : h < 32) :
    iblk m c 4 t (ix3 0 l ⟨h, by omega⟩) = (argsK m c).P (bat t) (128 * (t.val % 32) + l.val) (6984 + h) := by
  refine Eq.trans ?_ (P_at _ _ _ _ _ _ _ _ _ _ (row t l).isLt (by omega)).symm
  refine Eq.trans ?_ (V16_dt m c (bat t) (row t l) ⟨h, hh⟩)
  blk_ext [iblk, bat, row, idx4 t]

theorem w6 (t : Fin cfg0.N) (k : Fin 4) (d : Fin 2048) : iblk m c 6 t (ix2 k d) = (argsK m c).W k.val ( d.val) := by
  refine Eq.trans ?_ (W_at _ _ _ _ _ _ _ _ _ k.isLt (by omega)).symm
  refine Eq.trans ?_ ((V17_at m c k d).trans (congrArg _ (congrArg (ix2 _) (Fin.ext (by first | rfl | (dsimp only; omega))))))
  blk_ext [iblk, idx6 t]

theorem w7 (t : Fin cfg0.N) (k : Fin 4) (d : Fin 512) : iblk m c 7 t (ix2 k d) = (argsK m c).W k.val (2048 + d.val) := by
  refine Eq.trans ?_ (W_at _ _ _ _ _ _ _ _ _ k.isLt (by omega)).symm
  refine Eq.trans ?_ ((V18_at m c k d).trans (congrArg _ (congrArg (ix2 _) (Fin.ext (by first | rfl | (dsimp only; omega))))))
  blk_ext [iblk, idx7 t]

theorem w8 (t : Fin cfg0.N) (k : Fin 4) (d : Fin 512) : iblk m c 8 t (ix2 k d) = (argsK m c).W k.val (2560 + d.val) := by
  refine Eq.trans ?_ (W_at _ _ _ _ _ _ _ _ _ k.isLt (by omega)).symm
  refine Eq.trans ?_ ((V19_at m c k d).trans (congrArg _ (congrArg (ix2 _) (Fin.ext (by first | rfl | (dsimp only; omega))))))
  blk_ext [iblk, idx8 t]

theorem w9 (t : Fin cfg0.N) (d : Fin 2048) : iblk m c 9 t (ix2 0 d) = (argsK m c).cb ( d.val) := by
  refine Eq.trans ?_ (cb_at _ _ _ _ _ _ _ _ (by omega)).symm
  refine Eq.trans ?_ ((V21_at m c d).trans (congrArg _ (congrArg ix1 (Fin.ext (by first | rfl | (dsimp only; omega))))))
  blk_ext [iblk, idx9 t]

theorem w10 (t : Fin cfg0.N) (d : Fin 512) : iblk m c 10 t (ix2 0 d) = (argsK m c).cb (2048 + d.val) := by
  refine Eq.trans ?_ (cb_at _ _ _ _ _ _ _ _ (by omega)).symm
  refine Eq.trans ?_ ((V22_at m c d).trans (congrArg _ (congrArg ix1 (Fin.ext (by first | rfl | (dsimp only; omega))))))
  blk_ext [iblk, idx10 t]

theorem w11 (t : Fin cfg0.N) (d : Fin 512) : iblk m c 11 t (ix2 0 d) = (argsK m c).cb (2560 + d.val) := by
  refine Eq.trans ?_ (cb_at _ _ _ _ _ _ _ _ (by omega)).symm
  refine Eq.trans ?_ ((V23_at m c d).trans (congrArg _ (congrArg ix1 (Fin.ext (by first | rfl | (dsimp only; omega))))))
  blk_ext [iblk, idx11 t]

theorem w12 (t : Fin cfg0.N) (h : ℕ) (hh : h < 32) : iblk m c 12 t (ix2 0 ⟨h, by omega⟩) = (argsK m c).db h := by
  refine Eq.trans ?_ (db_at _ _ _ _ _ _ _ _ hh).symm
  refine Eq.trans ?_ (V25_at m c ⟨h, hh⟩)
  blk_ext [iblk, idx12 t]

theorem w13 (t : Fin cfg0.N) (h : ℕ) (hh : h < 32) : iblk m c 13 t (ix2 0 ⟨h, by omega⟩) = (argsK m c).al h := by
  refine Eq.trans ?_ (al_at _ _ _ _ _ _ _ _ hh).symm
  refine Eq.trans ?_ (V27_at m c ⟨h, hh⟩)
  blk_ext [iblk, idx13 t]

theorem w14 (t : Fin cfg0.N) (d : Fin 2048) : iblk m c 14 t (ix2 0 d) = (argsK m c).ds (d.val / 64) := by
  refine Eq.trans ?_ (ds_at _ _ _ _ _ _ _ _ (by omega)).symm
  refine Eq.trans ?_ (V30_at m c d)
  blk_ext [iblk, idx14 t]

theorem w15 (t : Fin cfg0.N) (d : Fin 2048) : iblk m c 15 t (ix2 0 d) = (argsK m c).g d.val := by
  refine Eq.trans ?_ (g_at _ _ _ _ _ _ _ _ d.isLt).symm
  refine Eq.trans ?_ (V31_at m c d)
  blk_ext [iblk, idx15 t]

theorem w5 (t : Fin cfg0.N) : IsShift (iblk m c 5 t) := by
  intro k r s h
  have e : iblk m c 5 t (ix2 ⟨128 * k.val + r.val, h⟩ s) = V m c main_cst (ix2 ⟨128 * k.val + r.val, h⟩ s) := by
    blk_ext [iblk, idx5 t]
  rw [e, Vcst_at]
  have hw := lit0_words k r s (by have := s.isLt; omega)
  have e2 : S384x128.rowMajor (ix2 ⟨128 * k.val + r.val, h⟩ s) = (⟨(128 * k.val + r.val) * 128 + s.val, by have := s.isLt; omega⟩ : Fin 49152) := by
    apply Fin.ext
    rw [Shape.rowMajor_val_two]
    rfl
  generalize lit0 = L at hw ⊢
  refine (congrArg (fun q => FloatOps.ofBits (F := Ideal) .bf16 (L q)) e2).trans ?_
  rw [hw]
  split
  · show Ideal.ofBits .bf16 0x3F80#16 = 1
    simp [Ideal.ofBits, Ideal.ieee]
    rw [← EReal.coe_mul]
    norm_num
  · show Ideal.ofBits .bf16 0#16 = 0
    simp [Ideal.ofBits, Ideal.ieee]

end Cert.KernelIdeal.Chunk
-- ==== Proof.KSpec.lean ====
module

public import proofs.«01_k».proof.Proof.Block
public import proofs.«01_k».proof.Proof.Spec

@[expose] public section

set_option maxRecDepth 16384
set_option pp.maxSteps 400
noncomputable section
namespace Cert.KernelIdeal.Chunk
open Cert.KernelIdeal Cert.KernelIdeal.Gen Idealize.ShloMosaic Idealize.ShloMosaic.TcCoe Idealize.ShloMosaic.Tactic
open Cert.Ssd
open scoped BigOperators

theorem colOf_apply (A : FVec Ideal S128x128 .f32) (h : ℕ) (hh : h < 32) (l : Fin 128) :
    colOf A h hh (ix2 l 0) = A (ix2 l ⟨h, by omega⟩) := by
  pointwise [colOf]
theorem rowOf_apply (A : FVec Ideal S128x128 .f32) (h : ℕ) (hh : h < 32) (s : Fin 128) :
    rowOf A h hh (ix2 0 s) = A (ix2 ⟨h, by omega⟩ s) := by
  pointwise [rowOf]
theorem grpOf_apply (A : FVec Ideal S128x512 .f32) (g : ℕ) (hg : g < 4) (l n : Fin 128) :
    grpOf A g hg (ix2 l n) = A (ix2 l ⟨128 * g + n.val, by omega⟩) := by
  pointwise [grpOf]
theorem pairOf_apply (A : FVec Ideal S128x2048 .f32) (p : ℕ) (hp : p < 16) (l j : Fin 128) :
    pairOf A p hp (ix2 l j) = A (ix2 l ⟨128 * p + j.val, by omega⟩) := by
  pointwise [pairOf]
theorem scoreOf_apply (B C : FVec Ideal S128x512 .f32) (g : ℕ) (hg : g < 4) (l s : Fin 128) :
    scoreOf B C g hg (ix2 l s) = ∑ n : Fin 128, C (ix2 l ⟨128 * g + n.val, by omega⟩) * B (ix2 s ⟨128 * g + n.val, by omega⟩) := by
  pointwise [scoreOf]
  simp only [grpOf_apply]
theorem ldPair_apply (prev : FVec Ideal S128x2048 .f32) (p : ℕ) (hp : p < 16) (n j : Fin 128) :
    ldPair prev p hp (ix2 n j) = prev (ix2 n ⟨128 * p + j.val, by omega⟩) := by
  unfold ldPair
  rw [View.ld_apply]
  congr 1
  funext a
  fin_cases a
  · exact Fin.ext (by show 0 + 1 * n.val = n.val; omega)
  · exact Fin.ext (by show 128 * p + 1 * j.val = 128 * p + j.val; omega)
theorem trGrp_apply (A : FVec Ideal S128x512 .f32) (g : ℕ) (hg : g < 4) (n x : Fin 128) :
    (transpose S128x128 [1, 0] (grpOf A g hg) transposes_S128x128_p1_0_S128x128 : FVec Ideal S128x128 .f32) (ix2 n x)
      = A (ix2 x ⟨128 * g + n.val, by omega⟩) := by
  rw [← grpOf_apply A g hg x n]
  pointwise

variable (A : Args) (b : Fin 4) (k : ℕ)

theorem decay_step (h : ℕ) (l s : Fin 128) :
    Ideal.exp2 (if s.val ≤ l.val then acc A b k h l * L2E - (acc A b k h s * L2E - Ideal.log (step A b (128 * k + s.val) h) * L2E) else ⊥)
      = if s.val ≤ l.val then Ideal.exp (acc A b k h l - acc A b k h s) * step A b (128 * k + s.val) h else 0 := by
  by_cases hs : s.val ≤ l.val
  · rw [if_pos hs, if_pos hs]
    exact decay_eq _ _ _ (acc_anti A b k h s l hs) (acc_nonpos A b k h s) (step_nonneg A b _ _)
  · rw [if_neg hs, if_neg hs]; rfl

section
variable (Am Em Sm : FVec Ideal S128x128 .f32) (Xm prev : FVec Ideal S128x2048 .f32) (Bm Cm : FVec Ideal S128x512 .f32)
  (hA : ∀ (l : Fin 128) (h : ℕ) (hh : h < 32), Am (ix2 l ⟨h, by omega⟩) = acc A b k h l * L2E)
  (hE : ∀ (s : Fin 128) (h : ℕ) (hh : h < 32), Em (ix2 ⟨h, by omega⟩ s) = tail A b k h s)
  (hS : ∀ (s : Fin 128) (h : ℕ) (hh : h < 32), Sm (ix2 ⟨h, by omega⟩ s) = acc A b k h s * L2E - Ideal.log (step A b (128 * k + s.val) h) * L2E)
  (hX : ∀ (l : Fin 128) (j : Fin 2048), Xm (ix2 l j) = act A b j.val (128 * k + l.val))
  (hB : ∀ (l : Fin 128) (j : Fin 512), Bm (ix2 l j) = act A b (2048 + j.val) (128 * k + l.val))
  (hC : ∀ (l : Fin 128) (j : Fin 512), Cm (ix2 l j) = act A b (2560 + j.val) (128 * k + l.val))
  (hP : ∀ (n : Fin 128) (j : Fin 2048), prev (ix2 n j) = St A b k (j.val / 64) (j.val % 64) n)
include hA hX hP

include hE hB in
theorem headS_spec (p : ℕ) (hp : p < 16) (h : ℕ) (hh : h < 32) (n j : Fin 128) (e : h = 2 * p + j.val / 64) :
    headS (colOf Am h hh) (rowOf Em h hh) (transpose S128x128 [1, 0] (grpOf Bm (p / 4) (by omega)) transposes_S128x128_p1_0_S128x128)
      (ldPair prev p hp) (pairOf Xm p hp) n j = St A b (k + 1) h (j.val % 64) n := by
  unfold headS
  simp only [colOf_apply, rowOf_apply, trGrp_apply, ldPair_apply, pairOf_apply]
  rw [hP, hA _ _ hh, exp2_mul_L, St]
  have e1 : (128 * p + j.val) / 64 = h := by omega
  have e2 : (128 * p + j.val) % 64 = j.val % 64 := by omega
  have e3 : 128 * p + j.val = 64 * h + j.val % 64 := by omega
  have e4 : p / 4 = h / 8 := by omega
  simp only [e1, e2]
  congr 1
  refine Finset.sum_congr rfl fun x _ => ?_
  refine (congrArg (fun r => r * _ * _) (trGrp_apply Bm (p / 4) (by omega) n x)).trans ?_
  rw [hB, hE _ _ hh, hX]
  simp only [e3, e4]

include hE hB in
theorem stateB_spec (n : Fin 128) (j : Fin 2048) :
    stateB Am Em Xm Bm prev (ix2 n j) = St A b (k + 1) (j.val / 64) (j.val % 64) n := by
  have hp : j.val / 128 < 16 := by omega
  show pieceS Am Em Xm Bm (ldPair prev (j.val / 128) hp) (j.val / 128) hp (ix2 n ⟨j.val % 128, Nat.mod_lt _ (by norm_num)⟩) = _
  unfold pieceS
  rw [pairS_apply]
  have em : j.val % 128 % 64 = j.val % 64 := by omega
  split
  · next h =>
    rw [headS_spec A b k Am Em Xm prev Bm hA hE hX hB hP _ hp _ _ _ _ (by dsimp only at h ⊢; omega)]
    dsimp only at h ⊢
    rw [em, show 2 * (j.val / 128) = j.val / 64 by omega]
  · next h =>
    rw [headS_spec A b k Am Em Xm prev Bm hA hE hX hB hP _ hp _ _ _ _ (by dsimp only at h ⊢; omega)]
    dsimp only at h ⊢
    rw [em, show 2 * (j.val / 128) + 1 = j.val / 64 by omega]

include hS hB hC in
theorem headY_spec (p : ℕ) (hp : p < 16) (h : ℕ) (hh : h < 32) (l j : Fin 128) (e : h = 2 * p + j.val / 64) :
    headY (colOf Am h hh) (rowOf Sm h hh) (grpOf Cm (p / 4) (by omega)) (scoreOf Bm Cm (p / 4) (by omega))
      (ldPair prev p hp) (pairOf Xm p hp) l j = Yh A b k h (j.val % 64) l := by
  unfold headY
  simp only [colOf_apply, rowOf_apply, grpOf_apply, scoreOf_apply, ldPair_apply, pairOf_apply]
  have e1 : (128 * p + j.val) / 64 = h := by omega
  have e2 : (128 * p + j.val) % 64 = j.val % 64 := by omega
  have e3 : 128 * p + j.val = 64 * h + j.val % 64 := by omega
  have e4 : p / 4 = h / 8 := by omega
  unfold Yh
  congr 1
  · refine Finset.sum_congr rfl fun x _ => ?_
    rw [hA _ _ hh, hS _ _ hh, decay_step, hX]
    unfold score
    simp only [hC, hB, e3, e4]
  · refine Finset.sum_congr rfl fun x _ => ?_
    rw [hA _ _ hh, exp2_mul_L, hC, hP]
    simp only [e1, e2, e4]

include hS hB hC in
theorem yB_spec (l : Fin 128) (j : Fin 2048) :
    yB Am Sm Xm Bm Cm prev (ix2 l j) = Yh A b k (j.val / 64) (j.val % 64) l := by
  have hp : j.val / 128 < 16 := by omega
  show pieceY Am Sm Xm Bm Cm (ldPair prev (j.val / 128) hp) (j.val / 128) hp (ix2 l ⟨j.val % 128, Nat.mod_lt _ (by norm_num)⟩) = _
  unfold pieceY
  rw [pairY_apply]
  have em : j.val % 128 % 64 = j.val % 64 := by omega
  split
  · next h =>
    rw [headY_spec A b k Am Sm Xm prev Bm Cm hA hS hX hB hC hP _ hp _ _ _ _ (by dsimp only at h ⊢; omega)]
    dsimp only at h ⊢
    rw [em, show 2 * (j.val / 128) = j.val / 64 by omega]
  · next h =>
    rw [headY_spec A b k Am Sm Xm prev Bm Cm hA hS hX hB hC hP _ hp _ _ _ _ (by dsimp only at h ⊢; omega)]
    dsimp only at h ⊢
    rw [em, show 2 * (j.val / 128) + 1 = j.val / 64 by omega]

end

theorem gateB_spec (Y X : FVec Ideal S128x2048 .f32) (z : FVec Ideal S1x128x2048 .bf16) (ds : FVec Ideal S1x2048 .f32)
    (hY : ∀ (l : Fin 128) (j : Fin 2048), Y (ix2 l j) = Yh A b k (j.val / 64) (j.val % 64) l)
    (hX : ∀ (l : Fin 128) (j : Fin 2048), X (ix2 l j) = act A b j.val (128 * k + l.val))
    (hz : ∀ (l : Fin 128) (j : Fin 2048), z (ix3 0 l j) = A.P b (128 * k + l.val) (1864 + j.val))
    (hd : ∀ (j : Fin 2048), ds (ix2 0 j) = A.ds (j.val / 64)) (l : Fin 128) (j : Fin 2048) :
    gateB Y X z ds (ix2 l j) = gate A b k l j.val := by
  unfold gate silu
  rw [← hY, ← hX, ← hz, ← hd]
  pointwise [gateB]

theorem outB_spec (G : FVec Ideal S128x2048 .f32) (ng : FVec Ideal S1x2048 .f32)
    (hG : ∀ (l : Fin 128) (j : Fin 2048), G (ix2 l j) = gate A b k l j.val)
    (hg : ∀ (j : Fin 2048), ng (ix2 0 j) = A.g j.val) (l : Fin 128) (j : Fin 2048) :
    outB G ng (ix3 0 l j) = Cert.Ssd.out A b k l j.val := by
  have hq : j.val / 512 < 4 := by omega
  show normB G ng (j.val / 512) hq (ix3 0 l ⟨j.val % 512, Nat.mod_lt _ (by norm_num)⟩) = _
  have hld : ∀ (i : Fin 512), (View.ld (Val := Elt Ideal) (e' := .f32) (S := S1x2048) ng
      (Rect.unit (s := S1x2048) ![0, 512 * (j.val / 512)] S1x512.size (inbNorm hq)) : FVec Ideal S1x512 .f32) (ix2 0 i) = ng (ix2 0 ⟨512 * (j.val / 512) + i.val, by omega⟩) := by
    intro i
    rw [View.ld_apply]
    congr 1
    funext a
    fin_cases a
    · exact Fin.ext (by show 0 + 1 * 0 = 0; omega)
    · exact Fin.ext (by show 512 * (j.val / 512) + 1 * i.val = 512 * (j.val / 512) + i.val; omega)
  unfold normB
  generalize (View.ld (Val := Elt Ideal) (e' := .f32) (S := S1x2048) ng
      (Rect.unit (s := S1x2048) ![0, 512 * (j.val / 512)] S1x512.size (inbNorm hq)) : FVec Ideal S1x512 .f32) = gv at hld ⊢
  pointwise
  rw [hld]
  simp only [hG, hg]
  have e : 512 * (j.val / 512) + j.val % 512 = j.val := by omega
  unfold Cert.Ssd.out
  simp only [e]

end Cert.KernelIdeal.Chunk
-- ==== Proof.KPoint.lean ====
module

public import proofs.«01_k».proof.Proof.Point
public import proofs.«01_k».proof.Proof.Win
public import proofs.«01_k».proof.Proof.KSpec

@[expose] public section

set_option maxRecDepth 16384
set_option pp.maxSteps 400
noncomputable section
namespace Cert.KernelIdeal.Chunk
open Cert.Ssd Cert.KernelIdeal Cert.KernelIdeal.Gen Idealize.ShloMosaic Idealize.ShloMosaic.TcCoe Idealize.ShloMosaic.Tactic
variable (m : (ℓ : Loc nD τ sig) → Buf (Elt Ideal) ℓ) (c : Dev nD)

/-- What a point finds, at batch `b` and chunk `k`. -/
structure Found (A : Args) (b : Fin 4) (k : ℕ) (p : Carry) : Prop where
  fx : ∀ (d : Fin 2048) (r : Fin 8), 5 ≤ r.val → p.1 (ix2 r d) = ext A b d.val (128 * k + r.val - 5)
  fb : ∀ (d : Fin 512) (r : Fin 8), 5 ≤ r.val → p.2.1 (ix2 r d) = ext A b (2048 + d.val) (128 * k + r.val - 5)
  fc : ∀ (d : Fin 512) (r : Fin 8), 5 ≤ r.val → p.2.2.1 (ix2 r d) = ext A b (2560 + d.val) (128 * k + r.val - 5)
  fs : ∀ (n : Fin 128) (j : Fin 2048), p.2.2.2 (ix2 n j) = St A b k (j.val / 64) (j.val % 64) n

theorem ext_pos (A : Args) (b : Fin 4) (j n : ℕ) : ext A b j (n + 3) = A.P b n (3912 + j) := by
  unfold ext
  rw [if_pos (by omega), Nat.add_sub_cancel]
theorem ext_neg (A : Args) (b : Fin 4) (j n : ℕ) (h : n < 3) : ext A b j n = 0 := if_neg (by omega)

theorem found_zero (A : Args) (b : Fin 4) : Found A b 0 (zeroX, zeroG, zeroG, zeroS) where
  fx d r h := by
    rw [ext_neg _ _ _ _ (by omega)]
    pointwise [zeroX]
  fb d r h := by
    rw [ext_neg _ _ _ _ (by omega)]
    pointwise [zeroG]
  fc d r h := by
    rw [ext_neg _ _ _ _ (by omega)]
    pointwise [zeroG]
  fs n j := by
    unfold St
    pointwise [zeroS]

theorem tailX_apply (x : FVec Ideal S1x128x2048 .bf16) (r : Fin 8) (d : Fin 2048) : tailX x (ix2 r d) = x (ix3 0 ⟨120 + r.val, by omega⟩ d) := by
  pointwise [tailX, k0_pay9]
theorem tailG_apply (x : FVec Ideal S1x128x512 .bf16) (r : Fin 8) (d : Fin 512) : tailG x (ix2 r d) = x (ix3 0 ⟨120 + r.val, by omega⟩ d) := by
  pointwise [tailG]

theorem rowX_apply (w : FVec Ideal S4x2048 .f32) (k : ℕ) (hk : k < 4) (d : Fin 2048) : rowX w k hk (ix2 0 d) = w (ix2 ⟨k, hk⟩ d) := by
  unfold rowX
  rw [View.ld_apply]
  congr 1
  funext a
  fin_cases a
  · exact Fin.ext (by show k + 1 * 0 = k; omega)
  · exact Fin.ext (by show 0 + 1 * d.val = d.val; omega)
theorem rowG_apply (w : FVec Ideal S4x512 .f32) (k : ℕ) (hk : k < 4) (d : Fin 512) : rowG w k hk (ix2 0 d) = w (ix2 ⟨k, hk⟩ d) := by
  unfold rowG
  rw [View.ld_apply]
  congr 1
  funext a
  fin_cases a
  · exact Fin.ext (by show k + 1 * 0 = k; omega)
  · exact Fin.ext (by show 0 + 1 * d.val = d.val; omega)

section
variable (t : Fin cfg0.N) (p : Carry) (f : Found (argsK m c) (bat t) (t.val % 32) p)
include f

theorem Xp_spec (l : Fin 128) (j : Fin 2048) : Xp m c t p.1 (ix2 l j) = act (argsK m c) (bat t) j.val (128 * (t.val % 32) + l.val) := by
  unfold Xp xsB
  rw [actX_apply _ _ (w5 m c t) _ _ _ _ _ _ l j (128 * (t.val % 32)) (ext (argsK m c) (bat t) j.val)
    (fun l => (w1 m c t l j).trans (ext_pos _ _ _ _).symm) (f.fx j)]
  rw [rowX_apply, rowX_apply, rowX_apply, rowX_apply, w6, w6, w6, w6, w9]
  rfl

theorem Bp_spec (l : Fin 128) (j : Fin 512) : Bp m c t p.2.1 (ix2 l j) = act (argsK m c) (bat t) (2048 + j.val) (128 * (t.val % 32) + l.val) := by
  unfold Bp grB
  rw [actG_apply _ _ (w5 m c t) _ _ _ _ _ _ l j (128 * (t.val % 32)) (ext (argsK m c) (bat t) (2048 + j.val))
    (fun l => (w2 m c t l j).trans (ext_pos _ _ _ _).symm) (f.fb j)]
  rw [rowG_apply, rowG_apply, rowG_apply, rowG_apply, w7, w7, w7, w7, w10]
  rfl

theorem Cp_spec (l : Fin 128) (j : Fin 512) : Cp m c t p.2.2.1 (ix2 l j) = act (argsK m c) (bat t) (2560 + j.val) (128 * (t.val % 32) + l.val) := by
  unfold Cp grB
  rw [actG_apply _ _ (w5 m c t) _ _ _ _ _ _ l j (128 * (t.val % 32)) (ext (argsK m c) (bat t) (2560 + j.val))
    (fun l => (w3 m c t l j).trans (ext_pos _ _ _ _).symm) (f.fc j)]
  rw [rowG_apply, rowG_apply, rowG_apply, rowG_apply, w8, w8, w8, w8, w11]
  rfl
end

theorem dt_spec (t : Fin cfg0.N) (s : Fin 128) (h : ℕ) (hh : h < 32) :
    dtM (iblk m c 4 t) (iblk m c 12 t) (ix2 s ⟨h, by omega⟩) = step (argsK m c) (bat t) (128 * (t.val % 32) + s.val) h := by
  rw [dtM_apply, w4 m c t s h hh, w12 m c t h hh]
  rfl

theorem Ap_spec (t : Fin cfg0.N) (l : Fin 128) (h : ℕ) (hh : h < 32) :
    Ap m c t (ix2 l ⟨h, by omega⟩) = acc (argsK m c) (bat t) (t.val % 32) h l * L2E := by
  unfold Ap
  rw [cumM_apply, w13 m c t h hh]
  simp only [dt_spec m c t _ h hh]
  rfl

theorem Ep_spec (t : Fin cfg0.N) (s : Fin 128) (h : ℕ) (hh : h < 32) :
    Ep m c t (ix2 ⟨h, by omega⟩ s) = tail (argsK m c) (bat t) (t.val % 32) h s := by
  have e1 := Ap_spec m c t 127 h hh
  have e2 := Ap_spec m c t s h hh
  unfold Ap at e1 e2
  unfold Ep
  rw [endM_apply, e1, e2, dt_spec m c t _ h hh, exp2_sub _ _ (acc_anti _ _ _ _ _ _ (by show s.val ≤ 127; omega)) (acc_nonpos _ _ _ _ _)]
  rfl

theorem Sp_spec (t : Fin cfg0.N) (s : Fin 128) (h : ℕ) (hh : h < 32) :
    Sp m c t (ix2 ⟨h, by omega⟩ s) = acc (argsK m c) (bat t) (t.val % 32) h s * L2E
      - Ideal.log (step (argsK m c) (bat t) (128 * (t.val % 32) + s.val) h) * L2E := by
  have e2 := Ap_spec m c t s h hh
  unfold Ap at e2
  unfold Sp
  rw [srcM_apply, e2, dt_spec m c t _ h hh]

section
variable (t : Fin cfg0.N) (p : Carry) (f : Found (argsK m c) (bat t) (t.val % 32) p)
include f

theorem step_found : Found (argsK m c) (bat t) (t.val % 32 + 1) (stepOf m c t p).2 where
  fx d r h := by
    show tailX (X0_1 m c t) (ix2 r d) = _
    rw [tailX_apply, w1, ← ext_pos]
    congr 1
    dsimp only; omega
  fb d r h := by
    show tailG (iblk m c 2 t) (ix2 r d) = _
    rw [tailG_apply, w2, ← ext_pos]
    congr 1
    dsimp only; omega
  fc d r h := by
    show tailG (iblk m c 3 t) (ix2 r d) = _
    rw [tailG_apply, w3, ← ext_pos]
    congr 1
    dsimp only; omega
  fs n j := stateB_spec _ _ _ _ _ _ _ _ (Ap_spec m c t) (Ep_spec m c t) (Xp_spec m c t p f) (Bp_spec m c t p f) f.fs n j

theorem step_out (l : Fin 128) (j : Fin 2048) :
    (stepOf m c t p).1 (ix3 0 l j) = Cert.Ssd.out (argsK m c) (bat t) (t.val % 32) l j.val :=
  outB_spec _ _ _ _ _ (gateB_spec _ _ _ _ _ _ _
    (yB_spec _ _ _ _ _ _ _ _ _ (Ap_spec m c t) (Sp_spec m c t) (Xp_spec m c t p f) (Bp_spec m c t p f) (Cp_spec m c t p f) f.fs)
    (Xp_spec m c t p f) (w0 m c t) (w14 m c t)) (w15 m c t) l j
end

/-- What each point leaves. -/
theorem found_all (n : ℕ) : ∀ (h : n < cfg0.N),
    Found (argsK m c) (bat ⟨n, h⟩) (n % 32 + 1) (outsAt0 m c n h).2 ∧
      ∀ (l : Fin 128) (j : Fin 2048), (outsAt0 m c n h).1 (ix3 0 l j) = Cert.Ssd.out (argsK m c) (bat ⟨n, h⟩) (n % 32) l j.val := by
  induction n with
  | zero =>
    intro h
    have f : Found (argsK m c) (bat ⟨0, h⟩) ((⟨0, h⟩ : Fin cfg0.N).val % 32) (zeroX, zeroG, zeroG, zeroS) := found_zero _ _
    have e := point_A m c ⟨0, h⟩ rfl
    dsimp only at e
    rw [e]
    exact ⟨step_found m c _ _ f, step_out m c _ _ f⟩
  | succ n ih =>
    intro h
    by_cases h0 : (n + 1) % 32 = 0
    · have f : Found (argsK m c) (bat ⟨n + 1, h⟩) ((⟨n + 1, h⟩ : Fin cfg0.N).val % 32) (zeroX, zeroG, zeroG, zeroS) := by
        dsimp only
        rw [h0]
        exact found_zero _ _
      have e := point_A m c ⟨n + 1, h⟩ h0
      dsimp only at e
      rw [e]
      exact ⟨step_found m c _ _ f, step_out m c _ _ f⟩
    · have hn : n < cfg0.N := by omega
      have f : Found (argsK m c) (bat ⟨n + 1, h⟩) ((⟨n + 1, h⟩ : Fin cfg0.N).val % 32) (outsAt0 m c n hn).2 := by
        have hb : bat ⟨n + 1, h⟩ = bat ⟨n, hn⟩ := Fin.ext (by show (n + 1) / 32 = n / 32; omega)
        have hk : (n + 1) % 32 = n % 32 + 1 := by omega
        dsimp only
        rw [hb, hk]
        exact (ih hn).1
      have e := point_B m c ⟨n + 1, h⟩ h0
      dsimp only [Nat.add_sub_cancel] at e
      rw [e]
      exact ⟨step_found m c _ _ f, step_out m c _ _ f⟩

end Cert.KernelIdeal.Chunk
-- ==== Proof.KFinal.lean ====
module

public import proofs.«01_k».proof.Proof.KPoint
public import Idealize.ShloMosaic.Lib.Pipeline.ValueKit

@[expose] public section

set_option maxRecDepth 16384
set_option pp.maxSteps 400
noncomputable section
namespace Cert.KernelIdeal.Chunk
open Cert.Ssd Cert.KernelIdeal Cert.KernelIdeal.Gen Idealize.ShloMosaic Idealize.ShloMosaic.TcCoe Idealize.ShloMosaic.Tactic
variable (m : (ℓ : Loc nD τ sig) → Buf (Elt Ideal) ℓ) (c : Dev nD)

/-- The layer's output as an array. -/
def arrOut (A : Args) : FVec Ideal ⟨3, ![4, 4096, 2048]⟩ .bf16 := fun i =>
  Cert.Ssd.out A (i 0) ((i 1).val / 128) ⟨(i 1).val % 128, Nat.mod_lt _ (by norm_num)⟩ (i 2).val

theorem idx16 (t : Fin cfg0.N) : win0_16.index t = ![t.val / 32, t.val % 32, 0] := (by decide +kernel : ∀ t : Fin grid0.N, win0_16.index t = ![t.val / 32, t.val % 32, 0]) t

theorem out_y (t : Fin cfg0.N) (y : S1x128x2048.Idx) :
    (outsAt0 m c t.val t.isLt).1 y = Cert.Ssd.out (argsK m c) (bat t) (t.val % 32) (y 1) (y 2).val := by
  have e : y = ix3 0 (y 1) (y 2) := by
    funext a
    fin_cases a
    · exact Fin.ext (by have : (y 0).val < 1 := (y 0).isLt; show (y 0).val = 0; omega)
    · rfl
    · rfl
  have h := (found_all m c t.val t.isLt).2 (y 1) (y 2)
  exact (congrArg (outsAt0 m c t.val t.isLt).1 e).trans h

theorem arrOut_of (A : Args) (b : Fin 4) (k : ℕ) (l : Fin 128) (j : ℕ) (i : S4x4096x2048.Idx)
    (h0 : (i 0).val = b.val) (h1 : (i 1).val = 128 * k + l.val) (h2 : (i 2).val = j) : Cert.Ssd.out A b k l j = arrOut A i := by
  have e0 : i 0 = b := Fin.ext h0
  have e1 : (i 1).val / 128 = k := by omega
  have e2 : (⟨(i 1).val % 128, Nat.mod_lt _ (by norm_num)⟩ : Fin 128) = l := Fin.ext (by dsimp only; omega)
  unfold arrOut
  rw [e0, e1, e2, h2]

theorem arr_eq : (dats m 0 c).arrAt 16 cfg0.N = arrOut (argsK m c) := by
  refine (dats m 0 c).arrAt_eq_of_covers 16 _ (by decide +kernel) fun t hf y => ?_
  refine (congrFun (Value.flushed16 m c t) y).trans ?_
  refine (out_y m c t y).trans ?_
  have y0 : (y 0).val < 1 := (y 0).isLt
  refine arrOut_of _ _ _ _ _ _ ?_ ?_ ?_
  · blk_simp [idx16 t, bat]
  · blk_simp [idx16 t]
    omega
  · blk_simp [idx16 t]

end Cert.KernelIdeal.Chunk
-- ==== Proof.Ref1.lean ====
module

public import proofs.«01_k».proof.Proof.Gen.ReferenceIdeal.Run
public import proofs.«01_k».proof.Proof.Spec
public import Idealize.ShloMosaic.Lib.Pointwise
public import Idealize.ShloMosaic.Lib.Claim
public import Idealize.ShloMosaic.Lib.Tactic.CleanTypes
public import Idealize.ShloMosaic.Lib.Pipeline.ValueKit

@[expose] public section

set_option maxRecDepth 16384
set_option pp.maxSteps 400
noncomputable section
namespace Cert.ReferenceIdeal.Ssd
open Cert.Ssd Cert.KernelIdeal.Chunk Cert.ReferenceIdeal Cert.ReferenceIdeal.Gen Cert.ReferenceIdeal.Value Idealize.ShloMosaic Idealize.ShloMosaic.TcCoe Idealize.ShloMosaic.Tactic
open Idealize.ShloMosaic.StableHlo
open scoped BigOperators

variable (V0 : Valuation τ sig (Elt Ideal))

/-- The arguments. -/
def argsR : Args := argsOf (V0 (Proc.devRef .tc main_arg0)) (V0 (Proc.devRef .tc main_arg1)) (V0 (Proc.devRef .tc main_arg2))
  (V0 (Proc.devRef .tc main_arg3)) (V0 (Proc.devRef .tc main_arg4)) (V0 (Proc.devRef .tc main_arg5)) (V0 (Proc.devRef .tc main_arg6))

theorem rP (b : Fin 4) (s j : ℕ) (hs : s < 4096) (hj : j < 9064) :
    (argsR V0).P b s j = (V0 (Proc.devRef .tc main_arg0) : FVec Ideal S4x4096x9064 .f32) (ix3 b ⟨s, hs⟩ ⟨j, hj⟩) := dif_pos ⟨hs, hj⟩
theorem rW (k : Fin 4) (j : Fin 3072) :
    (argsR V0).W k.val j.val = (V0 (Proc.devRef .tc main_arg1) : FVec Ideal S4x3072 .f32) (ix2 k j) := dif_pos ⟨k.isLt, j.isLt⟩
theorem rcb (j : Fin 3072) : (argsR V0).cb j.val = (V0 (Proc.devRef .tc main_arg2) : FVec Ideal S3072 .f32) (ix1 j) := dif_pos j.isLt
theorem rdb (j : ℕ) (hj : j < 32) : (argsR V0).db j = (V0 (Proc.devRef .tc main_arg3) : FVec Ideal S32 .f32) (ix1 ⟨j, hj⟩) := dif_pos hj
theorem ral (j : ℕ) (hj : j < 32) : (argsR V0).al j = (V0 (Proc.devRef .tc main_arg4) : FVec Ideal S32 .f32) (ix1 ⟨j, hj⟩) := dif_pos hj
theorem rds (j : ℕ) (hj : j < 32) : (argsR V0).ds j = (V0 (Proc.devRef .tc main_arg5) : FVec Ideal S32 .f32) (ix1 ⟨j, hj⟩) := dif_pos hj
theorem rg (j : ℕ) (hj : j < 2048) : (argsR V0).g j = (V0 (Proc.devRef .tc main_arg6) : FVec Ideal S2048 .f32) (ix1 ⟨j, hj⟩) := dif_pos hj

theorem r10 (b : Fin 4) (n : Fin 4099) (j : Fin 3072) : res_main_v10 V0 (ix3 b n j) = ext (argsR V0) b j.val n.val := by
  unfold res_main_v10 ext
  clean_types
  pointwise
  by_cases h : 3 ≤ n.val
  · rw [dif_pos ⟨h, by omega⟩, if_pos h, rP V0 b _ _ (by omega) (by omega)]
  · rw [dif_neg (fun h' => h h'.1), if_neg h]
    exact ((congrArg (fun r : ℝ => (r : EReal)) (by norm_num : (((0#32 : BitVec 32).toInt : ℤ) : ℝ) = 0)).trans EReal.coe_zero)

theorem r41 (b : Fin 4) (s : Fin 4096) (j : Fin 3072) : res_main_v41 V0 (ix3 b s j) = act (argsR V0) b j.val s.val := by
  unfold res_main_v41 res_main_v40
  clean_types
  pointwise
  simp only [r10]
  unfold act
  have e0 := rW V0 0 j
  have e1 := rW V0 1 j
  have e2 := rW V0 2 j
  have e3 := rW V0 3 j
  have e4 := rcb V0 j
  show _ = silu (convAt _ _ ((argsR V0).W (0 : Fin 4).val j.val) ((argsR V0).W (1 : Fin 4).val j.val) ((argsR V0).W (2 : Fin 4).val j.val) ((argsR V0).W (3 : Fin 4).val j.val) _)
  rw [e0, e1, e2, e3, e4]
  unfold silu convAt
  rw [Nat.add_comm s.val 1, Nat.add_comm s.val 2, Nat.add_comm s.val 3]
  rfl

theorem act_of (b : Fin 4) (s : Fin 4096) (j : Fin 3072) (T J : ℕ) (h1 : s.val = T) (h2 : j.val = J) :
    res_main_v41 V0 (ix3 b s j) = act (argsR V0) b J T := by
  subst h1 h2; exact r41 V0 b s j

theorem r57 (b : Fin 4) (k : Fin 32) (l : Fin 128) (g : Fin 4) (h : Fin 8) :
    res_main_v57 V0 (ix5 b k l g h) = step (argsR V0) b (128 * k.val + l.val) (8 * g.val + h.val) := by
  unfold res_main_v57 res_main_call2_v3 res_main_call2_cst res_main_v50
  clean_types
  pointwise
  rw [if_neg (not_not.2 rfl)]
  unfold step
  have hk := k.isLt
  have hl := l.isLt
  have hg := g.isLt
  have hh := h.isLt
  rw [rP V0 b _ _ (by omega) (by omega), rdb V0 _ (by omega)]
  have e : ∀ (a a' : Fin 4096) (q q' : Fin 9064) (u u' : Fin 32) (P : FVec Ideal S4x4096x9064 .f32) (D : FVec Ideal S32 .f32), a = a' → q = q' → u = u' →
      softplus (P (ix3 b a q) + D (ix1 u)) = softplus (P (ix3 b a' q') + D (ix1 u')) := by
    rintro a _ q _ u _ P D rfl rfl rfl; rfl
  exact e _ _ _ _ _ _ _ _ (Fin.ext (by dsimp only; omega)) (Fin.ext (by dsimp only; omega)) (Fin.ext (by dsimp only; omega))

theorem r58 (b : Fin 4) (k : Fin 32) (l : Fin 128) (g : Fin 4) (n : Fin 128) :
    res_main_v58 V0 (ix5 b k l g n) = act (argsR V0) b (2048 + (128 * g.val + n.val)) (128 * k.val + l.val) := by
  unfold res_main_v58
  clean_types
  pointwise
  exact act_of V0 _ _ _ _ _ (by dsimp only; omega) (by dsimp only; omega)

theorem r59 (b : Fin 4) (k : Fin 32) (l : Fin 128) (g : Fin 4) (n : Fin 128) :
    res_main_v59 V0 (ix5 b k l g n) = act (argsR V0) b (2560 + (128 * g.val + n.val)) (128 * k.val + l.val) := by
  unfold res_main_v59
  clean_types
  pointwise
  exact act_of V0 _ _ _ _ _ (by dsimp only; omega) (by dsimp only; omega)

theorem r66 (b : Fin 4) (k : Fin 32) (l : Fin 128) (g : Fin 4) (h : Fin 8) (d : Fin 64) :
    res_main_v66 V0 (ix6 b k l g h d) = act (argsR V0) b (64 * (8 * g.val + h.val) + d.val) (128 * k.val + l.val) * step (argsR V0) b (128 * k.val + l.val) (8 * g.val + h.val) := by
  unfold res_main_v66 res_main_v45
  clean_types
  pointwise
  rw [r57]
  exact congrArg (· * _) (act_of V0 _ _ _ _ _ (by dsimp only; omega) (by dsimp only; omega))

end Cert.ReferenceIdeal.Ssd
-- ==== Proof.Ref2.lean ====
module

public import proofs.«01_k».proof.Proof.Gen.ReferenceIdeal.Run
public import proofs.«01_k».proof.Proof.Spec
public import Idealize.ShloMosaic.Lib.Pointwise
public import Idealize.ShloMosaic.Lib.Claim
public import Idealize.ShloMosaic.Lib.Tactic.CleanTypes
public import Idealize.ShloMosaic.Lib.Pipeline.ValueKit
public import proofs.«01_k».proof.Proof.Ref1

@[expose] public section

set_option maxRecDepth 16384
set_option pp.maxSteps 400
noncomputable section
namespace Cert.ReferenceIdeal.Ssd
open Cert.Ssd Cert.KernelIdeal.Chunk Cert.ReferenceIdeal Cert.ReferenceIdeal.Gen Cert.ReferenceIdeal.Value Idealize.ShloMosaic Idealize.ShloMosaic.TcCoe Idealize.ShloMosaic.Tactic
open Idealize.ShloMosaic.StableHlo
open scoped BigOperators

variable (V0 : Valuation τ sig (Elt Ideal))

theorem foldl_add {ι : Type} (f : ι → EReal) (l : List ι) (r : EReal) : l.foldl (fun r n => r + f n) r = r + (l.map f).sum := by
  induction l generalizing r with
  | nil => simp
  | cons a l ih => rw [List.foldl_cons, ih, List.map_cons, List.sum_cons, add_assoc]

abbrev Wn : Shape := ⟨5, ![1, 1, 128, 1, 1]⟩

theorem Wn_numel : Wn.numel = 128 := by decide

theorem Wn_symm (n : Fin Wn.numel) : (Wn.rowMajor.symm n 0).val = 0 ∧ (Wn.rowMajor.symm n 1).val = 0 ∧ (Wn.rowMajor.symm n 2).val = n.val
    ∧ (Wn.rowMajor.symm n 3).val = 0 ∧ (Wn.rowMajor.symm n 4).val = 0 := by
  have h := Shape.rowMajor_val_five (Wn.rowMajor.symm n)
  rw [Equiv.apply_symm_apply] at h
  have h0 : (Wn.rowMajor.symm n 0).val < 1 := (Wn.rowMajor.symm n 0).isLt
  have h1 : (Wn.rowMajor.symm n 1).val < 1 := (Wn.rowMajor.symm n 1).isLt
  have h3 : (Wn.rowMajor.symm n 3).val < 1 := (Wn.rowMajor.symm n 3).isLt
  have h4 : (Wn.rowMajor.symm n 4).val < 1 := (Wn.rowMajor.symm n 4).isLt
  change n.val = ((((Wn.rowMajor.symm n 0).val * 1 + (Wn.rowMajor.symm n 1).val) * 128 + (Wn.rowMajor.symm n 2).val) * 1 + (Wn.rowMajor.symm n 3).val) * 1 + (Wn.rowMajor.symm n 4).val at h
  omega

/-- The window's places, turned so that the last one is the position itself. -/
def turn (l : Fin 128) : Fin Wn.numel ≃ Fin 128 := (finCongr Wn_numel).trans (Equiv.addRight (l + 1))

theorem turn_val (l : Fin 128) (n : Fin Wn.numel) : (turn l n).val = (n.val + (l.val + 1) % 128) % 128 := by
  show (Fin.cast Wn_numel n + (l + 1)).val = _
  rw [Fin.val_add, Fin.val_add]
  rfl

/-- A running sum of a chunk's positions. -/
theorem window_sum (x : FVec Ideal S4x32x128x4x8 .f32) (h : S4x32x128x4x8.ReduceWindows ![1, 1, 128, 1, 1] ![1, 1, 1, 1, 1] ![0, 0, 127, 0, 0] ![0, 0, 0, 0, 0] S4x32x128x4x8)
    (b : Fin 4) (k : Fin 32) (l : Fin 128) (g : Fin 4) (e : Fin 8) :
    Ideal.hostReduceWindowAdd ![1, 1, 128, 1, 1] ![1, 1, 1, 1, 1] ![0, 0, 127, 0, 0] ![0, 0, 0, 0, 0] h x (0 : EReal) (ix5 b k l g e)
      = cum (fun s => x (ix5 b k s g e)) l := by
  unfold Ideal.hostReduceWindowAdd Host.reduceWindow cum
  dsimp only
  refine (foldl_add _ _ _).trans ?_
  rw [zero_add, ← Fin.sum_univ_def]
  refine Fintype.sum_equiv (turn l) _ _ fun n => ?_
  obtain ⟨w0, w1, w2, w3, w4⟩ := Wn_symm n
  have hn : n.val < 128 := lt_of_lt_of_eq n.isLt Wn_numel
  have hl := l.isLt
  have ht := turn_val l n
  by_cases hc : 127 ≤ l.val + n.val
  · have hs : (turn l n).val = l.val + n.val - 127 := by omega
    rw [if_pos (by omega), dif_pos]
    · refine congrArg x (funext fun a => Fin.ext ?_)
      match a with
      | ⟨0, _⟩ => show b.val * 1 + (Wn.rowMajor.symm n 0).val - 0 = b.val; omega
      | ⟨1, _⟩ => show k.val * 1 + (Wn.rowMajor.symm n 1).val - 0 = k.val; omega
      | ⟨2, _⟩ => show l.val * 1 + (Wn.rowMajor.symm n 2).val - 127 = (turn l n).val; omega
      | ⟨3, _⟩ => show g.val * 1 + (Wn.rowMajor.symm n 3).val - 0 = g.val; omega
      | ⟨4, _⟩ => show e.val * 1 + (Wn.rowMajor.symm n 4).val - 0 = e.val; omega
    · have hb := b.isLt
      have hk := k.isLt
      have hg := g.isLt
      have he := e.isLt
      intro a
      match a with
      | ⟨0, _⟩ => show 0 ≤ b.val * 1 + (Wn.rowMajor.symm n 0).val ∧ b.val * 1 + (Wn.rowMajor.symm n 0).val - 0 < 4; omega
      | ⟨1, _⟩ => show 0 ≤ k.val * 1 + (Wn.rowMajor.symm n 1).val ∧ k.val * 1 + (Wn.rowMajor.symm n 1).val - 0 < 32; omega
      | ⟨2, _⟩ => show 127 ≤ l.val * 1 + (Wn.rowMajor.symm n 2).val ∧ l.val * 1 + (Wn.rowMajor.symm n 2).val - 127 < 128; omega
      | ⟨3, _⟩ => show 0 ≤ g.val * 1 + (Wn.rowMajor.symm n 3).val ∧ g.val * 1 + (Wn.rowMajor.symm n 3).val - 0 < 4; omega
      | ⟨4, _⟩ => show 0 ≤ e.val * 1 + (Wn.rowMajor.symm n 4).val ∧ e.val * 1 + (Wn.rowMajor.symm n 4).val - 0 < 8; omega
  · rw [if_neg (by omega), dif_neg]
    intro hin
    have h2 := (hin 2).1
    change 127 ≤ l.val * 1 + (Wn.rowMajor.symm n 2).val at h2
    omega

theorem r63 (b : Fin 4) (k : Fin 32) (l : Fin 128) (g : Fin 4) (h : Fin 8) :
    res_main_v63 V0 (ix5 b k l g h) = acc (argsR V0) b k.val (8 * g.val + h.val) l := by
  unfold res_main_v63 Host.reduceWindowAdd
  have e0 : ((broadcastInDim S_ ![] bcast_S_S_ (constant S_ .f32 0x00000000#32) : FVec Ideal S_ .f32) (Shape.Idx.first h_S_)) = (0 : EReal) := by pointwise
  rw [e0]
  refine (window_sum _ _ b k l g h).trans ?_
  unfold acc
  refine congrArg (fun f => cum f l) (funext fun s => ?_)
  clean_types
  pointwise
  have hg := g.isLt
  have hh := h.isLt
  rw [r57, ral V0 _ (by omega)]
  have e : ∀ (u u' : Fin 32) (D : FVec Ideal S32 .f32) (z : EReal), u = u' → z * -Ideal.exp (D (ix1 u)) = z * -Ideal.exp (D (ix1 u')) := by
    rintro u _ D z rfl; rfl
  exact e _ _ _ _ (Fin.ext (by dsimp only; omega))

theorem r98 (b : Fin 4) (k : Fin 32) (g : Fin 4) (h : Fin 8) :
    res_main_v98 V0 (ix4 k b g h) = Ideal.exp (acc (argsR V0) b k.val (8 * g.val + h.val) 127) := by
  unfold res_main_v98
  clean_types
  pointwise
  rw [r63]

theorem r97 (b : Fin 4) (k : Fin 32) (g : Fin 4) (h : Fin 8) (d : Fin 64) (n : Fin 128) :
    res_main_v97 V0 (ix6 k b g h d n) = ∑ x : Fin 128, act (argsR V0) b (2048 + (128 * g.val + n.val)) (128 * k.val + x.val)
      * tail (argsR V0) b k.val (8 * g.val + h.val) x * act (argsR V0) b (64 * (8 * g.val + h.val) + d.val) (128 * k.val + x.val) := by
  unfold res_main_v97
  clean_types
  pointwise
  refine Finset.sum_congr rfl fun x _ => ?_
  rw [r66, r58, r63, r63]
  unfold tail
  ac_rfl

/-- An array holds every head's state before chunk `k`. -/
def Is (X : FVec Ideal S4x4x8x64x128 .f32) (k : ℕ) : Prop :=
  ∀ (b : Fin 4) (g : Fin 4) (h : Fin 8) (d : Fin 64) (n : Fin 128), X (ix5 b g h d n) = St (argsR V0) b k (8 * g.val + h.val) d.val n

theorem is_step (k : ℕ) (hk : k < 32) (X : FVec Ideal S4x4x8x64x128 .f32) (h1 : S32x4x4x8.Slices ![k, 0, 0, 0] S1x4x4x8)
    (h2 : S32x4x4x8x64x128.Slices ![k, 0, 0, 0, 0, 0] S1x4x4x8x64x128) (hX : Is V0 X k) :
    Is V0 (addf (mulf X (broadcastInDim S4x4x8x64x128 ![0, 1, 2, 3, 4] bcast_S4x4x8x1x1_S4x4x8x64x128_0_1_2_3_4 (broadcastInDim S4x4x8x1x1 ![0, 1, 2] bcast_S4x4x8_S4x4x8x1x1_0_1_2 (shapeCast _ (extractStridedSlice S1x4x4x8 ![k, 0, 0, 0] (res_main_v102 V0) h1) shapeCasts_S1x4x4x8_S4x4x8)))) (shapeCast _ (extractStridedSlice S1x4x4x8x64x128 ![k, 0, 0, 0, 0, 0] (res_main_v100 V0) h2) shapeCasts_S1x4x4x8x64x128_S4x4x8x64x128)) (k + 1) := by
  intro b g h d n
  unfold res_main_v102 res_main_v100
  clean_types
  pointwise
  have hg : (8 * g.val + h.val) / 8 = g.val := by have := h.isLt; omega
  rw [hX, r98, r97, St, hg]

theorem r96 : Is V0 (res_main_v96 V0) 0 := by
  intro b g h d n
  unfold res_main_v96
  clean_types
  pointwise
  rfl

theorem r111 : Is V0 (res_main_v111 V0) 1 := is_step V0 0 (by norm_num) _ _ _ (r96 V0)
theorem r119 : Is V0 (res_main_v119 V0) 2 := is_step V0 1 (by norm_num) _ _ _ (r111 V0)
theorem r127 : Is V0 (res_main_v127 V0) 3 := is_step V0 2 (by norm_num) _ _ _ (r119 V0)
theorem r135 : Is V0 (res_main_v135 V0) 4 := is_step V0 3 (by norm_num) _ _ _ (r127 V0)
theorem r143 : Is V0 (res_main_v143 V0) 5 := is_step V0 4 (by norm_num) _ _ _ (r135 V0)
theorem r151 : Is V0 (res_main_v151 V0) 6 := is_step V0 5 (by norm_num) _ _ _ (r143 V0)
theorem r159 : Is V0 (res_main_v159 V0) 7 := is_step V0 6 (by norm_num) _ _ _ (r151 V0)
theorem r167 : Is V0 (res_main_v167 V0) 8 := is_step V0 7 (by norm_num) _ _ _ (r159 V0)
theorem r175 : Is V0 (res_main_v175 V0) 9 := is_step V0 8 (by norm_num) _ _ _ (r167 V0)
theorem r183 : Is V0 (res_main_v183 V0) 10 := is_step V0 9 (by norm_num) _ _ _ (r175 V0)
theorem r191 : Is V0 (res_main_v191 V0) 11 := is_step V0 10 (by norm_num) _ _ _ (r183 V0)
theorem r199 : Is V0 (res_main_v199 V0) 12 := is_step V0 11 (by norm_num) _ _ _ (r191 V0)
theorem r207 : Is V0 (res_main_v207 V0) 13 := is_step V0 12 (by norm_num) _ _ _ (r199 V0)
theorem r215 : Is V0 (res_main_v215 V0) 14 := is_step V0 13 (by norm_num) _ _ _ (r207 V0)
theorem r223 : Is V0 (res_main_v223 V0) 15 := is_step V0 14 (by norm_num) _ _ _ (r215 V0)
theorem r231 : Is V0 (res_main_v231 V0) 16 := is_step V0 15 (by norm_num) _ _ _ (r223 V0)
theorem r239 : Is V0 (res_main_v239 V0) 17 := is_step V0 16 (by norm_num) _ _ _ (r231 V0)
theorem r247 : Is V0 (res_main_v247 V0) 18 := is_step V0 17 (by norm_num) _ _ _ (r239 V0)
theorem r255 : Is V0 (res_main_v255 V0) 19 := is_step V0 18 (by norm_num) _ _ _ (r247 V0)
theorem r263 : Is V0 (res_main_v263 V0) 20 := is_step V0 19 (by norm_num) _ _ _ (r255 V0)
theorem r271 : Is V0 (res_main_v271 V0) 21 := is_step V0 20 (by norm_num) _ _ _ (r263 V0)
theorem r279 : Is V0 (res_main_v279 V0) 22 := is_step V0 21 (by norm_num) _ _ _ (r271 V0)
theorem r287 : Is V0 (res_main_v287 V0) 23 := is_step V0 22 (by norm_num) _ _ _ (r279 V0)
theorem r295 : Is V0 (res_main_v295 V0) 24 := is_step V0 23 (by norm_num) _ _ _ (r287 V0)
theorem r303 : Is V0 (res_main_v303 V0) 25 := is_step V0 24 (by norm_num) _ _ _ (r295 V0)
theorem r311 : Is V0 (res_main_v311 V0) 26 := is_step V0 25 (by norm_num) _ _ _ (r303 V0)
theorem r319 : Is V0 (res_main_v319 V0) 27 := is_step V0 26 (by norm_num) _ _ _ (r311 V0)
theorem r327 : Is V0 (res_main_v327 V0) 28 := is_step V0 27 (by norm_num) _ _ _ (r319 V0)
theorem r335 : Is V0 (res_main_v335 V0) 29 := is_step V0 28 (by norm_num) _ _ _ (r327 V0)
theorem r343 : Is V0 (res_main_v343 V0) 30 := is_step V0 29 (by norm_num) _ _ _ (r335 V0)
theorem r351 : Is V0 (res_main_v351 V0) 31 := is_step V0 30 (by norm_num) _ _ _ (r343 V0)

end Cert.ReferenceIdeal.Ssd
-- ==== Proof.Ref3.lean ====
module

public import proofs.«01_k».proof.Proof.Gen.ReferenceIdeal.Run
public import proofs.«01_k».proof.Proof.Spec
public import Idealize.ShloMosaic.Lib.Pointwise
public import Idealize.ShloMosaic.Lib.Claim
public import Idealize.ShloMosaic.Lib.Tactic.CleanTypes
public import Idealize.ShloMosaic.Lib.Pipeline.ValueKit
public import proofs.«01_k».proof.Proof.Ref1
public import proofs.«01_k».proof.Proof.Ref2

@[expose] public section

set_option maxRecDepth 16384
set_option pp.maxSteps 400
noncomputable section
namespace Cert.ReferenceIdeal.Ssd
open Cert.Ssd Cert.KernelIdeal.Chunk Cert.ReferenceIdeal Cert.ReferenceIdeal.Gen Cert.ReferenceIdeal.Value Idealize.ShloMosaic Idealize.ShloMosaic.TcCoe Idealize.ShloMosaic.Tactic
open Idealize.ShloMosaic.StableHlo
open scoped BigOperators

variable (V0 : Valuation τ sig (Elt Ideal))

theorem r394 (k : Fin 32) (b : Fin 4) (g : Fin 4) (h : Fin 8) (d : Fin 64) (n : Fin 128) :
    res_main_v394 V0 (ix6 k b g h d n) = St (argsR V0) b k.val (8 * g.val + h.val) d.val n := by
  unfold res_main_v394
  clean_types
  pointwise
  simp only [r96 V0 b g h d n, r111 V0 b g h d n, r119 V0 b g h d n, r127 V0 b g h d n, r135 V0 b g h d n, r143 V0 b g h d n, r151 V0 b g h d n, r159 V0 b g h d n, r167 V0 b g h d n, r175 V0 b g h d n, r183 V0 b g h d n, r191 V0 b g h d n, r199 V0 b g h d n, r207 V0 b g h d n, r215 V0 b g h d n, r223 V0 b g h d n, r231 V0 b g h d n, r239 V0 b g h d n, r247 V0 b g h d n, r255 V0 b g h d n, r263 V0 b g h d n, r271 V0 b g h d n, r279 V0 b g h d n, r287 V0 b g h d n, r295 V0 b g h d n, r303 V0 b g h d n, r311 V0 b g h d n, r319 V0 b g h d n, r327 V0 b g h d n, r335 V0 b g h d n, r343 V0 b g h d n, r351 V0 b g h d n]
  fin_vals k with hk
  all_goals simp only [hk, Nat.reduceSub, Nat.reduceLT, ↓reduceDIte]

theorem mask_exp (l x : Fin 128) (u : EReal) :
    Ideal.exp (Scalar.select (Scalar.select (IntOp.cmpi CmpIPredicate.sge (IntOp.addi (BitVec.ofNat 32 l.val) 0#32) (BitVec.ofNat 32 x.val)) 1#1 0#1)
      u (id (constant (F := Ideal) S_ .f32 0xFF800000#32) ix0)) = if x.val ≤ l.val then Ideal.exp u else 0 := by
  have e : IntOp.addi (BitVec.ofNat 32 l.val) 0#32 = BitVec.ofNat 32 l.val := BitVec.add_zero _
  rw [e, cmpi_sge_fin]
  split
  · rfl
  · exact congrArg Ideal.exp ofBits_negInf

theorem gate_eq (A : Args) (b : Fin 4) (k : ℕ) (l : Fin 128) (j h d g : ℕ) (hj : j / 64 = h) (hd : j % 64 = d) (hg : h / 8 = g) :
    gate A b k l j = ((((∑ s : Fin 128, (∑ n : Fin 128, act A b (2560 + (128 * g + n.val)) (128 * k + l.val) * act A b (2048 + (128 * g + n.val)) (128 * k + s.val)) *
      (if s.val ≤ l.val then Ideal.exp (acc A b k h l - acc A b k h s) * step A b (128 * k + s.val) h else 0) * act A b (64 * h + d) (128 * k + s.val))
    + ∑ n : Fin 128, act A b (2560 + (128 * g + n.val)) (128 * k + l.val) * Ideal.exp (acc A b k h l) * St A b k h d n) + act A b j (128 * k + l.val) * A.ds h)
      * silu (A.P b (128 * k + l.val) (1864 + j))) := by
  subst hj hd hg
  rfl

theorem r415 (b : Fin 4) (s : Fin 4096) (q : Fin 4) (i : Fin 512) :
    res_main_v415 V0 (ix4 b s q i) = gate (argsR V0) b (s.val / 128) ⟨s.val % 128, Nat.mod_lt _ (by norm_num)⟩ (512 * q.val + i.val) := by
  unfold res_main_v415 res_main_v5 res_main_v67 res_main_v45
  clean_types
  pointwise
  have hs := s.isLt
  have hq := q.isLt
  have hi := i.isLt
  have em : ∀ x u, _ := fun (x : Fin 128) (u : EReal) => mask_exp ⟨s.val % 128, Nat.mod_lt _ (by norm_num)⟩ x u
  dsimp only at em
  have hj : (512 * q.val + i.val) / 64 = 8 * q.val + (q.val * 512 + i.val) / 64 % 8 := by omega
  have hd : (512 * q.val + i.val) % 64 = (q.val * 512 + i.val) % 64 := by omega
  have h8 : (8 * q.val + (q.val * 512 + i.val) / 64 % 8) / 8 = q.val := by omega
  have h0 : ¬ s.val / 128 < 0 := by omega
  have hT : 128 * (s.val / 128) + s.val % 128 = s.val := by omega
  simp only [em, r66, r59, r58, r63, r394, dif_neg h0]
  refine Eq.trans ?_ (gate_eq _ _ _ _ _ _ _ _ hj hd h8).symm
  refine congrArg₂ (· * ·) (congrArg₂ (· + ·) (congrArg₂ (· + ·) (Finset.sum_congr rfl fun x _ => ?_) (Finset.sum_congr rfl fun x _ => ?_)) (congrArg₂ (· * ·) ?_ ?_)) ?_
  · split
    · ac_rfl
    · simp only [mul_zero, zero_mul]
  · ac_rfl
  · exact act_of V0 _ _ _ _ _ (by dsimp only; omega) (by dsimp only; omega)
  · rw [rds V0 _ (by omega)]
    exact congrArg (fun u => (V0 (Proc.devRef .tc main_arg5) : FVec Ideal S32 .f32) (ix1 u)) (Fin.ext (by dsimp only; omega))
  · rw [rP V0 b _ _ (by omega) (by omega)]
    have e : ∀ (a a' : Fin 4096) (q q' : Fin 9064) (P : FVec Ideal S4x4096x9064 .f32), a = a' → q = q' →
        P (ix3 b a q) * Ideal.div 1 (1 + Ideal.exp (-P (ix3 b a q))) = silu (P (ix3 b a' q')) := by
      rintro a _ q _ P rfl rfl; rfl
    exact e _ _ _ _ _ (Fin.ext (by dsimp only; omega)) (Fin.ext (by dsimp only; omega))

/-- The layer's output as an array. -/
theorem rout (V0 : Valuation τ sig (Elt Ideal)) (b : Fin 4) (s : Fin 4096) (j : Fin 2048) :
    (truncf .bf16 (mulf (shapeCast _ (mulf (res_main_v415 V0) (broadcastInDim S4x4096x4x512 ![0, 1, 2, 3] bcast_S4x4096x4x1_S4x4096x4x512_0_1_2_3 (Host.rsqrt (addf (Host.divf (broadcastInDim S4x4096x4x1 ![0, 1, 2] bcast_S4x4096x4_S4x4096x4x1_0_1_2 (Host.reduceAdd (mulf (res_main_v415 V0) (res_main_v415 V0)) (constant S_ .f32 0x00000000#32) reducesTo_S4x4096x4x512_S4x4096x4_d3 h_S_)) (broadcastInDim S4x4096x4x1 ![] bcast_S_S4x4096x4x1 (constant S_ .f32 0x44000000#32))) (broadcastInDim S4x4096x4x1 ![] bcast_S_S4x4096x4x1 (constant S_ .f32 0x358637BD#32)))))) shapeCasts_S4x4096x4x512_S4x4096x2048) (broadcastInDim S4x4096x2048 ![0, 1, 2] bcast_S1x1x2048_S4x4096x2048_0_1_2 (broadcastInDim S1x1x2048 ![2] bcast_S2048_S1x1x2048_2 (V0 (Proc.devRef .tc main_arg6))))) bitsLt_bf16_f32 : FVec Ideal S4x4096x2048 .bf16) (ix3 b s j)
      = Cert.Ssd.out (argsR V0) b (s.val / 128) ⟨s.val % 128, Nat.mod_lt _ (by norm_num)⟩ j.val := by
  have hj := j.isLt
  unfold Cert.Ssd.out
  rw [rg V0 _ hj]
  pointwise
  simp only [r415]
  rw [show 512 * (j.val / 512) + j.val % 512 = j.val by omega]

end Cert.ReferenceIdeal.Ssd
-- ==== Proof.Final.lean ====
module

public import proofs.«01_k».proof.Proof.KFinal
public import proofs.«01_k».proof.Proof.Ref3
public import proofs.«01_k».proof.Defs
public import proofs.«01_k».proof.Proof.Gen.Kernel.Frame

@[expose] public section

set_option maxRecDepth 16384
set_option pp.maxSteps 400
noncomputable section
namespace Cert.Proof
open Idealize.ShloMosaic Idealize.SL.Sem Cert.Ssd
open Idealize.ShloMosaic.StableHlo

/-- The reference ends with its arguments as they were. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem argsOf_congr {p p' : FVec Ideal ⟨3, ![4, 4096, 9064]⟩ .f32} {w w' : FVec Ideal ⟨2, ![4, 3072]⟩ .f32} {cb cb' : FVec Ideal ⟨1, ![3072]⟩ .f32}
    {db db' al al' ds ds' : FVec Ideal ⟨1, ![32]⟩ .f32} {g g' : FVec Ideal ⟨1, ![2048]⟩ .f32} (h0 : p = p') (h1 : w = w') (h2 : cb = cb')
    (h3 : db = db') (h4 : al = al') (h5 : ds = ds') (h6 : g = g') : argsOf p w cb db al ds g = argsOf p' w' cb' db' al' ds' g' := by
  subst h0 h1 h2 h3 h4 h5 h6
  rfl

/-- On equal arguments the kernel's result is the reference's, element by element. -/
theorem algebraic : Cert.algebraic_KernelIdeal_ReferenceIdeal := by
  intro m ρ m' ρ' _ hag
  refine ⟨fun c => (Cert.KernelIdeal.Gen.dats m 0 c).arrAt 16 Cert.KernelIdeal.cfg0.N, Cert.KernelIdeal.Value.run_blocks m ρ,
    (θ_run Cert.ReferenceIdeal.defs _ _).mono (fun r h c => ⟨(h c).1.trans ?_, (h c).2⟩) (Cert.ReferenceIdeal.Value.run (F := Ideal) m' ρ')⟩
  refine Eq.trans ?_ (Cert.KernelIdeal.Chunk.arr_eq m c).symm
  have ha : Cert.ReferenceIdeal.Ssd.argsR (launchContents m' c) = Cert.KernelIdeal.Chunk.argsK m c := by
    obtain ⟨h0, h1, h2, h3, h4, h5, h6⟩ := hag c
    exact argsOf_congr h0 h1 h2 h3 h4 h5 h6
  funext i
  obtain ⟨b, s, j, rfl⟩ : ∃ b s j, i = ValueIdx.ix3 b s j := ⟨_, _, _, ValueIdx.eq_ix3 i⟩
  refine (Cert.ReferenceIdeal.Ssd.rout (launchContents m' c) b s j).trans ?_
  rw [ha]
  rfl

/-- The named constant is the one whose word the kernel holds. -/
theorem preserves : Cert.preserves_Kernel_KernelIdeal :=
  IdealRules.named_const.statement Cert.KernelIdeal.κ "log2_e" .f32 0x3FB8AA3B#32 _ rfl

end Cert.Proof
-- ==== Proof.MlpBody.lean ====
module

public import proofs.«01_k».proof.Proof.Gen.Kernel2Ideal.Value
public import Idealize.ShloMosaic.Lib.Pipeline.ValueKit
public import Idealize.ShloMosaic.Lib.Pipeline.ReadBack

@[expose] public section

set_option maxRecDepth 16384
set_option pp.maxSteps 400
noncomputable section
namespace Cert.Kernel2Ideal.Mlp
open Cert.Kernel2Ideal Cert.Kernel2Ideal.Gen Idealize.ShloMosaic Idealize.ShloMosaic.TcCoe Idealize.ShloMosaic.Tactic

/-- The hidden rows of a first point. -/
theorem sout0_A_0_eq (c : Dev nD) (i : grid0.Coords) (arg3 : Memref sig .tc .vmem S1x1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024x1024 .f32) (harg11 : arg11.IsWhole) (arg12 : Memref sig .tc .vmem S1024x1024 .bf16) (harg12 : arg12.IsWhole) (arg13 : Memref sig .tc .vmem S1024x1024 .f32) (harg13 : arg13.IsWhole) (hc0 : cond0_0 i) (hc1 : ¬cond0_1 i)
    (x0 : Vec Ideal S1x1024x1024 .f32) (x1 : Vec Ideal S1x1024 .f32) (x2 : Vec Ideal S1x1x1024 .f32) (x3 : Vec Ideal S1x1x1024 .f32) (x4 : Vec Ideal S1024x1024 .bf16) (x5 : Vec Ideal S1024x1024 .bf16) (x6 : Vec Ideal S1x1x1024 .f32) (x7 : Vec Ideal S1x1024 .f32) :
    sout0_A_0 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay1 x0 x1 x2 x3 := by
  frame_open
  rw [View.read_writes_junk_eq_canon]
  dsimp only [View.readAt_eq_ld]
  repeat rw [Memref.IsWhole.read_unread]
  repeat (rw [View.ld_unit_lit']; swap; · decide)
  repeat (rw [View.readCov_unit_lit']; swap; · decide)
  try rw [View.canon_cons_unit_lit' _ _ _ (by decide)]
  try rfl

/-- The sum after a first point. -/
theorem sout0_A_1_eq (c : Dev nD) (i : grid0.Coords) (arg3 : Memref sig .tc .vmem S1x1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024x1024 .f32) (harg11 : arg11.IsWhole) (arg12 : Memref sig .tc .vmem S1024x1024 .bf16) (harg12 : arg12.IsWhole) (arg13 : Memref sig .tc .vmem S1024x1024 .f32) (harg13 : arg13.IsWhole) (hc0 : cond0_0 i) (hc1 : ¬cond0_1 i)
    (x0 : Vec Ideal S1x1024x1024 .f32) (x1 : Vec Ideal S1x1024 .f32) (x2 : Vec Ideal S1x1x1024 .f32) (x3 : Vec Ideal S1x1x1024 .f32) (x4 : Vec Ideal S1024x1024 .bf16) (x5 : Vec Ideal S1024x1024 .bf16) (x6 : Vec Ideal S1x1x1024 .f32) (x7 : Vec Ideal S1x1024 .f32) :
    sout0_A_1 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay3 (k0_pay1 x0 x1 x2 x3) x4 (k0_pay2 (F := Ideal)) x5 := by
  frame_open
  rw [View.read_writes_junk_eq_canon]
  dsimp only [View.readAt_eq_ld]
  repeat rw [Memref.IsWhole.read_unread]
  repeat (rw [View.ld_unit_lit']; swap; · decide)
  repeat (rw [View.readCov_unit_lit']; swap; · decide)
  try rw [View.canon_cons_unit_lit' _ _ _ (by decide)]
  try rfl

/-- The sum after a middle point. -/
theorem sout0_B_1_eq (c : Dev nD) (i : grid0.Coords) (arg3 : Memref sig .tc .vmem S1x1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024x1024 .f32) (harg11 : arg11.IsWhole) (arg12 : Memref sig .tc .vmem S1024x1024 .bf16) (harg12 : arg12.IsWhole) (arg13 : Memref sig .tc .vmem S1024x1024 .f32) (harg13 : arg13.IsWhole) (hc0 : ¬cond0_0 i) (hc1 : ¬cond0_1 i)
    (x0 : Vec Ideal S1x1024x1024 .f32) (x1 : Vec Ideal S1x1024 .f32) (x2 : Vec Ideal S1x1x1024 .f32) (x3 : Vec Ideal S1x1x1024 .f32) (x4 : Vec Ideal S1024x1024 .bf16) (x5 : Vec Ideal S1024x1024 .bf16) (x6 : Vec Ideal S1x1x1024 .f32) (x7 : Vec Ideal S1x1024 .f32) (xs0 : Vec Ideal S1024x1024 .bf16) (xs1 : Vec Ideal S1024x1024 .f32) :
    sout0_B_1 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay3 xs0 x4 xs1 x5 := by
  frame_open
  rw [View.read_writes_junk_eq_canon]
  dsimp only [View.readAt_eq_ld]
  repeat rw [Memref.IsWhole.read_unread]
  repeat (rw [View.ld_unit_lit']; swap; · decide)
  repeat (rw [View.readCov_unit_lit']; swap; · decide)
  try rw [View.canon_cons_unit_lit' _ _ _ (by decide)]
  try rfl

/-- The sum after a last point. -/
theorem sout0_C_1_eq (c : Dev nD) (i : grid0.Coords) (arg3 : Memref sig .tc .vmem S1x1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024x1024 .f32) (harg11 : arg11.IsWhole) (arg12 : Memref sig .tc .vmem S1024x1024 .bf16) (harg12 : arg12.IsWhole) (arg13 : Memref sig .tc .vmem S1024x1024 .f32) (harg13 : arg13.IsWhole) (hc0 : ¬cond0_0 i) (hc1 : cond0_1 i)
    (x0 : Vec Ideal S1x1024x1024 .f32) (x1 : Vec Ideal S1x1024 .f32) (x2 : Vec Ideal S1x1x1024 .f32) (x3 : Vec Ideal S1x1x1024 .f32) (x4 : Vec Ideal S1024x1024 .bf16) (x5 : Vec Ideal S1024x1024 .bf16) (x6 : Vec Ideal S1x1x1024 .f32) (x7 : Vec Ideal S1x1024 .f32) (xs0 : Vec Ideal S1024x1024 .bf16) (xs1 : Vec Ideal S1024x1024 .f32) :
    sout0_C_1 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay3 xs0 x4 xs1 x5 := by
  frame_open
  rw [View.read_writes_junk_eq_canon]
  dsimp only [View.readAt_eq_ld]
  repeat rw [Memref.IsWhole.read_unread]
  repeat (rw [View.ld_unit_lit']; swap; · decide)
  repeat (rw [View.readCov_unit_lit']; swap; · decide)
  try rw [View.canon_cons_unit_lit' _ _ _ (by decide)]
  try rfl

/-- The block a last point writes. -/
theorem out0_C_8_eq (c : Dev nD) (i : grid0.Coords) (arg3 : Memref sig .tc .vmem S1x1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024x1024 .f32) (harg11 : arg11.IsWhole) (arg12 : Memref sig .tc .vmem S1024x1024 .bf16) (harg12 : arg12.IsWhole) (arg13 : Memref sig .tc .vmem S1024x1024 .f32) (harg13 : arg13.IsWhole) (hc0 : ¬cond0_0 i) (hc1 : cond0_1 i)
    (x0 : Vec Ideal S1x1024x1024 .f32) (x1 : Vec Ideal S1x1024 .f32) (x2 : Vec Ideal S1x1x1024 .f32) (x3 : Vec Ideal S1x1x1024 .f32) (x4 : Vec Ideal S1024x1024 .bf16) (x5 : Vec Ideal S1024x1024 .bf16) (x6 : Vec Ideal S1x1x1024 .f32) (x7 : Vec Ideal S1x1024 .f32) (xs0 : Vec Ideal S1024x1024 .bf16) (xs1 : Vec Ideal S1024x1024 .f32) :
    out0_C_8 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay4 (k0_pay3 xs0 x4 xs1 x5) x7 x0 x6 := by
  frame_open
  rw [View.read_writes_junk_eq_canon]
  dsimp only [View.readAt_eq_ld]
  repeat rw [Memref.IsWhole.read_unread]
  repeat (rw [View.ld_unit_lit']; swap; · decide)
  repeat (rw [View.readCov_unit_lit']; swap; · decide)
  try rw [View.canon_cons_unit_lit' _ _ _ (by decide)]
  try rfl

end Cert.Kernel2Ideal.Mlp
-- ==== Proof.MlpSpec.lean ====
module

public import Idealize.ShloMosaic.Lib.Pointwise
public import Idealize.ShloMosaic.PureOps.Ideal

@[expose] public section

noncomputable section

namespace Cert.Mlp

open Idealize.ShloMosaic
open scoped BigOperators

/-- One over a row's root mean square. -/
def rs (f : Fin 1024 → EReal) : EReal :=
  Ideal.rsqrt (Ideal.div (∑ k, f k * f k) (Ideal.ofBits .f32 0x44800000#32) + Ideal.ofBits .f32 0x358637BD#32)

/-- The arguments, read at an index. -/
structure Args where
  x : Fin 4 → Fin 4096 → Fin 1024 → EReal
  g1 : Fin 1024 → EReal
  g2 : Fin 1024 → EReal
  sc : Fin 4 → Fin 1024 → EReal
  sh : Fin 4 → Fin 1024 → EReal
  gt : Fin 4 → Fin 1024 → EReal
  wu : Fin 1024 → Fin 4096 → EReal
  wd : Fin 4096 → Fin 1024 → EReal

/-- The arguments of the arrays. -/
def argsOf (x : FVec Ideal ⟨3, ![4, 4096, 1024]⟩ .f32) (g1 g2 : FVec Ideal ⟨1, ![1024]⟩ .f32) (sc sh gt : FVec Ideal ⟨3, ![4, 1, 1024]⟩ .f32)
    (wu : FVec Ideal ⟨2, ![1024, 4096]⟩ .f32) (wd : FVec Ideal ⟨2, ![4096, 1024]⟩ .f32) : Args where
  x b s d := x (ValueIdx.ix3 b s d)
  g1 d := g1 (ValueIdx.ix1 d)
  g2 d := g2 (ValueIdx.ix1 d)
  sc b d := sc (ValueIdx.ix3 b 0 d)
  sh b d := sh (ValueIdx.ix3 b 0 d)
  gt b d := gt (ValueIdx.ix3 b 0 d)
  wu d f := wu (ValueIdx.ix2 d f)
  wd f d := wd (ValueIdx.ix2 f d)

variable (A : Args) (b : Fin 4) (s : Fin 4096)

/-- The normed and modulated row. -/
def hid (d : Fin 1024) : EReal := A.x b s d * rs (A.x b s) * A.g1 d * (1 + A.sc b d) + A.sh b d
/-- A hidden unit, before the square. -/
def unit (f : Fin 4096) : EReal := max (∑ d, hid A b s d * A.wu d f) 0
/-- A hidden unit's part of a column. -/
def term (e : Fin 1024) (f : Fin 4096) : EReal := unit A b s f * unit A b s f * A.wd f e
/-- A column, before the second norm. -/
def mid (e : Fin 1024) : EReal := ∑ f, term A b s e f
/-- The output. -/
def out (e : Fin 1024) : EReal := A.x b s e + A.gt b e * (mid A b s e * rs (mid A b s) * A.g2 e)

/-- A tile's part of a column, the tile counted modulo four. -/
def part (e : Fin 1024) (j : ℕ) : EReal := ∑ f : Fin 1024, term A b s e ⟨1024 * (j % 4) + f.val, by omega⟩

theorem sum_part (e : Fin 1024) : ∑ j ∈ Finset.range 4, part A b s e j = mid A b s e := by
  rw [← Fin.sum_univ_eq_sum_range (fun j => part A b s e j) 4]
  unfold mid part
  rw [← (finProdFinEquiv (m := 4) (n := 1024)).sum_comp, Fintype.sum_prod_type]
  refine Finset.sum_congr rfl fun j _ => Finset.sum_congr rfl fun f _ => congrArg _ (Fin.ext ?_)
  have := j.isLt
  simp only [finProdFinEquiv_apply_val]
  omega

end Cert.Mlp
-- ==== Proof.MlpPoint.lean ====
module

public import proofs.«01_k».proof.Proof.MlpBody
public import proofs.«01_k».proof.Proof.MlpSpec
public import Idealize.ShloMosaic.Lib.Pointwise

@[expose] public section

set_option maxRecDepth 16384
set_option pp.maxSteps 400
noncomputable section
namespace Cert.Kernel2Ideal.Mlp
open Cert.Mlp Cert.Kernel2Ideal Cert.Kernel2Ideal.Gen Idealize.ShloMosaic Idealize.ShloMosaic.TcCoe Idealize.ShloMosaic.Tactic
open scoped BigOperators
variable (m : (ℓ : Loc nD τ sig) → Buf (Elt Ideal) ℓ) (c : Dev nD)

theorem hid_apply (x : FVec Ideal S1x1024x1024 .f32) (g : FVec Ideal S1x1024 .f32) (sc sh : FVec Ideal S1x1x1024 .f32) (r d : Fin 1024) :
    k0_pay1 (F := Ideal) x g sc sh (ix2 r d) = x (ix3 0 r d) * rs (fun k => x (ix3 0 r k)) * g (ix2 0 d) * (1 + sc (ix3 0 0 d)) + sh (ix3 0 0 d) := by
  unfold rs
  pointwise [k0_pay1]

theorem zero_apply (r d : Fin 1024) : k0_pay2 (F := Ideal) (ix2 r d) = 0 := by
  pointwise [k0_pay2]

theorem acc_apply (h wu wd : FVec Ideal S1024x1024 .bf16) (a : FVec Ideal S1024x1024 .f32) (r e : Fin 1024) :
    k0_pay3 (F := Ideal) h wu a wd (ix2 r e) = a (ix2 r e) + ∑ f : Fin 1024, max (∑ d : Fin 1024, h (ix2 r d) * wu (ix2 d f)) 0 * max (∑ d : Fin 1024, h (ix2 r d) * wu (ix2 d f)) 0 * wd (ix2 f e) := by
  pointwise [k0_pay3]

theorem out_apply (a : FVec Ideal S1024x1024 .f32) (g : FVec Ideal S1x1024 .f32) (x : FVec Ideal S1x1024x1024 .f32) (gt : FVec Ideal S1x1x1024 .f32) (r e : Fin 1024) :
    k0_pay4 (F := Ideal) a g x gt (ix3 0 r e) = x (ix3 0 r e) + gt (ix3 0 0 e) * (a (ix2 r e) * rs (fun k => a (ix2 r k)) * g (ix2 0 e)) := by
  unfold rs
  pointwise [k0_pay4]

/-- The arguments at entry. -/
def argsK : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7))

theorem V0 (d : Fin 1024) : V m c main_v0 (ix2 0 d) = m ((c : Thread nD τ).loc main_arg1) (ix1 d) := by
  unfold V hostOps0
  simp only [List.flatten_cons, List.flatten_nil, List.append_nil, List.cons_append, List.nil_append, StableHlo.after_cons, StableHlo.after_nil]
  after_results_simp
  pointwise
theorem V1 (d : Fin 1024) (f : Fin 4096) : V m c main_v1 (ix2 d f) = m ((c : Thread nD τ).loc main_arg6) (ix2 d f) := by
  unfold V hostOps0
  simp only [List.flatten_cons, List.flatten_nil, List.append_nil, List.cons_append, List.nil_append, StableHlo.after_cons, StableHlo.after_nil]
  after_results_simp
  pointwise
theorem V2 (f : Fin 4096) (d : Fin 1024) : V m c main_v2 (ix2 f d) = m ((c : Thread nD τ).loc main_arg7) (ix2 f d) := by
  unfold V hostOps0
  simp only [List.flatten_cons, List.flatten_nil, List.append_nil, List.cons_append, List.nil_append, StableHlo.after_cons, StableHlo.after_nil]
  after_results_simp
  pointwise
theorem V3 (d : Fin 1024) : V m c main_v3 (ix2 0 d) = m ((c : Thread nD τ).loc main_arg2) (ix1 d) := by
  unfold V hostOps0
  simp only [List.flatten_cons, List.flatten_nil, List.append_nil, List.cons_append, List.nil_append, StableHlo.after_cons, StableHlo.after_nil]
  after_results_simp
  pointwise

theorem lt64 (t : Fin cfg0.N) : t.val < 64 := lt_of_lt_of_eq t.isLt N_0
/-- A point's batch. -/
def bat (t : Fin cfg0.N) : Fin 4 := ⟨t.val / 16, by have := lt64 t; omega⟩
/-- A row of a point's block. -/
def row (t : Fin cfg0.N) (r : Fin 1024) : Fin 4096 := ⟨1024 * (t.val / 4 % 4) + r.val, by have := r.isLt; omega⟩
/-- A hidden unit of a point's tile. -/
def col (t : Fin cfg0.N) (f : Fin 1024) : Fin 4096 := ⟨1024 * (t.val % 4) + f.val, by have := f.isLt; omega⟩

theorem idx0 (t : Fin cfg0.N) : win0_0.index t = ![t.val / 16, t.val / 4 % 4, 0] := (by decide +kernel : ∀ t : Fin grid0.N, win0_0.index t = ![t.val / 16, t.val / 4 % 4, 0]) t
theorem idx1 (t : Fin cfg0.N) : win0_1.index t = ![0, 0] := (by decide +kernel : ∀ t : Fin grid0.N, win0_1.index t = ![0, 0]) t
theorem idx2 (t : Fin cfg0.N) : win0_2.index t = ![t.val / 16, 0, 0] := (by decide +kernel : ∀ t : Fin grid0.N, win0_2.index t = ![t.val / 16, 0, 0]) t
theorem idx3 (t : Fin cfg0.N) : win0_3.index t = ![t.val / 16, 0, 0] := (by decide +kernel : ∀ t : Fin grid0.N, win0_3.index t = ![t.val / 16, 0, 0]) t
theorem idx4 (t : Fin cfg0.N) : win0_4.index t = ![0, t.val % 4] := (by decide +kernel : ∀ t : Fin grid0.N, win0_4.index t = ![0, t.val % 4]) t
theorem idx5 (t : Fin cfg0.N) : win0_5.index t = ![t.val % 4, 0] := (by decide +kernel : ∀ t : Fin grid0.N, win0_5.index t = ![t.val % 4, 0]) t
theorem idx6 (t : Fin cfg0.N) : win0_6.index t = ![t.val / 16, 0, 0] := (by decide +kernel : ∀ t : Fin grid0.N, win0_6.index t = ![t.val / 16, 0, 0]) t
theorem idx7 (t : Fin cfg0.N) : win0_7.index t = ![0, 0] := (by decide +kernel : ∀ t : Fin grid0.N, win0_7.index t = ![0, 0]) t
theorem idx8 (t : Fin cfg0.N) : win0_8.index t = ![t.val / 16, t.val / 4 % 4, 0] := (by decide +kernel : ∀ t : Fin grid0.N, win0_8.index t = ![t.val / 16, t.val / 4 % 4, 0]) t

theorem w0 (t : Fin cfg0.N) (r d : Fin 1024) : iblk m c 0 t (ix3 0 r d) = (argsK m c).x (bat t) (row t r) d := by
  refine Eq.trans ?_ (congrFun (V_main_arg0 m c) (ix3 (bat t) (row t r) d))
  blk_ext [iblk, bat, row, idx0 t]
theorem w1 (t : Fin cfg0.N) (d : Fin 1024) : iblk m c 1 t (ix2 0 d) = (argsK m c).g1 d := by
  refine Eq.trans ?_ (V0 m c d)
  blk_ext [iblk, idx1 t]
theorem w2 (t : Fin cfg0.N) (d : Fin 1024) : iblk m c 2 t (ix3 0 0 d) = (argsK m c).sc (bat t) d := by
  refine Eq.trans ?_ (congrFun (V_main_arg3 m c) (ix3 (bat t) 0 d))
  blk_ext [iblk, bat, idx2 t]
theorem w3 (t : Fin cfg0.N) (d : Fin 1024) : iblk m c 3 t (ix3 0 0 d) = (argsK m c).sh (bat t) d := by
  refine Eq.trans ?_ (congrFun (V_main_arg4 m c) (ix3 (bat t) 0 d))
  blk_ext [iblk, bat, idx3 t]
theorem w4 (t : Fin cfg0.N) (d f : Fin 1024) : iblk m c 4 t (ix2 d f) = (argsK m c).wu d (col t f) := by
  refine Eq.trans ?_ (V1 m c d (col t f))
  blk_ext [iblk, col, idx4 t]
theorem w5 (t : Fin cfg0.N) (f d : Fin 1024) : iblk m c 5 t (ix2 f d) = (argsK m c).wd (col t f) d := by
  refine Eq.trans ?_ (V2 m c (col t f) d)
  blk_ext [iblk, col, idx5 t]
theorem w6 (t : Fin cfg0.N) (d : Fin 1024) : iblk m c 6 t (ix3 0 0 d) = (argsK m c).gt (bat t) d := by
  refine Eq.trans ?_ (congrFun (V_main_arg5 m c) (ix3 (bat t) 0 d))
  blk_ext [iblk, bat, idx6 t]
theorem w7 (t : Fin cfg0.N) (d : Fin 1024) : iblk m c 7 t (ix2 0 d) = (argsK m c).g2 d := by
  refine Eq.trans ?_ (V3 m c d)
  blk_ext [iblk, idx7 t]

end Cert.Kernel2Ideal.Mlp
-- ==== Proof.MlpFinal.lean ====
module

public import proofs.«01_k».proof.Proof.MlpPoint
public import Idealize.ShloMosaic.Lib.Pipeline.ValueKit

@[expose] public section

set_option maxRecDepth 16384
set_option pp.maxSteps 400
noncomputable section
namespace Cert.Kernel2Ideal.Mlp
open Cert.Mlp Cert.Kernel2Ideal Cert.Kernel2Ideal.Gen Idealize.ShloMosaic Idealize.ShloMosaic.TcCoe Idealize.ShloMosaic.Tactic
open scoped BigOperators
variable (m : (ℓ : Loc nD τ sig) → Buf (Elt Ideal) ℓ) (c : Dev nD)

/-- What the two scratches hold after a point. -/
structure Held (t : Fin cfg0.N) (h : FVec Ideal S1024x1024 .bf16) (a : FVec Ideal S1024x1024 .f32) : Prop where
  fh : ∀ r d : Fin 1024, h (ix2 r d) = hid (argsK m c) (bat t) (row t r) d
  fa : ∀ r e : Fin 1024, a (ix2 r e) = ∑ j ∈ Finset.range (t.val % 4 + 1), part (argsK m c) (bat t) (row t r) e j

theorem hid_point (t : Fin cfg0.N) (r d : Fin 1024) :
    k0_pay1 (F := Ideal) (iblk m c 0 t) (iblk m c 1 t) (iblk m c 2 t) (iblk m c 3 t) (ix2 r d) = hid (argsK m c) (bat t) (row t r) d := by
  refine (hid_apply _ _ _ _ r d).trans ?_
  simp only [w0, w1, w2, w3]
  rfl

theorem acc_point (t : Fin cfg0.N) (h : FVec Ideal S1024x1024 .bf16) (a : FVec Ideal S1024x1024 .f32) (r e : Fin 1024)
    (fh : ∀ d : Fin 1024, h (ix2 r d) = hid (argsK m c) (bat t) (row t r) d) :
    k0_pay3 (F := Ideal) h (iblk m c 4 t) a (iblk m c 5 t) (ix2 r e) = a (ix2 r e) + part (argsK m c) (bat t) (row t r) e (t.val % 4) := by
  refine (acc_apply _ _ _ _ r e).trans ?_
  refine congrArg _ (Finset.sum_congr rfl fun f _ => ?_)
  have ec : col t f = ⟨1024 * (t.val % 4 % 4) + f.val, by have := f.isLt; omega⟩ := Fin.ext (by show 1024 * (t.val % 4) + f.val = 1024 * (t.val % 4 % 4) + f.val; omega)
  simp only [fh, w4, w5]
  rw [ec]
  rfl

theorem held_A (t : Fin cfg0.N) (h0 : t.val % 4 = 0) : Held m c t (outsAt0 m c t.val t.isLt).2.1 (outsAt0 m c t.val t.isLt).2.2 := by
  rw [outsAt0_A m c t h0 (by omega)]
  dsimp only
  rw [sout0_A_0_eq, sout0_A_1_eq]
  refine ⟨fun r d => hid_point m c t r d, fun r e => ?_⟩
  refine (acc_point m c t _ _ r e fun d => hid_point m c t r d).trans ?_
  rw [zero_apply, h0, Finset.sum_range_one, zero_add]

theorem prev_bat (t : Fin cfg0.N) (h0 : ¬t.val % 4 = 0) (h : t.val - 1 < cfg0.N) : bat ⟨t.val - 1, h⟩ = bat t := Fin.ext (by show (t.val - 1) / 16 = t.val / 16; omega)
theorem prev_row (t : Fin cfg0.N) (h0 : ¬t.val % 4 = 0) (h : t.val - 1 < cfg0.N) (r : Fin 1024) : row ⟨t.val - 1, h⟩ r = row t r :=
  Fin.ext (by show 1024 * ((t.val - 1) / 4 % 4) + r.val = 1024 * (t.val / 4 % 4) + r.val; omega)

theorem held_step (t : Fin cfg0.N) (h0 : ¬t.val % 4 = 0) (h : t.val - 1 < cfg0.N) (hs : FVec Ideal S1024x1024 .bf16) (a : FVec Ideal S1024x1024 .f32)
    (ih : Held m c ⟨t.val - 1, h⟩ hs a) : Held m c t hs (k0_pay3 (F := Ideal) hs (iblk m c 4 t) a (iblk m c 5 t)) := by
  have fh : ∀ r d : Fin 1024, hs (ix2 r d) = hid (argsK m c) (bat t) (row t r) d := fun r d => by
    rw [ih.fh r d, prev_bat t h0 h, prev_row t h0 h]
  refine ⟨fh, fun r e => ?_⟩
  refine (acc_point m c t _ _ r e (fh r)).trans ?_
  rw [ih.fa r e, prev_bat t h0 h, prev_row t h0 h, Finset.sum_range_succ _ (t.val % 4)]
  have e4 : (t.val - 1) % 4 + 1 = t.val % 4 := by omega
  dsimp only
  rw [e4]

theorem held (n : ℕ) (hn : n < cfg0.N) : Held m c ⟨n, hn⟩ (outsAt0 m c n hn).2.1 (outsAt0 m c n hn).2.2 := by
  induction n with
  | zero => exact held_A m c ⟨0, hn⟩ rfl
  | succ n ih =>
    by_cases h0 : (n + 1) % 4 = 0
    · exact held_A m c ⟨n + 1, hn⟩ h0
    · have i := ih (Nat.lt_of_succ_lt hn)
      by_cases h1 : (n + 1) % 4 = 3
      · have e := outsAt0_C m c ⟨n + 1, hn⟩ h0 h1
        dsimp only at e
        rw [e]
        dsimp only
        rw [sout0_C_1_eq]
        exact held_step m c ⟨n + 1, hn⟩ h0 (Nat.lt_of_succ_lt hn) _ _ i
      · have e := outsAt0_B m c ⟨n + 1, hn⟩ h0 h1
        dsimp only at e
        rw [e]
        dsimp only
        rw [sout0_B_1_eq]
        exact held_step m c ⟨n + 1, hn⟩ h0 (Nat.lt_of_succ_lt hn) _ _ i

theorem out_point (t : Fin cfg0.N) (h1 : t.val % 4 = 3) (r e : Fin 1024) :
    (outsAt0 m c t.val t.isLt).1 (ix3 0 r e) = out (argsK m c) (bat t) (row t r) e := by
  have h0 : ¬t.val % 4 = 0 := by omega
  have hp : t.val - 1 < cfg0.N := Nat.lt_of_le_of_lt (Nat.sub_le _ _) t.isLt
  have i := held_step m c t h0 hp _ _ (held m c (t.val - 1) hp)
  rw [outsAt0_C m c t h0 h1]
  dsimp only
  rw [out0_C_8_eq]
  refine (out_apply _ _ _ _ r e).trans ?_
  have fa : ∀ k : Fin 1024, k0_pay3 (F := Ideal) (outsAt0 m c (t.val - 1) hp).2.1 (iblk m c 4 t) (outsAt0 m c (t.val - 1) hp).2.2 (iblk m c 5 t) (ix2 r k)
      = mid (argsK m c) (bat t) (row t r) k := fun k => by
    refine (i.fa r k).trans ?_
    rw [h1]
    exact sum_part _ _ _ k
  simp only [fa, w0, w6, w7]
  rfl

/-- The output as an array. -/
def arrOut (A : Args) : FVec Ideal ⟨3, ![4, 4096, 1024]⟩ .f32 := fun i => out A (i 0) (i 1) (i 2)

theorem arr_eq : (dats m 0 c).arrAt 8 cfg0.N = arrOut (argsK m c) := by
  refine (dats m 0 c).arrAt_eq_of_covers 8 _ (by decide +kernel) fun t hf y => ?_
  have h1 : t.val % 4 = 3 := (by decide +kernel : ∀ t : Fin cfg0.N, (cfg0.win 8).flush t = true → t.val % 4 = 3) t hf
  refine (congrFun (Value.flushed8 m c t) y).trans ?_
  have y0 : (y 0).val < 1 := (y 0).isLt
  have e : y = ix3 0 (y 1) (y 2) := by
    funext a
    fin_cases a
    · exact Fin.ext (by show (y 0).val = 0; omega)
    · rfl
    · rfl
  refine ((congrArg (outsAt0 m c t.val t.isLt).1 e).trans (out_point m c t h1 (y 1) (y 2))).trans ?_
  have k : ∀ (i : S4x4096x1024.Idx), (i 0).val = (bat t).val → (i 1).val = (row t (y 1)).val → (i 2).val = (y 2).val →
      out (argsK m c) (bat t) (row t (y 1)) (y 2) = arrOut (argsK m c) i := by
    intro i a0 a1 a2
    have b0 : i 0 = bat t := Fin.ext a0
    have b1 : i 1 = row t (y 1) := Fin.ext a1
    have b2 : i 2 = y 2 := Fin.ext a2
    unfold arrOut
    rw [b0, b1, b2]
  refine k _ ?_ ?_ ?_
  · blk_simp [idx8 t, bat]
  · blk_simp [idx8 t, row]
    dsimp only
    omega
  · blk_simp [idx8 t]

end Cert.Kernel2Ideal.Mlp
-- ==== Proof.MlpRef.lean ====
module

public import proofs.«01_k».proof.Proof.Gen.Reference2Ideal.Run
public import proofs.«01_k».proof.Proof.MlpSpec
public import Idealize.ShloMosaic.Lib.Pointwise
public import Idealize.ShloMosaic.Lib.Claim
public import Idealize.ShloMosaic.Lib.Tactic.CleanTypes
public import Idealize.ShloMosaic.Lib.Pipeline.ValueKit

@[expose] public section

set_option maxRecDepth 16384
set_option pp.maxSteps 400
noncomputable section
namespace Cert.Reference2Ideal.Mlp
open Cert.Mlp Cert.Reference2Ideal Cert.Reference2Ideal.Gen Cert.Reference2Ideal.Value Idealize.ShloMosaic Idealize.ShloMosaic.TcCoe Idealize.ShloMosaic.Tactic
open Idealize.ShloMosaic.StableHlo
open scoped BigOperators

variable (m : (ℓ : Loc nD τ sig) → Buf (Elt Ideal) ℓ) (c : Dev nD)

/-- The arguments. -/
def argsR : Args := argsOf (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6))
  (m ((c.tc : Thread nD τ).loc main_arg7))

theorem rout (b : Fin 4) (s : Fin 4096) (e : Fin 1024) : res_main_v38 m c (ix3 b s e) = out (argsR m c) b s e := by
  unfold res_main_v38 out mid term unit hid rs argsR argsOf
  clean_types
  pointwise
  rfl

end Cert.Reference2Ideal.Mlp
-- ==== Proof.MlpClaim.lean ====
module

public import proofs.«01_k».proof.Proof.MlpFinal
public import proofs.«01_k».proof.Proof.MlpRef
public import proofs.«01_k».proof.Defs
public import proofs.«01_k».proof.Proof.Gen.Kernel2.Frame

@[expose] public section

set_option maxRecDepth 16384
set_option pp.maxSteps 400
noncomputable section
namespace Cert.Proof.Mlp
open Idealize.ShloMosaic Idealize.SL.Sem
open Idealize.ShloMosaic.StableHlo

/-- The reference ends with its arguments as they were. -/
theorem frame_ref : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem argsOf_congr {x x' : FVec Ideal ⟨3, ![4, 4096, 1024]⟩ .f32} {g1 g1' g2 g2' : FVec Ideal ⟨1, ![1024]⟩ .f32} {sc sc' sh sh' gt gt' : FVec Ideal ⟨3, ![4, 1, 1024]⟩ .f32}
    {wu wu' : FVec Ideal ⟨2, ![1024, 4096]⟩ .f32} {wd wd' : FVec Ideal ⟨2, ![4096, 1024]⟩ .f32} (h0 : x = x') (h1 : g1 = g1') (h2 : g2 = g2')
    (h3 : sc = sc') (h4 : sh = sh') (h5 : gt = gt') (h6 : wu = wu') (h7 : wd = wd') : Cert.Mlp.argsOf x g1 g2 sc sh gt wu wd = Cert.Mlp.argsOf x' g1' g2' sc' sh' gt' wu' wd' := by
  subst h0 h1 h2 h3 h4 h5 h6 h7
  rfl

/-- On equal arguments the kernel's result is the reference's, element by element. -/
theorem algebraic : Cert.algebraic_Kernel2Ideal_Reference2Ideal := by
  intro m ρ m' ρ' _ hag
  refine ⟨fun c => (Cert.Kernel2Ideal.Gen.dats m 0 c).arrAt 8 Cert.Kernel2Ideal.cfg0.N, Cert.Kernel2Ideal.Value.run_blocks m ρ,
    (θ_run Cert.Reference2Ideal.defs _ _).mono (fun r h c => ⟨(h c).1.trans ?_, (h c).2⟩) (Cert.Reference2Ideal.Value.run (F := Ideal) m' ρ')⟩
  refine Eq.trans ?_ (Cert.Kernel2Ideal.Mlp.arr_eq m c).symm
  have ha : Cert.Reference2Ideal.Mlp.argsR m' c = Cert.Kernel2Ideal.Mlp.argsK m c := by
    obtain ⟨h0, h1, h2, h3, h4, h5, h6, h7⟩ := hag c
    exact argsOf_congr h0 h1 h2 h3 h4 h5 h6 h7
  funext i
  obtain ⟨b, s, j, rfl⟩ : ∃ b s j, i = ValueIdx.ix3 b s j := ⟨_, _, _, ValueIdx.eq_ix3 i⟩
  refine (Cert.Reference2Ideal.Mlp.rout m' c b s j).trans ?_
  rw [ha]
  rfl

/-- No operation is rewritten. -/
theorem preserves : Cert.preserves_Kernel2_Kernel2Ideal := trivial

end Cert.Proof.Mlp
-- ==== Proof.MixBody.lean ====
module

public import proofs.«01_k».proof.Proof.Gen.Kernel3Ideal.Value
public import Idealize.ShloMosaic.Lib.Pipeline.ValueKit
public import Idealize.ShloMosaic.Lib.Pipeline.ReadBack

@[expose] public section

set_option maxRecDepth 16384
set_option pp.maxSteps 400
noncomputable section
namespace Cert.Kernel3Ideal.Mix
open Cert.Kernel3Ideal Cert.Kernel3Ideal.Gen Idealize.ShloMosaic Idealize.ShloMosaic.TcCoe Idealize.ShloMosaic.Tactic

/-- The block a point writes. -/
theorem out0_A_10_eq (c : Dev nD) (i : grid0.Coords) (arg2 : Memref sig .tc .vmem S1x512x1024 .bf16) (harg2 : arg2.IsWhole) (arg3 : Memref sig .tc .vmem S1x512x2048 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S2048x1024 .bf16) (harg10 : arg10.IsWhole) (arg11 : Memref sig .tc .vmem S1024x1024 .bf16) (harg11 : arg11.IsWhole) (arg12 : Memref sig .tc .vmem S1x512x1024 .f32) (harg12 : arg12.IsWhole)
    (x0 : Vec Ideal S1x512x1024 .bf16) (x1 : Vec Ideal S1x512x2048 .bf16) (x2 : Vec Ideal S1x512x1024 .bf16) (x3 : Vec Ideal S1x512x1024 .bf16) (x4 : Vec Ideal S1x512x1024 .f32) (x5 : Vec Ideal S1x1x1024 .f32) (x6 : Vec Ideal S1x1024 .f32) (x7 : Vec Ideal S1024x1024 .bf16) (x8 : Vec Ideal S2048x1024 .bf16) (x9 : Vec Ideal S1024x1024 .bf16) :
    out0_A_10 (F := Ideal) c i arg2 harg2 arg3 harg3 arg4 harg4 arg5 harg5 arg6 harg6 arg7 harg7 arg8 harg8 arg9 harg9 arg10 harg10 arg11 harg11 arg12 harg12 x0 x1 x2 x3 x4 x5 x6 x7 x8 x9 = k0_pay1 (F := Ideal) (k0_pay2 (F := Ideal) x0 x7 x1 x8 x2 x3 x9) (k0_pay3 (F := Ideal) x0 x7 x1 x8 x2 x3 x9) x6 x4 x5 := by
  frame_open
  rw [View.read_writes_junk_eq_canon]
  dsimp only [View.readAt_eq_ld]
  repeat rw [Memref.IsWhole.read_unread]
  repeat (rw [View.ld_unit_lit']; swap; · decide)
  repeat (rw [View.readCov_unit_lit']; swap; · decide)
  try rw [View.canon_cons_unit_lit' _ _ _ (by decide)]
  try rfl

end Cert.Kernel3Ideal.Mix
-- ==== Proof.MixSpec.lean ====
module

public import proofs.«01_k».proof.Proof.MlpSpec

@[expose] public section

noncomputable section

namespace Cert.Mix

open Idealize.ShloMosaic
open scoped BigOperators

/-- The arguments, read at an index. -/
structure Args where
  att : Fin 4 → Fin 4096 → Fin 1024 → EReal
  y : Fin 4 → Fin 4096 → Fin 2048 → EReal
  p : Fin 4 → Fin 4096 → Fin 9064 → EReal
  x : Fin 4 → Fin 4096 → Fin 1024 → EReal
  gt : Fin 4 → Fin 1024 → EReal
  g : Fin 1024 → EReal
  wa : Fin 1024 → Fin 1024 → EReal
  ws : Fin 2048 → Fin 1024 → EReal
  wo : Fin 1024 → Fin 1024 → EReal

/-- The arguments of the arrays. -/
def argsOf (att : FVec Ideal ⟨3, ![4, 4096, 1024]⟩ .f32) (y : FVec Ideal ⟨3, ![4, 4096, 2048]⟩ .f32) (p : FVec Ideal ⟨3, ![4, 4096, 9064]⟩ .f32)
    (x : FVec Ideal ⟨3, ![4, 4096, 1024]⟩ .f32) (gt : FVec Ideal ⟨3, ![4, 1, 1024]⟩ .f32) (g : FVec Ideal ⟨1, ![1024]⟩ .f32)
    (wa : FVec Ideal ⟨2, ![1024, 1024]⟩ .f32) (ws : FVec Ideal ⟨2, ![2048, 1024]⟩ .f32) (wo : FVec Ideal ⟨2, ![1024, 1024]⟩ .f32) : Args where
  att b s d := att (ValueIdx.ix3 b s d)
  y b s d := y (ValueIdx.ix3 b s d)
  p b s d := p (ValueIdx.ix3 b s d)
  x b s d := x (ValueIdx.ix3 b s d)
  gt b d := gt (ValueIdx.ix3 b 0 d)
  g d := g (ValueIdx.ix1 d)
  wa d e := wa (ValueIdx.ix2 d e)
  ws d e := ws (ValueIdx.ix2 d e)
  wo d e := wo (ValueIdx.ix2 d e)

/-- The sigmoid. -/
def sig (u : EReal) : EReal := Ideal.div 1 (1 + Ideal.exp (-u))
/-- The two branches' merge, from the gates and the branches' rows. -/
def mrg (ga gs : EReal) (att : Fin 1024 → EReal) (y : Fin 2048 → EReal) (wa : Fin 1024 → EReal) (ws : Fin 2048 → EReal) : EReal :=
  sig ga * (∑ k, att k * wa k) + sig gs * (∑ k, y k * ws k)

variable (A : Args) (b : Fin 4) (s : Fin 4096)

/-- A merged column. -/
def mgd (d : Fin 1024) : EReal :=
  mrg (A.p b s ⟨7016 + d.val, by omega⟩) (A.p b s ⟨8040 + d.val, by omega⟩) (A.att b s) (A.y b s) (fun k => A.wa k d) (fun k => A.ws k d)
/-- A projected column. -/
def prj (e : Fin 1024) : EReal := ∑ d, mgd A b s d * A.wo d e
/-- The output. -/
def out (e : Fin 1024) : EReal := A.x b s e + A.gt b e * (prj A b s e * Cert.Mlp.rs (prj A b s) * A.g e)

end Cert.Mix
-- ==== Proof.MixFinal.lean ====
module

public import proofs.«01_k».proof.Proof.MixBody
public import proofs.«01_k».proof.Proof.MixSpec
public import Idealize.ShloMosaic.Lib.Pointwise
public import Idealize.ShloMosaic.Lib.Pipeline.ValueKit

@[expose] public section

set_option maxRecDepth 16384
set_option pp.maxSteps 400
noncomputable section
namespace Cert.Kernel3Ideal.Mix
open Cert.Mix Cert.Kernel3Ideal Cert.Kernel3Ideal.Gen Idealize.ShloMosaic Idealize.ShloMosaic.TcCoe Idealize.ShloMosaic.Tactic
open scoped BigOperators
variable (m : (ℓ : Loc nD τ sig) → Buf (Elt Ideal) ℓ) (c : Dev nD)

/-- The projected rows of a block. -/
def prjB (att : FVec Ideal S1x512x1024 .bf16) (wa : FVec Ideal S1024x1024 .bf16) (y : FVec Ideal S1x512x2048 .bf16) (ws : FVec Ideal S2048x1024 .bf16)
    (ga gs : FVec Ideal S1x512x1024 .bf16) (wo : FVec Ideal S1024x1024 .bf16) (r : Fin 512) (e : Fin 1024) : EReal :=
  ∑ d : Fin 1024, mrg (ga (ix3 0 r d)) (gs (ix3 0 r d)) (fun k => att (ix3 0 r k)) (fun k => y (ix3 0 r k)) (fun k => wa (ix2 k d)) (fun k => ws (ix2 k d)) * wo (ix2 d e)

theorem prj_apply (att : FVec Ideal S1x512x1024 .bf16) (wa : FVec Ideal S1024x1024 .bf16) (y : FVec Ideal S1x512x2048 .bf16) (ws : FVec Ideal S2048x1024 .bf16)
    (ga gs : FVec Ideal S1x512x1024 .bf16) (wo : FVec Ideal S1024x1024 .bf16) (r : Fin 512) (e : Fin 1024) :
    k0_pay2 (F := Ideal) att wa y ws ga gs wo (ix2 r e) = prjB att wa y ws ga gs wo r e := by
  unfold prjB mrg Cert.Mix.sig
  pointwise [k0_pay2, Ideal.logistic]

theorem rs_apply (att : FVec Ideal S1x512x1024 .bf16) (wa : FVec Ideal S1024x1024 .bf16) (y : FVec Ideal S1x512x2048 .bf16) (ws : FVec Ideal S2048x1024 .bf16)
    (ga gs : FVec Ideal S1x512x1024 .bf16) (wo : FVec Ideal S1024x1024 .bf16) (r : Fin 512) (e : Fin 1024) :
    k0_pay3 (F := Ideal) att wa y ws ga gs wo (ix2 r e) = Cert.Mlp.rs (prjB att wa y ws ga gs wo r) := by
  unfold Cert.Mlp.rs
  simp only [← prj_apply]
  unfold k0_pay3
  generalize k0_pay2 (F := Ideal) att wa y ws ga gs wo = q
  pointwise

theorem out_apply (q n : FVec Ideal S512x1024 .f32) (g : FVec Ideal S1x1024 .f32) (x : FVec Ideal S1x512x1024 .f32) (gt : FVec Ideal S1x1x1024 .f32) (r : Fin 512) (e : Fin 1024) :
    k0_pay1 (F := Ideal) q n g x gt (ix3 0 r e) = x (ix3 0 r e) + gt (ix3 0 0 e) * (q (ix2 r e) * n (ix2 r e) * g (ix2 0 e)) := by
  pointwise [k0_pay1]

/-- The arguments at entry. -/
def argsK : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8))

theorem V9_a (b : Fin 4) (s : Fin 4096) (d : Fin 1024) : V m c main_v9 (ix3 b s ⟨5120 + d.val, by omega⟩) = m ((c : Thread nD τ).loc main_arg2) (ix3 b s ⟨7016 + d.val, by omega⟩) := by
  unfold V hostOps0
  simp only [List.flatten_cons, List.flatten_nil, List.append_nil, List.cons_append, List.nil_append, StableHlo.after_cons, StableHlo.after_nil]
  after_results_simp
  pointwise
  try (after_results_simp; pointwise)
  repeat rw [dif_neg (by omega)]
  rw [dif_pos (by omega)]
  exact congrArg _ (congrArg (ix3 b s) (Fin.ext (by dsimp only; omega)))
theorem V9_s (b : Fin 4) (s : Fin 4096) (d : Fin 1024) : V m c main_v9 (ix3 b s ⟨6144 + d.val, by omega⟩) = m ((c : Thread nD τ).loc main_arg2) (ix3 b s ⟨8040 + d.val, by omega⟩) := by
  unfold V hostOps0
  simp only [List.flatten_cons, List.flatten_nil, List.append_nil, List.cons_append, List.nil_append, StableHlo.after_cons, StableHlo.after_nil]
  after_results_simp
  pointwise
  try (after_results_simp; pointwise)
  repeat rw [dif_neg (by omega)]
  rw [dif_pos (by omega)]
  exact congrArg _ (congrArg (ix3 b s) (Fin.ext (by dsimp only; omega)))
theorem V17 (b : Fin 4) (s : Fin 4096) (d : Fin 1024) : V m c main_v17 (ix3 b s d) = m ((c : Thread nD τ).loc main_arg0) (ix3 b s d) := by
  unfold V hostOps0
  simp only [List.flatten_cons, List.flatten_nil, List.append_nil, List.cons_append, List.nil_append, StableHlo.after_cons, StableHlo.after_nil]
  after_results_simp
  pointwise
theorem V18 (b : Fin 4) (s : Fin 4096) (d : Fin 2048) : V m c main_v18 (ix3 b s d) = m ((c : Thread nD τ).loc main_arg1) (ix3 b s d) := by
  unfold V hostOps0
  simp only [List.flatten_cons, List.flatten_nil, List.append_nil, List.cons_append, List.nil_append, StableHlo.after_cons, StableHlo.after_nil]
  after_results_simp
  pointwise
theorem V19 (d : Fin 1024) : V m c main_v19 (ix2 0 d) = m ((c : Thread nD τ).loc main_arg5) (ix1 d) := by
  unfold V hostOps0
  simp only [List.flatten_cons, List.flatten_nil, List.append_nil, List.cons_append, List.nil_append, StableHlo.after_cons, StableHlo.after_nil]
  after_results_simp
  pointwise
theorem V20 (d e : Fin 1024) : V m c main_v20 (ix2 d e) = m ((c : Thread nD τ).loc main_arg6) (ix2 d e) := by
  unfold V hostOps0
  simp only [List.flatten_cons, List.flatten_nil, List.append_nil, List.cons_append, List.nil_append, StableHlo.after_cons, StableHlo.after_nil]
  after_results_simp
  pointwise
theorem V21 (d : Fin 2048) (e : Fin 1024) : V m c main_v21 (ix2 d e) = m ((c : Thread nD τ).loc main_arg7) (ix2 d e) := by
  unfold V hostOps0
  simp only [List.flatten_cons, List.flatten_nil, List.append_nil, List.cons_append, List.nil_append, StableHlo.after_cons, StableHlo.after_nil]
  after_results_simp
  pointwise
theorem V22 (d e : Fin 1024) : V m c main_v22 (ix2 d e) = m ((c : Thread nD τ).loc main_arg8) (ix2 d e) := by
  unfold V hostOps0
  simp only [List.flatten_cons, List.flatten_nil, List.append_nil, List.cons_append, List.nil_append, StableHlo.after_cons, StableHlo.after_nil]
  after_results_simp
  pointwise

theorem lt32 (t : Fin cfg0.N) : t.val < 32 := lt_of_lt_of_eq t.isLt N_0
/-- A point's batch. -/
def bat (t : Fin cfg0.N) : Fin 4 := ⟨t.val / 8, by have := lt32 t; omega⟩
/-- A row of a point's block. -/
def row (t : Fin cfg0.N) (r : Fin 512) : Fin 4096 := ⟨512 * (t.val % 8) + r.val, by have := r.isLt; omega⟩

theorem idx0 (t : Fin cfg0.N) : win0_0.index t = ![t.val / 8, t.val % 8, 0] := (by decide +kernel : ∀ t : Fin grid0.N, win0_0.index t = ![t.val / 8, t.val % 8, 0]) t
theorem idx1 (t : Fin cfg0.N) : win0_1.index t = ![t.val / 8, t.val % 8, 0] := (by decide +kernel : ∀ t : Fin grid0.N, win0_1.index t = ![t.val / 8, t.val % 8, 0]) t
theorem idx2 (t : Fin cfg0.N) : win0_2.index t = ![t.val / 8, t.val % 8, 5] := (by decide +kernel : ∀ t : Fin grid0.N, win0_2.index t = ![t.val / 8, t.val % 8, 5]) t
theorem idx3 (t : Fin cfg0.N) : win0_3.index t = ![t.val / 8, t.val % 8, 6] := (by decide +kernel : ∀ t : Fin grid0.N, win0_3.index t = ![t.val / 8, t.val % 8, 6]) t
theorem idx4 (t : Fin cfg0.N) : win0_4.index t = ![t.val / 8, t.val % 8, 0] := (by decide +kernel : ∀ t : Fin grid0.N, win0_4.index t = ![t.val / 8, t.val % 8, 0]) t
theorem idx5 (t : Fin cfg0.N) : win0_5.index t = ![t.val / 8, 0, 0] := (by decide +kernel : ∀ t : Fin grid0.N, win0_5.index t = ![t.val / 8, 0, 0]) t
theorem idx6 (t : Fin cfg0.N) : win0_6.index t = ![0, 0] := (by decide +kernel : ∀ t : Fin grid0.N, win0_6.index t = ![0, 0]) t
theorem idx7 (t : Fin cfg0.N) : win0_7.index t = ![0, 0] := (by decide +kernel : ∀ t : Fin grid0.N, win0_7.index t = ![0, 0]) t
theorem idx8 (t : Fin cfg0.N) : win0_8.index t = ![0, 0] := (by decide +kernel : ∀ t : Fin grid0.N, win0_8.index t = ![0, 0]) t
theorem idx9 (t : Fin cfg0.N) : win0_9.index t = ![0, 0] := (by decide +kernel : ∀ t : Fin grid0.N, win0_9.index t = ![0, 0]) t
theorem idx10 (t : Fin cfg0.N) : win0_10.index t = ![t.val / 8, t.val % 8, 0] := (by decide +kernel : ∀ t : Fin grid0.N, win0_10.index t = ![t.val / 8, t.val % 8, 0]) t

theorem w0 (t : Fin cfg0.N) (r : Fin 512) (d : Fin 1024) : iblk m c 0 t (ix3 0 r d) = (argsK m c).att (bat t) (row t r) d := by
  refine Eq.trans ?_ (V17 m c (bat t) (row t r) d)
  blk_ext [iblk, bat, row, idx0 t]
theorem w1 (t : Fin cfg0.N) (r : Fin 512) (d : Fin 2048) : iblk m c 1 t (ix3 0 r d) = (argsK m c).y (bat t) (row t r) d := by
  refine Eq.trans ?_ (V18 m c (bat t) (row t r) d)
  blk_ext [iblk, bat, row, idx1 t]
theorem w2 (t : Fin cfg0.N) (r : Fin 512) (d : Fin 1024) : X0_2 m c t (ix3 0 r d) = (argsK m c).p (bat t) (row t r) ⟨7016 + d.val, by omega⟩ := by
  refine Eq.trans ?_ (V9_a m c (bat t) (row t r) d)
  unfold X0_2 Pipeline.Window.fill
  rw [dif_pos (moved0_2 t _)]
  blk_ext [iblk, bat, row, idx2 t]
theorem w3 (t : Fin cfg0.N) (r : Fin 512) (d : Fin 1024) : X0_3 m c t (ix3 0 r d) = (argsK m c).p (bat t) (row t r) ⟨8040 + d.val, by omega⟩ := by
  refine Eq.trans ?_ (V9_s m c (bat t) (row t r) d)
  unfold X0_3 Pipeline.Window.fill
  rw [dif_pos (moved0_3 t _)]
  blk_ext [iblk, bat, row, idx3 t]
theorem w4 (t : Fin cfg0.N) (r : Fin 512) (d : Fin 1024) : iblk m c 4 t (ix3 0 r d) = (argsK m c).x (bat t) (row t r) d := by
  refine Eq.trans ?_ (congrFun (V_main_arg3 m c) (ix3 (bat t) (row t r) d))
  blk_ext [iblk, bat, row, idx4 t]
theorem w5 (t : Fin cfg0.N) (d : Fin 1024) : iblk m c 5 t (ix3 0 0 d) = (argsK m c).gt (bat t) d := by
  refine Eq.trans ?_ (congrFun (V_main_arg4 m c) (ix3 (bat t) 0 d))
  blk_ext [iblk, bat, idx5 t]
theorem w6 (t : Fin cfg0.N) (d : Fin 1024) : iblk m c 6 t (ix2 0 d) = (argsK m c).g d := by
  refine Eq.trans ?_ (V19 m c d)
  blk_ext [iblk, idx6 t]
theorem w7 (t : Fin cfg0.N) (d e : Fin 1024) : iblk m c 7 t (ix2 d e) = (argsK m c).wa d e := by
  refine Eq.trans ?_ (V20 m c d e)
  blk_ext [iblk, idx7 t]
theorem w8 (t : Fin cfg0.N) (d : Fin 2048) (e : Fin 1024) : iblk m c 8 t (ix2 d e) = (argsK m c).ws d e := by
  refine Eq.trans ?_ (V21 m c d e)
  blk_ext [iblk, idx8 t]
theorem w9 (t : Fin cfg0.N) (d e : Fin 1024) : iblk m c 9 t (ix2 d e) = (argsK m c).wo d e := by
  refine Eq.trans ?_ (V22 m c d e)
  blk_ext [iblk, idx9 t]

theorem prj_point (t : Fin cfg0.N) (r : Fin 512) :
    prjB (iblk m c 0 t) (iblk m c 7 t) (iblk m c 1 t) (iblk m c 8 t) (X0_2 m c t) (X0_3 m c t) (iblk m c 9 t) r = prj (argsK m c) (bat t) (row t r) := by
  funext e
  unfold prjB prj mgd
  simp only [w0, w1, w2, w3, w7, w8, w9]

theorem out_point (t : Fin cfg0.N) (r : Fin 512) (e : Fin 1024) :
    outsAt0 m c t (ix3 0 r e) = out (argsK m c) (bat t) (row t r) e := by
  unfold outsAt0
  rw [out0_A_10_eq]
  refine (out_apply _ _ _ _ _ r e).trans ?_
  rw [prj_apply, rs_apply, prj_point, w4, w5, w6]
  rfl

/-- The output as an array. -/
def arrOut (A : Args) : FVec Ideal ⟨3, ![4, 4096, 1024]⟩ .f32 := fun i => out A (i 0) (i 1) (i 2)

theorem arr_eq : (dats m 0 c).arrAt 10 cfg0.N = arrOut (argsK m c) := by
  refine (dats m 0 c).arrAt_eq_of_covers 10 _ (by decide +kernel) fun t hf y => ?_
  refine (congrFun (Value.flushed10 m c t) y).trans ?_
  have y0 : (y 0).val < 1 := (y 0).isLt
  have e : y = ix3 0 (y 1) (y 2) := by
    funext a
    fin_cases a
    · exact Fin.ext (by show (y 0).val = 0; omega)
    · rfl
    · rfl
  refine ((congrArg (outsAt0 m c t) e).trans (out_point m c t (y 1) (y 2))).trans ?_
  have k : ∀ (i : S4x4096x1024.Idx), (i 0).val = (bat t).val → (i 1).val = (row t (y 1)).val → (i 2).val = (y 2).val →
      out (argsK m c) (bat t) (row t (y 1)) (y 2) = arrOut (argsK m c) i := by
    intro i a0 a1 a2
    have b0 : i 0 = bat t := Fin.ext a0
    have b1 : i 1 = row t (y 1) := Fin.ext a1
    have b2 : i 2 = y 2 := Fin.ext a2
    unfold arrOut
    rw [b0, b1, b2]
  refine k _ ?_ ?_ ?_
  · blk_simp [idx10 t, bat]
  · blk_simp [idx10 t, row]
    dsimp only
    omega
  · blk_simp [idx10 t]

end Cert.Kernel3Ideal.Mix
-- ==== Proof.MixRef.lean ====
module

public import proofs.«01_k».proof.Proof.Gen.Reference3Ideal.Run
public import proofs.«01_k».proof.Proof.MixSpec
public import Idealize.ShloMosaic.Lib.Pointwise
public import Idealize.ShloMosaic.Lib.Claim
public import Idealize.ShloMosaic.Lib.Tactic.CleanTypes
public import Idealize.ShloMosaic.Lib.Pipeline.ValueKit

@[expose] public section

set_option maxRecDepth 16384
set_option pp.maxSteps 400
noncomputable section
namespace Cert.Reference3Ideal.Mix
open Cert.Mix Cert.Reference3Ideal Cert.Reference3Ideal.Gen Cert.Reference3Ideal.Value Idealize.ShloMosaic Idealize.ShloMosaic.TcCoe Idealize.ShloMosaic.Tactic
open Idealize.ShloMosaic.StableHlo
open scoped BigOperators

variable (m : (ℓ : Loc nD τ sig) → Buf (Elt Ideal) ℓ) (c : Dev nD)

/-- The arguments. -/
def argsR : Args := argsOf (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6))
  (m ((c.tc : Thread nD τ).loc main_arg7)) (m ((c.tc : Thread nD τ).loc main_arg8))

theorem rout (b : Fin 4) (s : Fin 4096) (e : Fin 1024) : res_main_v43 m c (ix3 b s e) = out (argsR m c) b s e := by
  unfold res_main_v43 out prj mgd mrg sig Cert.Mlp.rs argsR argsOf
  clean_types
  pointwise
  rfl

end Cert.Reference3Ideal.Mix
-- ==== Proof.MixClaim.lean ====
module

public import proofs.«01_k».proof.Proof.MixFinal
public import proofs.«01_k».proof.Proof.MixRef
public import proofs.«01_k».proof.Defs
public import proofs.«01_k».proof.Proof.Gen.Kernel3.Frame

@[expose] public section

set_option maxRecDepth 16384
set_option pp.maxSteps 400
noncomputable section
namespace Cert.Proof.Mix
open Idealize.ShloMosaic Idealize.SL.Sem
open Idealize.ShloMosaic.StableHlo

/-- The reference ends with its arguments as they were. -/
theorem frame_ref : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem argsOf_congr {att att' : FVec Ideal ⟨3, ![4, 4096, 1024]⟩ .f32} {y y' : FVec Ideal ⟨3, ![4, 4096, 2048]⟩ .f32} {p p' : FVec Ideal ⟨3, ![4, 4096, 9064]⟩ .f32}
    {x x' : FVec Ideal ⟨3, ![4, 4096, 1024]⟩ .f32} {gt gt' : FVec Ideal ⟨3, ![4, 1, 1024]⟩ .f32} {g g' : FVec Ideal ⟨1, ![1024]⟩ .f32}
    {wa wa' : FVec Ideal ⟨2, ![1024, 1024]⟩ .f32} {ws ws' : FVec Ideal ⟨2, ![2048, 1024]⟩ .f32} {wo wo' : FVec Ideal ⟨2, ![1024, 1024]⟩ .f32}
    (h0 : att = att') (h1 : y = y') (h2 : p = p') (h3 : x = x') (h4 : gt = gt') (h5 : g = g') (h6 : wa = wa') (h7 : ws = ws') (h8 : wo = wo') :
    Cert.Mix.argsOf att y p x gt g wa ws wo = Cert.Mix.argsOf att' y' p' x' gt' g' wa' ws' wo' := by
  subst h0 h1 h2 h3 h4 h5 h6 h7 h8
  rfl

/-- On equal arguments the kernel's result is the reference's, element by element. -/
theorem algebraic : Cert.algebraic_Kernel3Ideal_Reference3Ideal := by
  intro m ρ m' ρ' _ hag
  refine ⟨fun c => (Cert.Kernel3Ideal.Gen.dats m 0 c).arrAt 10 Cert.Kernel3Ideal.cfg0.N, Cert.Kernel3Ideal.Value.run_blocks m ρ,
    (θ_run Cert.Reference3Ideal.defs _ _).mono (fun r h c => ⟨(h c).1.trans ?_, (h c).2⟩) (Cert.Reference3Ideal.Value.run (F := Ideal) m' ρ')⟩
  refine Eq.trans ?_ (Cert.Kernel3Ideal.Mix.arr_eq m c).symm
  have ha : Cert.Reference3Ideal.Mix.argsR m' c = Cert.Kernel3Ideal.Mix.argsK m c := by
    obtain ⟨h0, h1, h2, h3, h4, h5, h6, h7, h8⟩ := hag c
    exact argsOf_congr h0 h1 h2 h3 h4 h5 h6 h7 h8
  funext i
  obtain ⟨b, s, j, rfl⟩ : ∃ b s j, i = ValueIdx.ix3 b s j := ⟨_, _, _, ValueIdx.eq_ix3 i⟩
  refine (Cert.Reference3Ideal.Mix.rout m' c b s j).trans ?_
  rw [ha]
  rfl

/-- No operation is rewritten. -/
theorem preserves : Cert.preserves_Kernel3_Kernel3Ideal := trivial

end Cert.Proof.Mix
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2Ideal.Value
public import proofs.«01_k».proof.Proof.Gen.Reference2Ideal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3Ideal.Value
public import proofs.«01_k».proof.Proof.Gen.Reference3Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Final
public import proofs.«01_k».proof.Proof.MlpClaim
public import proofs.«01_k».proof.Proof.MixClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    fun m ρ _ => Cert.Kernel.Gen.frame m ρ, fun m ρ _ => Cert.KernelIdeal.Gen.frame m ρ, frame_ref,
    fun m ρ _ => Cert.Kernel2.Gen.frame m ρ, fun m ρ _ => Cert.Kernel2Ideal.Gen.frame m ρ, Mlp.frame_ref,
    fun m ρ _ => Cert.Kernel3.Gen.frame m ρ, fun m ρ _ => Cert.Kernel3Ideal.Gen.frame m ρ, Mix.frame_ref,
    preserves, algebraic, Mlp.preserves, Mlp.algebraic, Mix.preserves, Mix.algebraic⟩

end Cert.Proof

end
